-- ==== Defs.lean ====
def Pre_Dil16 (m : (ℓ : Loc Cert.Dil16.nD Cert.Dil16.τ Cert.Dil16.sig) → Buf (Elt Bits) ℓ) : Prop :=
  True

def Pre_Dil16Ideal (m : (ℓ : Loc Cert.Dil16Ideal.nD Cert.Dil16Ideal.τ Cert.Dil16Ideal.sig) → Buf (Elt Ideal) ℓ) : Prop :=
  True

def Pre_Dil16Ideal_finite_qk [hPre_finite_qk : Cert.Pre_finite_qk.Facts] (m : (ℓ : Loc Cert.Dil16Ideal.nD Cert.Dil16Ideal.τ Cert.Dil16Ideal.sig) → Buf (Elt Ideal) ℓ) : Prop :=
  ∀ c : Dev Cert.Dil16Ideal.nD,
    (Cert.Pre_finite_qk.fn (F := Ideal) (m ((c.tc : Thread Cert.Dil16Ideal.nD Cert.Dil16Ideal.τ).loc Cert.Dil16Ideal.main_arg0))) = (fun _ => 1#1)

def Pre_Dil16RefIdeal (m : (ℓ : Loc Cert.Dil16RefIdeal.nD Cert.Dil16RefIdeal.τ Cert.Dil16RefIdeal.sig) → Buf (Elt Ideal) ℓ) : Prop :=
  True

def Pre_Dil16RefIdeal_finite_qk [hPre_finite_qk : Cert.Pre_finite_qk.Facts] (m : (ℓ : Loc Cert.Dil16RefIdeal.nD Cert.Dil16RefIdeal.τ Cert.Dil16RefIdeal.sig) → Buf (Elt Ideal) ℓ) : Prop :=
  ∀ c : Dev Cert.Dil16RefIdeal.nD,
    (Cert.Pre_finite_qk.fn (F := Ideal) (m ((c.tc : Thread Cert.Dil16RefIdeal.nD Cert.Dil16RefIdeal.τ).loc Cert.Dil16RefIdeal.main_arg0))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_in [hPre_finite_in : Cert.Pre_finite_in.Facts] (m : (ℓ : Loc Cert.FfnIdeal.nD Cert.FfnIdeal.τ Cert.FfnIdeal.sig) → Buf (Elt Ideal) ℓ) : Prop :=
  ∀ c : Dev Cert.FfnIdeal.nD,
    (Cert.Pre_finite_in.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).1 = (fun _ => 1#1)
    ∧ (Cert.Pre_finite_in.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.1 = (fun _ => 1#1)
    ∧ (Cert.Pre_finite_in.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.1 = (fun _ => 1#1)
    ∧ (Cert.Pre_finite_in.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_in [hPre_finite_in : Cert.Pre_finite_in.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_in.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).1 = (fun _ => 1#1)
    ∧ (Cert.Pre_finite_in.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.1 = (fun _ => 1#1)
    ∧ (Cert.Pre_finite_in.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.1 = (fun _ => 1#1)
    ∧ (Cert.Pre_finite_in.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def quiescent_Dil16 [hDil16 : Cert.Dil16.Facts] : Prop :=
  ∀ (m : (ℓ : Loc Cert.Dil16.nD Cert.Dil16.τ Cert.Dil16.sig) → Buf (Elt Bits) ℓ) (g : Dev Cert.Dil16.nD → PrngReg), Pre_Dil16 m →
    θ_run (Cert.Dil16.defs (F := Bits)) (onTc (τ := Cert.Dil16.τ) (Cert.Dil16.main (F := Bits))) ⟨m, fun _ => 0, g⟩ (fun r => (∀ c : Dev Cert.Dil16.nD,
      r.2.mem ((c.tc : Thread Cert.Dil16.nD Cert.Dil16.τ).loc Cert.Dil16.main_arg0) = m ((c.tc : Thread Cert.Dil16.nD Cert.Dil16.τ).loc Cert.Dil16.main_arg0))
      ∧ r.2.sem = fun _ => 0)

def quiescent_Dil16Ideal [hDil16Ideal : Cert.Dil16Ideal.Facts] : Prop :=
  ∀ (m : (ℓ : Loc Cert.Dil16Ideal.nD Cert.Dil16Ideal.τ Cert.Dil16Ideal.sig) → Buf (Elt Ideal) ℓ) (g : Dev Cert.Dil16Ideal.nD → PrngReg), Pre_Dil16Ideal m →
    θ_run (Cert.Dil16Ideal.defs (F := Ideal)) (onTc (τ := Cert.Dil16Ideal.τ) (Cert.Dil16Ideal.main (F := Ideal))) ⟨m, fun _ => 0, g⟩ (fun r => (∀ c : Dev Cert.Dil16Ideal.nD,
      r.2.mem ((c.tc : Thread Cert.Dil16Ideal.nD Cert.Dil16Ideal.τ).loc Cert.Dil16Ideal.main_arg0) = m ((c.tc : Thread Cert.Dil16Ideal.nD Cert.Dil16Ideal.τ).loc Cert.Dil16Ideal.main_arg0))
      ∧ r.2.sem = fun _ => 0)

def quiescent_Dil16Ideal_pre_finite_qk [hDil16Ideal : Cert.Dil16Ideal.Facts] [hPre_finite_qk : Cert.Pre_finite_qk.Facts] : Prop :=
  ∀ (m : (ℓ : Loc Cert.Dil16Ideal.nD Cert.Dil16Ideal.τ Cert.Dil16Ideal.sig) → Buf (Elt Ideal) ℓ) (g : Dev Cert.Dil16Ideal.nD → PrngReg), Pre_Dil16Ideal_finite_qk m →
    θ_run (Cert.Dil16Ideal.defs (F := Ideal)) (onTc (τ := Cert.Dil16Ideal.τ) (Cert.Dil16Ideal.main (F := Ideal))) ⟨m, fun _ => 0, g⟩ (fun r => (∀ c : Dev Cert.Dil16Ideal.nD,
      r.2.mem ((c.tc : Thread Cert.Dil16Ideal.nD Cert.Dil16Ideal.τ).loc Cert.Dil16Ideal.main_arg0) = m ((c.tc : Thread Cert.Dil16Ideal.nD Cert.Dil16Ideal.τ).loc Cert.Dil16Ideal.main_arg0))
      ∧ r.2.sem = fun _ => 0)

def quiescent_Dil16RefIdeal [hDil16RefIdeal : Cert.Dil16RefIdeal.Facts] : Prop :=
  ∀ (m : (ℓ : Loc Cert.Dil16RefIdeal.nD Cert.Dil16RefIdeal.τ Cert.Dil16RefIdeal.sig) → Buf (Elt Ideal) ℓ) (g : Dev Cert.Dil16RefIdeal.nD → PrngReg), Pre_Dil16RefIdeal m →
    θ_run (Cert.Dil16RefIdeal.defs (F := Ideal)) (onTc (τ := Cert.Dil16RefIdeal.τ) (Cert.Dil16RefIdeal.main (F := Ideal))) ⟨m, fun _ => 0, g⟩ (fun r => (∀ c : Dev Cert.Dil16RefIdeal.nD,
      r.2.mem ((c.tc : Thread Cert.Dil16RefIdeal.nD Cert.Dil16RefIdeal.τ).loc Cert.Dil16RefIdeal.main_arg0) = m ((c.tc : Thread Cert.Dil16RefIdeal.nD Cert.Dil16RefIdeal.τ).loc Cert.Dil16RefIdeal.main_arg0))
      ∧ r.2.sem = fun _ => 0)

def quiescent_Dil16RefIdeal_pre_finite_qk [hDil16RefIdeal : Cert.Dil16RefIdeal.Facts] [hPre_finite_qk : Cert.Pre_finite_qk.Facts] : Prop :=
  ∀ (m : (ℓ : Loc Cert.Dil16RefIdeal.nD Cert.Dil16RefIdeal.τ Cert.Dil16RefIdeal.sig) → Buf (Elt Ideal) ℓ) (g : Dev Cert.Dil16RefIdeal.nD → PrngReg), Pre_Dil16RefIdeal_finite_qk m →
    θ_run (Cert.Dil16RefIdeal.defs (F := Ideal)) (onTc (τ := Cert.Dil16RefIdeal.τ) (Cert.Dil16RefIdeal.main (F := Ideal))) ⟨m, fun _ => 0, g⟩ (fun r => (∀ c : Dev Cert.Dil16RefIdeal.nD,
      r.2.mem ((c.tc : Thread Cert.Dil16RefIdeal.nD Cert.Dil16RefIdeal.τ).loc Cert.Dil16RefIdeal.main_arg0) = m ((c.tc : Thread Cert.Dil16RefIdeal.nD Cert.Dil16RefIdeal.τ).loc Cert.Dil16RefIdeal.main_arg0))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnIdeal_pre_finite_in [hFfnIdeal : Cert.FfnIdeal.Facts] [hPre_finite_in : Cert.Pre_finite_in.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_in m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_finite_in [hFfnRefIdeal : Cert.FfnRefIdeal.Facts] [hPre_finite_in : Cert.Pre_finite_in.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_in m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7))
      ∧ r.2.sem = fun _ => 0)

def preserves_Dil16_Dil16Ideal : Prop :=
  IdealRules.named_const.Statement Cert.Dil16Ideal.κ "mask" .f32 0xF149F2CA#32 ⊥

def algebraic_Dil16Ideal_Dil16RefIdeal_pre_finite_qk [hDil16Ideal : Cert.Dil16Ideal.Facts] [hDil16RefIdeal : Cert.Dil16RefIdeal.Facts] [hPre_finite_qk : Cert.Pre_finite_qk.Facts] : Prop :=
  ∀ (m : (ℓ : Loc Cert.Dil16Ideal.nD Cert.Dil16Ideal.τ Cert.Dil16Ideal.sig) → Buf (Elt Ideal) ℓ) (g : Dev Cert.Dil16Ideal.nD → PrngReg)
    (m' : (ℓ : Loc Cert.Dil16RefIdeal.nD Cert.Dil16RefIdeal.τ Cert.Dil16RefIdeal.sig) → Buf (Elt Ideal) ℓ) (g' : Dev Cert.Dil16RefIdeal.nD → PrngReg), Pre_Dil16Ideal_finite_qk m →
    (∀ c : Dev Cert.Dil16Ideal.nD,
      m' ((c.tc : Thread Cert.Dil16RefIdeal.nD Cert.Dil16RefIdeal.τ).loc Cert.Dil16RefIdeal.main_arg0) = m ((c.tc : Thread Cert.Dil16Ideal.nD Cert.Dil16Ideal.τ).loc Cert.Dil16Ideal.main_arg0)) →
    ∃ (v0 : (c : Dev Cert.Dil16Ideal.nD) → Buf (Elt Ideal) ((c.tc : Thread Cert.Dil16Ideal.nD Cert.Dil16Ideal.τ).loc Cert.Dil16Ideal.main_v0_0)) (v1 : (c : Dev Cert.Dil16Ideal.nD) → Buf (Elt Ideal) ((c.tc : Thread Cert.Dil16Ideal.nD Cert.Dil16Ideal.τ).loc Cert.Dil16Ideal.main_v0_1)),
      θ_run (Cert.Dil16Ideal.defs (F := Ideal)) (onTc (τ := Cert.Dil16Ideal.τ) (Cert.Dil16Ideal.main (F := Ideal))) ⟨m, fun _ => 0, g⟩ (fun r => ∀ c : Dev Cert.Dil16Ideal.nD,
          r.2.mem ((c.tc : Thread Cert.Dil16Ideal.nD Cert.Dil16Ideal.τ).loc Cert.Dil16Ideal.main_v0_0) = v0 c
          ∧ r.2.mem ((c.tc : Thread Cert.Dil16Ideal.nD Cert.Dil16Ideal.τ).loc Cert.Dil16Ideal.main_v0_1) = v1 c
          ∧ r.2.mem ((c.tc : Thread Cert.Dil16Ideal.nD Cert.Dil16Ideal.τ).loc Cert.Dil16Ideal.main_arg0) = m ((c.tc : Thread Cert.Dil16Ideal.nD Cert.Dil16Ideal.τ).loc Cert.Dil16Ideal.main_arg0))
      ∧ θ_run (Cert.Dil16RefIdeal.defs (F := Ideal)) (onTc (τ := Cert.Dil16RefIdeal.τ) (Cert.Dil16RefIdeal.main (F := Ideal))) ⟨m', fun _ => 0, g'⟩ (fun r => ∀ c : Dev Cert.Dil16RefIdeal.nD,
          r.2.mem ((c.tc : Thread Cert.Dil16RefIdeal.nD Cert.Dil16RefIdeal.τ).loc Cert.Dil16RefIdeal.main_v61) = v0 c
          ∧ r.2.mem ((c.tc : Thread Cert.Dil16RefIdeal.nD Cert.Dil16RefIdeal.τ).loc Cert.Dil16RefIdeal.main_v64) = v1 c
          ∧ r.2.mem ((c.tc : Thread Cert.Dil16RefIdeal.nD Cert.Dil16RefIdeal.τ).loc Cert.Dil16RefIdeal.main_arg0) = m' ((c.tc : Thread Cert.Dil16RefIdeal.nD Cert.Dil16RefIdeal.τ).loc Cert.Dil16RefIdeal.main_arg0))

def preserves_Ffn_FfnIdeal : Prop :=
  IdealRules.named_const.Statement Cert.FfnIdeal.κ "cubic" .f32 0x3D122279#32 ((80338380498831 / 2251799813685248 : ℝ) : EReal)

def algebraic_FfnIdeal_FfnRefIdeal_pre_finite_in [hFfnIdeal : Cert.FfnIdeal.Facts] [hFfnRefIdeal : Cert.FfnRefIdeal.Facts] [hPre_finite_in : Cert.Pre_finite_in.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_in m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v61) = v0 c
          ∧ r.2.mem ((c.tc : Thread Cert.FfnRefIdeal.nD Cert.FfnRefIdeal.τ).loc Cert.FfnRefIdeal.main_v62) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)
      ∧ m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7)) →
    ∃ (v0 : (c : Dev Cert.InprojIdeal.nD) → Buf (Elt Ideal) ((c.tc : Thread Cert.InprojIdeal.nD Cert.InprojIdeal.τ).loc Cert.InprojIdeal.main_v6_0)) (v1 : (c : Dev Cert.InprojIdeal.nD) → Buf (Elt Ideal) ((c.tc : Thread Cert.InprojIdeal.nD Cert.InprojIdeal.τ).loc Cert.InprojIdeal.main_v6_1)) (v2 : (c : Dev Cert.InprojIdeal.nD) → Buf (Elt Ideal) ((c.tc : Thread Cert.InprojIdeal.nD Cert.InprojIdeal.τ).loc Cert.InprojIdeal.main_v6_2)) (v3 : (c : Dev Cert.InprojIdeal.nD) → Buf (Elt Ideal) ((c.tc : Thread Cert.InprojIdeal.nD Cert.InprojIdeal.τ).loc Cert.InprojIdeal.main_v6_3)) (v4 : (c : Dev Cert.InprojIdeal.nD) → Buf (Elt Ideal) ((c.tc : Thread Cert.InprojIdeal.nD Cert.InprojIdeal.τ).loc Cert.InprojIdeal.main_v6_4)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v6_0) = v0 c
          ∧ r.2.mem ((c.tc : Thread Cert.InprojIdeal.nD Cert.InprojIdeal.τ).loc Cert.InprojIdeal.main_v6_1) = v1 c
          ∧ r.2.mem ((c.tc : Thread Cert.InprojIdeal.nD Cert.InprojIdeal.τ).loc Cert.InprojIdeal.main_v6_2) = v2 c
          ∧ r.2.mem ((c.tc : Thread Cert.InprojIdeal.nD Cert.InprojIdeal.τ).loc Cert.InprojIdeal.main_v6_3) = v3 c
          ∧ r.2.mem ((c.tc : Thread Cert.InprojIdeal.nD Cert.InprojIdeal.τ).loc Cert.InprojIdeal.main_v6_4) = v4 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v176) = v0 c
          ∧ r.2.mem ((c.tc : Thread Cert.InprojRefIdeal.nD Cert.InprojRefIdeal.τ).loc Cert.InprojRefIdeal.main_v34) = v1 c
          ∧ r.2.mem ((c.tc : Thread Cert.InprojRefIdeal.nD Cert.InprojRefIdeal.τ).loc Cert.InprojRefIdeal.main_v81) = v2 c
          ∧ r.2.mem ((c.tc : Thread Cert.InprojRefIdeal.nD Cert.InprojRefIdeal.τ).loc Cert.InprojRefIdeal.main_v128) = v3 c
          ∧ r.2.mem ((c.tc : Thread Cert.InprojRefIdeal.nD Cert.InprojRefIdeal.τ).loc Cert.InprojRefIdeal.main_v175) = v4 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7))

def Claim : Prop :=
  ∃ (hDil16 : Cert.Dil16.Facts) (hDil16Ideal : Cert.Dil16Ideal.Facts) (hDil16RefIdeal : Cert.Dil16RefIdeal.Facts) (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts) (hPre_finite_qk : Cert.Pre_finite_qk.Facts) (hPre_finite_in : Cert.Pre_finite_in.Facts),
    quiescent_Dil16 (hDil16 := hDil16)
    ∧ quiescent_Dil16Ideal (hDil16Ideal := hDil16Ideal)
    ∧ quiescent_Dil16Ideal_pre_finite_qk (hDil16Ideal := hDil16Ideal) (hPre_finite_qk := hPre_finite_qk)
    ∧ quiescent_Dil16RefIdeal (hDil16RefIdeal := hDil16RefIdeal)
    ∧ quiescent_Dil16RefIdeal_pre_finite_qk (hDil16RefIdeal := hDil16RefIdeal) (hPre_finite_qk := hPre_finite_qk)
    ∧ quiescent_Ffn (hFfn := hFfn)
    ∧ quiescent_FfnIdeal (hFfnIdeal := hFfnIdeal)
    ∧ quiescent_FfnIdeal_pre_finite_in (hFfnIdeal := hFfnIdeal) (hPre_finite_in := hPre_finite_in)
    ∧ quiescent_FfnRefIdeal (hFfnRefIdeal := hFfnRefIdeal)
    ∧ quiescent_FfnRefIdeal_pre_finite_in (hFfnRefIdeal := hFfnRefIdeal) (hPre_finite_in := hPre_finite_in)
    ∧ quiescent_Inproj (hInproj := hInproj)
    ∧ quiescent_InprojIdeal (hInprojIdeal := hInprojIdeal)
    ∧ quiescent_InprojRefIdeal (hInprojRefIdeal := hInprojRefIdeal)
    ∧ preserves_Dil16_Dil16Ideal
    ∧ algebraic_Dil16Ideal_Dil16RefIdeal_pre_finite_qk (hDil16Ideal := hDil16Ideal) (hDil16RefIdeal := hDil16RefIdeal) (hPre_finite_qk := hPre_finite_qk)
    ∧ preserves_Ffn_FfnIdeal
    ∧ algebraic_FfnIdeal_FfnRefIdeal_pre_finite_in (hFfnIdeal := hFfnIdeal) (hFfnRefIdeal := hFfnRefIdeal) (hPre_finite_in := hPre_finite_in)
    ∧ preserves_Inproj_InprojIdeal
    ∧ algebraic_InprojIdeal_InprojRefIdeal (hInprojIdeal := hInprojIdeal) (hInprojRefIdeal := hInprojRefIdeal)
-- ==== Pre_finite_in.lean ====
abbrev S16384x1024 : Shape := ⟨2, ![16384, 1024]⟩
abbrev S1x1024 : Shape := ⟨2, ![1, 1024]⟩
abbrev S1024x8192 : Shape := ⟨2, ![1024, 8192]⟩
abbrev S8x4096 : Shape := ⟨2, ![8, 4096]⟩
abbrev S1x4096 : Shape := ⟨2, ![1, 4096]⟩
abbrev S4096x1024 : Shape := ⟨2, ![4096, 1024]⟩
abbrev S1024x4096 : Shape := ⟨2, ![1024, 4096]⟩
abbrev S3x4096 : Shape := ⟨2, ![3, 4096]⟩
abbrev S_ : Shape := ⟨0, ![]⟩

class Facts : Prop where
  slices_S1024x8192_S1024x4096_0_0 : S1024x8192.Slices ![0, 0] S1024x4096
  slices_S8x4096_S3x4096_0_0 : S8x4096.Slices ![0, 0] S3x4096
  bcast_S_S1x1024 : S_.BroadcastsInDim S1x1024 (![] : Fin 0 → Fin S1x1024.rank)
  bitsLt_bf16_f32 : FTy.bits .bf16 < FTy.bits .f32
  bcast_S_S1024x4096 : S_.BroadcastsInDim S1024x4096 (![] : Fin 0 → Fin S1024x4096.rank)
  bcast_S_S3x4096 : S_.BroadcastsInDim S3x4096 (![] : Fin 0 → Fin S3x4096.rank)
  bcast_S_S1x4096 : S_.BroadcastsInDim S1x4096 (![] : Fin 0 → Fin S1x4096.rank)

variable [Facts]

def fn {F : FTy → Type} [FloatOps F] (main_arg0 : FVec F S16384x1024 .f32) (main_arg1 : FVec F S1x1024 .f32) (main_arg2 : FVec F S1024x8192 .bf16) (main_arg3 : FVec F S8x4096 .f32) (main_arg4 : FVec F S1x4096 .f32) (main_arg5 : FVec F S4096x1024 .bf16) (main_arg6 : FVec F S1x1024 .f32) : IVec S1x1024 1 × IVec S1024x4096 1 × IVec S3x4096 1 × IVec S1x4096 1 :=
  let main_v0 : FVec F S1024x4096 .bf16 := (extractStridedSlice S1024x4096 ![0, 0] · slices_S1024x8192_S1024x4096_0_0) main_arg2
  let main_v1 : FVec F S3x4096 .f32 := (extractStridedSlice S3x4096 ![0, 0] · slices_S8x4096_S3x4096_0_0) main_arg3
  let main_v2 : FVec F S1x1024 .f32 := Host.absf main_arg1
  let main_cst : FVec F S_ .f32 := constant S_ .f32 0x7F800000#32
  let main_v3 : FVec F S1x1024 .f32 := broadcastInDim S1x1024 ![] bcast_S_S1x1024 main_cst
  let main_v4 : IVec S1x1024 1 := cmpf .olt main_v2 main_v3
  let main_v5 : FVec F S1024x4096 .f32 := (extf .f32 · bitsLt_bf16_f32) main_v0
  let main_v6 : FVec F S1024x4096 .f32 := Host.absf main_v5
  let main_cst_0 : FVec F S_ .f32 := constant S_ .f32 0x7F800000#32
  let main_v7 : FVec F S1024x4096 .f32 := broadcastInDim S1024x4096 ![] bcast_S_S1024x4096 main_cst_0
  let main_v8 : IVec S1024x4096 1 := cmpf .olt main_v6 main_v7
  let main_v9 : FVec F S3x4096 .f32 := Host.absf main_v1
  let main_cst_1 : FVec F S_ .f32 := constant S_ .f32 0x7F800000#32
  let main_v10 : FVec F S3x4096 .f32 := broadcastInDim S3x4096 ![] bcast_S_S3x4096 main_cst_1
  let main_v11 : IVec S3x4096 1 := cmpf .olt main_v9 main_v10
  let main_v12 : FVec F S1x4096 .f32 := Host.absf main_arg4
  let main_cst_2 : FVec F S_ .f32 := constant S_ .f32 0x7F800000#32
  let main_v13 : FVec F S1x4096 .f32 := broadcastInDim S1x4096 ![] bcast_S_S1x4096 main_cst_2
  let main_v14 : IVec S1x4096 1 := cmpf .olt main_v12 main_v13
  (main_v4, main_v8, main_v11, main_v14)
-- ==== Pre_finite_qk.lean ====
abbrev S16x1024x1536 : Shape := ⟨3, ![16, 1024, 1536]⟩
abbrev S16x1024x1024 : Shape := ⟨3, ![16, 1024, 1024]⟩
abbrev S_ : Shape := ⟨0, ![]⟩

class Facts : Prop where
  slices_S16x1024x1536_S16x1024x1024_0_0_0 : S16x1024x1536.Slices ![0, 0, 0] S16x1024x1024
  bitsLt_bf16_f32 : FTy.bits .bf16 < FTy.bits .f32
  bcast_S_S16x1024x1024 : S_.BroadcastsInDim S16x1024x1024 (![] : Fin 0 → Fin S16x1024x1024.rank)

variable [Facts]

def fn {F : FTy → Type} [FloatOps F] (main_arg0 : FVec F S16x1024x1536 .bf16) : IVec S16x1024x1024 1 :=
  let main_v0 : FVec F S16x1024x1024 .bf16 := (extractStridedSlice S16x1024x1024 ![0, 0, 0] · slices_S16x1024x1536_S16x1024x1024_0_0_0) main_arg0
  let main_v1 : FVec F S16x1024x1024 .f32 := (extf .f32 · bitsLt_bf16_f32) main_v0
  let main_v2 : FVec F S16x1024x1024 .f32 := Host.absf main_v1
  let main_cst : FVec F S_ .f32 := constant S_ .f32 0x7F800000#32
  let main_v3 : FVec F S16x1024x1024 .f32 := broadcastInDim S16x1024x1024 ![] bcast_S_S16x1024x1024 main_cst
  let main_v4 : IVec S16x1024x1024 1 := cmpf .olt main_v2 main_v3
  main_v4
-- ==== Dil16.lean ====
abbrev S16x1024x1536 : Shape := ⟨3, ![16, 1024, 1536]⟩
abbrev S16x1024x512 : Shape := ⟨3, ![16, 1024, 512]⟩
abbrev S16x1024x128 : Shape := ⟨3, ![16, 1024, 128]⟩
abbrev S1x1024x512 : Shape := ⟨3, ![1, 1024, 512]⟩
abbrev S1x128x512 : Shape := ⟨3, ![1, 128, 512]⟩
abbrev S1x1024x128 : Shape := ⟨3, ![1, 1024, 128]⟩
abbrev S128x256 : Shape := ⟨2, ![128, 256]⟩
abbrev S128x128 : Shape := ⟨2, ![128, 128]⟩
abbrev S256x128 : Shape := ⟨2, ![256, 128]⟩
abbrev S1x128x128 : Shape := ⟨3, ![1, 128, 128]⟩
abbrev S128 : Shape := ⟨1, ![128]⟩
abbrev S128x1 : Shape := ⟨2, ![128, 1]⟩
abbrev S256x256 : Shape := ⟨2, ![256, 256]⟩
abbrev S1x256x128 : Shape := ⟨3, ![1, 256, 128]⟩

abbrev nBuf : Space → Nat
  | .hbm => 3
  | .vmem => 14
  | .smem => 0
  | _ => 0

abbrev bufTy : (tb : Table) → Fin (tcTables nBuf tb) → BufTy
  | .hbm, ⟨0, _⟩ => ⟨S16x1024x1536, .bf16⟩
  | .hbm, ⟨1, _⟩ => ⟨S16x1024x512, .bf16⟩
  | .hbm, ⟨2, _⟩ => ⟨S16x1024x128, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x128x512, .bf16⟩
  | .local _ .vmem, ⟨9, _⟩ => ⟨S1x128x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x1024x128, .f32⟩
  | .local _ .vmem, ⟨13, _⟩ => ⟨S1x1024x128, .f32⟩
  | _, _ => ⟨S16x1024x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, v2.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Dil16Ideal.lean ====
variable {F : FTy → Type} [FloatOps F] [Named F]
def κ : String → Option EReal := fun
  | "mask" => some ⊥
  | _ => none
-- ==== Dil16RefIdeal.lean ====
abbrev S16x1024x1536 : Shape := ⟨3, ![16, 1024, 1536]⟩
abbrev S16x1024x512 : Shape := ⟨3, ![16, 1024, 512]⟩
abbrev S16x8x128x4x128 : Shape := ⟨5, ![16, 8, 128, 4, 128]⟩
abbrev S_ : Shape := ⟨0, ![]⟩
abbrev S16x9x128x4x128 : Shape := ⟨5, ![16, 9, 128, 4, 128]⟩
abbrev S16x8x256x4x128 : Shape := ⟨5, ![16, 8, 256, 4, 128]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8 : Shape := ⟨1, ![8]⟩
abbrev S8x1x1 : Shape := ⟨3, ![8, 1, 1]⟩
abbrev S1x128x256 : Shape := ⟨3, ![1, 128, 256]⟩
abbrev S1x1x256 : Shape := ⟨3, ![1, 1, 256]⟩
abbrev S8x1x256 : Shape := ⟨3, ![8, 1, 256]⟩
abbrev S8x128x256 : Shape := ⟨3, ![8, 128, 256]⟩
abbrev S16x8x4x128x256 : Shape := ⟨5, ![16, 8, 4, 128, 256]⟩
abbrev S1x8x1x128x256 : Shape := ⟨5, ![1, 8, 1, 128, 256]⟩
abbrev S16x8x4x128 : Shape := ⟨4, ![16, 8, 4, 128]⟩
abbrev S16x8x4x128x1 : Shape := ⟨5, ![16, 8, 4, 128, 1]⟩
abbrev S16x8x4x128x128 : Shape := ⟨5, ![16, 8, 4, 128, 128]⟩
abbrev S16x8x128x4 : Shape := ⟨4, ![16, 8, 128, 4]⟩
abbrev S16x1024x4 : Shape := ⟨3, ![16, 1024, 4]⟩
abbrev S16x1024x128 : Shape := ⟨3, ![16, 1024, 128]⟩

abbrev nBuf : Space → Nat
  | .hbm => 83
  | .vmem => 0
  | .smem => 0
  | _ => 0

abbrev bufTy : (tb : Table) → Fin (tcTables nBuf tb) → BufTy
  | .hbm, ⟨0, _⟩ => ⟨S16x1024x1536, .bf16⟩
  | .hbm, ⟨1, _⟩ => ⟨S16x1024x512, .bf16⟩
  | .hbm, ⟨2, _⟩ => ⟨S16x1024x512, .f32⟩
  | .hbm, ⟨3, _⟩ => ⟨S16x8x128x4x128, .f32⟩
  | .hbm, ⟨4, _⟩ => ⟨S16x1024x512, .bf16⟩
  | .hbm, ⟨5, _⟩ => ⟨S16x1024x512, .f32⟩
  | .hbm, ⟨6, _⟩ => ⟨S16x8x128x4x128, .f32⟩
  | .hbm, ⟨7, _⟩ => ⟨S_, .i32⟩
  | .hbm, ⟨8, _⟩ => ⟨S_, .f32⟩
  | .hbm, ⟨9, _⟩ => ⟨S16x9x128x4x128, .f32⟩
  | .hbm, ⟨10, _⟩ => ⟨S16x8x128x4x128, .f32⟩
  | .hbm, ⟨11, _⟩ => ⟨S16x8x256x4x128, .f32⟩
  | .hbm, ⟨12, _⟩ => ⟨S16x1024x512, .bf16⟩
  | .hbm, ⟨13, _⟩ => ⟨S16x1024x512, .f32⟩
  | .hbm, ⟨14, _⟩ => ⟨S16x8x128x4x128, .f32⟩
  | .hbm, ⟨15, _⟩ => ⟨S_, .i32⟩
  | .hbm, ⟨16, _⟩ => ⟨S_, .f32⟩
  | .hbm, ⟨17, _⟩ => ⟨S16x9x128x4x128, .f32⟩
  | .hbm, ⟨18, _⟩ => ⟨S16x8x128x4x128, .f32⟩
  | .hbm, ⟨19, _⟩ => ⟨S16x8x256x4x128, .f32⟩
  | .hbm, ⟨20, _⟩ => ⟨S128, .i32⟩
  | .hbm, ⟨21, _⟩ => ⟨S128x1, .i32⟩
  | .hbm, ⟨22, _⟩ => ⟨S_, .i32⟩
  | .hbm, ⟨23, _⟩ => ⟨S128x1, .i32⟩
  | .hbm, ⟨24, _⟩ => ⟨S128x1, .i32⟩
  | .hbm, ⟨25, _⟩ => ⟨S256, .i32⟩
  | .hbm, ⟨26, _⟩ => ⟨S1x256, .i32⟩
  | .hbm, ⟨27, _⟩ => ⟨S128x256, .i32⟩
  | .hbm, ⟨28, _⟩ => ⟨S128x256, .i32⟩
  | .hbm, ⟨29, _⟩ => ⟨S128x256, .i32⟩
  | .hbm, ⟨30, _⟩ => ⟨S_, .i32⟩
  | .hbm, ⟨31, _⟩ => ⟨S128x256, .i32⟩
  | .hbm, ⟨32, _⟩ => ⟨S128x256, .i1⟩
  | .hbm, ⟨33, _⟩ => ⟨S_, .i32⟩
  | .hbm, ⟨34, _⟩ => ⟨S128x256, .i32⟩
  | .hbm, ⟨35, _⟩ => ⟨S128x256, .i1⟩
  | .hbm, ⟨36, _⟩ => ⟨S128x256, .i1⟩
  | .hbm, ⟨37, _⟩ => ⟨S8, .i32⟩
  | .hbm, ⟨38, _⟩ => ⟨S8x1x1, .i32⟩
  | .hbm, ⟨39, _⟩ => ⟨S1x128x256, .i1⟩
  | .hbm, ⟨40, _⟩ => ⟨S_, .i32⟩
  | .hbm, ⟨41, _⟩ => ⟨S8x1x1, .i32⟩
  | .hbm, ⟨42, _⟩ => ⟨S8x1x1, .i1⟩
  | .hbm, ⟨43, _⟩ => ⟨S1x1x256, .i32⟩
  | .hbm, ⟨44, _⟩ => ⟨S_, .i32⟩
  | .hbm, ⟨45, _⟩ => ⟨S1x1x256, .i32⟩
  | .hbm, ⟨46, _⟩ => ⟨S1x1x256, .i1⟩
  | .hbm, ⟨47, _⟩ => ⟨S8x1x256, .i1⟩
  | .hbm, ⟨48, _⟩ => ⟨S8x1x256, .i1⟩
  | .hbm, ⟨49, _⟩ => ⟨S8x1x256, .i1⟩
  | .hbm, ⟨50, _⟩ => ⟨S8x128x256, .i1⟩
  | .hbm, ⟨51, _⟩ => ⟨S8x128x256, .i1⟩
  | .hbm, ⟨52, _⟩ => ⟨S8x128x256, .i1⟩
  | .hbm, ⟨53, _⟩ => ⟨S16x8x4x128x256, .f32⟩
  | .hbm, ⟨54, _⟩ => ⟨S1x8x1x128x256, .i1⟩
  | .hbm, ⟨55, _⟩ => ⟨S_, .f32⟩
  | .hbm, ⟨56, _⟩ => ⟨S_, .f32⟩
  | .hbm, ⟨57, _⟩ => ⟨S16x8x4x128x256, .i1⟩
  | .hbm, ⟨58, _⟩ => ⟨S16x8x4x128x256, .f32⟩
  | .hbm, ⟨59, _⟩ => ⟨S16x8x4x128x256, .f32⟩
  | .hbm, ⟨60, _⟩ => ⟨S_, .f32⟩
  | .hbm, ⟨61, _⟩ => ⟨S16x8x4x128, .f32⟩
  | .hbm, ⟨62, _⟩ => ⟨S16x8x4x128x1, .f32⟩
  | .hbm, ⟨63, _⟩ => ⟨S16x8x4x128x256, .f32⟩
  | .hbm, ⟨64, _⟩ => ⟨S16x8x4x128x256, .f32⟩
  | .hbm, ⟨65, _⟩ => ⟨S16x8x4x128x256, .f32⟩
  | .hbm, ⟨66, _⟩ => ⟨S_, .f32⟩
  | .hbm, ⟨67, _⟩ => ⟨S16x8x4x128, .f32⟩
  | .hbm, ⟨68, _⟩ => ⟨S16x8x4x128, .f32⟩
  | .hbm, ⟨69, _⟩ => ⟨S16x8x4x128, .f32⟩
  | .hbm, ⟨70, _⟩ => ⟨S16x8x4x128x1, .f32⟩
  | .hbm, ⟨71, _⟩ => ⟨S16x8x4x128x256, .f32⟩
  | .hbm, ⟨72, _⟩ => ⟨S16x8x4x128x256, .f32⟩
  | .hbm, ⟨73, _⟩ => ⟨S16x8x4x128x256, .f32⟩
  | .hbm, ⟨74, _⟩ => ⟨S16x8x4x128x128, .f32⟩
  | .hbm, ⟨75, _⟩ => ⟨S16x8x128x4x128, .f32⟩
  | .hbm, ⟨76, _⟩ => ⟨S16x1024x512, .f32⟩
  | .hbm, ⟨77, _⟩ => ⟨S16x1024x512, .bf16⟩
  | .hbm, ⟨78, _⟩ => ⟨S16x8x128x4, .f32⟩
  | .hbm, ⟨79, _⟩ => ⟨S16x1024x4, .f32⟩
  | .hbm, ⟨80, _⟩ => ⟨S_, .i32⟩
  | .hbm, ⟨81, _⟩ => ⟨S_, .f32⟩
  | .hbm, ⟨82, _⟩ => ⟨S16x1024x128, .f32⟩
  | _, _ => ⟨S16x1024x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_call0_v0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c_0 : Ref sig .tc := ⟨.hbm, 15, rfl⟩
abbrev main_call1_v0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c_2 : Ref sig .tc := ⟨.hbm, 30, rfl⟩
abbrev main_v24 : Ref sig .tc := ⟨.hbm, 31, rfl⟩
abbrev main_v25 : Ref sig .tc := ⟨.hbm, 32, rfl⟩
abbrev main_c_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_4 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_7 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_c_8 : Ref sig .tc := ⟨.hbm, 80, rfl⟩
abbrev main_call3_v0 : Ref sig .tc := ⟨.hbm, 81, rfl⟩
abbrev main_v64 : Ref sig .tc := ⟨.hbm, 82, rfl⟩

abbrev nD : Nat := 1
abbrev τ : Topo := Topo.v7x

variable {F : FTy → Type} [FloatOps F]
-- ==== Ffn.lean ====
abbrev S16384x1024 : Shape := ⟨2, ![16384, 1024]⟩
abbrev S1x1024 : Shape := ⟨2, ![1, 1024]⟩
abbrev S1024x8192 : Shape := ⟨2, ![1024, 8192]⟩
abbrev S8x4096 : Shape := ⟨2, ![8, 4096]⟩
abbrev S1x4096 : Shape := ⟨2, ![1, 4096]⟩
abbrev S4096x1024 : Shape := ⟨2, ![4096, 1024]⟩
abbrev S256x4096 : Shape := ⟨2, ![256, 4096]⟩
abbrev S512x1024 : Shape := ⟨2, ![512, 1024]⟩
abbrev S512 : Shape := ⟨1, ![512]⟩
abbrev S512x1 : Shape := ⟨2, ![512, 1]⟩
abbrev S8x1 : Shape := ⟨2, ![8, 1]⟩
abbrev S1024x1024 : Shape := ⟨2, ![1024, 1024]⟩
abbrev S8x1024 : Shape := ⟨2, ![8, 1024]⟩
abbrev S504x1024 : Shape := ⟨2, ![504, 1024]⟩
abbrev S2x4096 : Shape := ⟨2, ![2, 4096]⟩

abbrev nBuf : Space → Nat
  | .hbm => 10
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x8192, .bf16⟩
  | .hbm, ⟨3, _⟩ => ⟨S8x4096, .f32⟩
  | .hbm, ⟨4, _⟩ => ⟨S1x4096, .f32⟩
  | .hbm, ⟨5, _⟩ => ⟨S4096x1024, .bf16⟩
  | .hbm, ⟨6, _⟩ => ⟨S1x1024, .f32⟩
  | .hbm, ⟨7, _⟩ => ⟨S16384x1024, .f32⟩
  | .hbm, ⟨8, _⟩ => ⟨S256x4096, .f32⟩
  | .hbm, ⟨9, _⟩ => ⟨S2x4096, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x8192, .bf16⟩
  | .local _ .vmem, ⟨4, _⟩ => ⟨S8x4096, .f32⟩
  | .local _ .vmem, ⟨5, _⟩ => ⟨S1x4096, .f32⟩
  | .local _ .vmem, ⟨6, _⟩ => ⟨S4096x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x4096, .f32⟩
  | .local _ .vmem, ⟨11, _⟩ => ⟨S8x4096, .f32⟩
  | .local _ .vmem, ⟨12, _⟩ => ⟨S8x4096, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnIdeal.lean ====
variable {F : FTy → Type} [FloatOps F] [Named F]
def κ : String → Option EReal := fun
  | "cubic" => some ((80338380498831 / 2251799813685248 : ℝ) : EReal)
  | _ => none
-- ==== FfnRefIdeal.lean ====
abbrev S16384x1024 : Shape := ⟨2, ![16384, 1024]⟩
abbrev S1x1024 : Shape := ⟨2, ![1, 1024]⟩
abbrev S1024x8192 : Shape := ⟨2, ![1024, 8192]⟩
abbrev S8x4096 : Shape := ⟨2, ![8, 4096]⟩
abbrev S1x4096 : Shape := ⟨2, ![1, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S16384x8192 : Shape := ⟨2, ![16384, 8192]⟩
abbrev S16384x4096 : Shape := ⟨2, ![16384, 4096]⟩
abbrev S16386x4096 : Shape := ⟨2, ![16386, 4096]⟩
abbrev S2x4096 : Shape := ⟨2, ![2, 4096]⟩

abbrev nBuf : Space → Nat
  | .hbm => 82
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x8192, .bf16⟩
  | .hbm, ⟨3, _⟩ => ⟨S8x4096, .f32⟩
  | .hbm, ⟨4, _⟩ => ⟨S1x4096, .f32⟩
  | .hbm, ⟨5, _⟩ => ⟨S4096x1024, .bf16⟩
  | .hbm, ⟨6, _⟩ => ⟨S1x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S1024x8192, .f32⟩
  | .hbm, ⟨23, _⟩ => ⟨S16384x8192, .f32⟩
  | .hbm, ⟨24, _⟩ => ⟨S16384x4096, .f32⟩
  | .hbm, ⟨25, _⟩ => ⟨S16384x4096, .f32⟩
  | .hbm, ⟨26, _⟩ => ⟨S_, .i32⟩
  | .hbm, ⟨27, _⟩ => ⟨S_, .f32⟩
  | .hbm, ⟨28, _⟩ => ⟨S16386x4096, .f32⟩
  | .hbm, ⟨29, _⟩ => ⟨S16384x4096, .f32⟩
  | .hbm, ⟨30, _⟩ => ⟨S1x4096, .f32⟩
  | .hbm, ⟨31, _⟩ => ⟨S16384x4096, .f32⟩
  | .hbm, ⟨32, _⟩ => ⟨S16384x4096, .f32⟩
  | .hbm, ⟨33, _⟩ => ⟨S16384x4096, .f32⟩
  | .hbm, ⟨34, _⟩ => ⟨S1x4096, .f32⟩
  | .hbm, ⟨35, _⟩ => ⟨S16384x4096, .f32⟩
  | .hbm, ⟨36, _⟩ => ⟨S16384x4096, .f32⟩
  | .hbm, ⟨37, _⟩ => ⟨S16384x4096, .f32⟩
  | .hbm, ⟨38, _⟩ => ⟨S16384x4096, .f32⟩
  | .hbm, ⟨39, _⟩ => ⟨S1x4096, .f32⟩
  | .hbm, ⟨40, _⟩ => ⟨S16384x4096, .f32⟩
  | .hbm, ⟨41, _⟩ => ⟨S16384x4096, .f32⟩
  | .hbm, ⟨42, _⟩ => ⟨S16384x4096, .f32⟩
  | .hbm, ⟨43, _⟩ => ⟨S16384x4096, .f32⟩
  | .hbm, ⟨44, _⟩ => ⟨S16384x4096, .f32⟩
  | .hbm, ⟨45, _⟩ => ⟨S16384x4096, .f32⟩
  | .hbm, ⟨46, _⟩ => ⟨S16384x4096, .f32⟩
  | .hbm, ⟨47, _⟩ => ⟨S_, .f32⟩
  | .hbm, ⟨48, _⟩ => ⟨S16384x4096, .f32⟩
  | .hbm, ⟨49, _⟩ => ⟨S16384x4096, .f32⟩
  | .hbm, ⟨50, _⟩ => ⟨S16384x4096, .f32⟩
  | .hbm, ⟨51, _⟩ => ⟨S_, .f32⟩
  | .hbm, ⟨52, _⟩ => ⟨S16384x4096, .f32⟩
  | .hbm, ⟨53, _⟩ => ⟨S16384x4096, .f32⟩
  | .hbm, ⟨54, _⟩ => ⟨S16384x4096, .f32⟩
  | .hbm, ⟨55, _⟩ => ⟨S_, .f32⟩
  | .hbm, ⟨56, _⟩ => ⟨S16384x4096, .f32⟩
  | .hbm, ⟨57, _⟩ => ⟨S16384x4096, .f32⟩
  | .hbm, ⟨58, _⟩ => ⟨S_, .f32⟩
  | .hbm, ⟨59, _⟩ => ⟨S16384x4096, .f32⟩
  | .hbm, ⟨60, _⟩ => ⟨S16384x4096, .f32⟩
  | .hbm, ⟨61, _⟩ => ⟨S16384x4096, .f32⟩
  | .hbm, ⟨62, _⟩ => ⟨S16384x4096, .f32⟩
  | .hbm, ⟨63, _⟩ => ⟨S4096x1024, .f32⟩
  | .hbm, ⟨64, _⟩ => ⟨S16384x1024, .f32⟩
  | .hbm, ⟨65, _⟩ => ⟨S16384x1024, .f32⟩
  | .hbm, ⟨66, _⟩ => ⟨S_, .f32⟩
  | .hbm, ⟨67, _⟩ => ⟨S16384, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S16384x1, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S2x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_3 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_4 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_6 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩

abbrev nD : Nat := 1
abbrev τ : Topo := Topo.v7x

variable {F : FTy → Type} [FloatOps F]
-- ==== Inproj.lean ====
abbrev S16384x1024 : Shape := ⟨2, ![16384, 1024]⟩
abbrev S1x1024 : Shape := ⟨2, ![1, 1024]⟩
abbrev S1024x9728 : Shape := ⟨2, ![1024, 9728]⟩
abbrev S1024x128 : Shape := ⟨2, ![1024, 128]⟩
abbrev S128x512 : Shape := ⟨2, ![128, 512]⟩
abbrev S1x512 : Shape := ⟨2, ![1, 512]⟩
abbrev S16384x16 : Shape := ⟨2, ![16384, 16]⟩
abbrev S_ : Shape := ⟨0, ![]⟩
abbrev S16384x96 : Shape := ⟨2, ![16384, 96]⟩
abbrev S16384x128 : Shape := ⟨2, ![16384, 128]⟩
abbrev S16384x5120 : Shape := ⟨2, ![16384, 5120]⟩
abbrev S16384x512 : Shape := ⟨2, ![16384, 512]⟩
abbrev S1x16384x1536 : Shape := ⟨3, ![1, 16384, 1536]⟩
abbrev S4x4096x1536 : Shape := ⟨3, ![4, 4096, 1536]⟩
abbrev S16x1024x1536 : Shape := ⟨3, ![16, 1024, 1536]⟩
abbrev S512x1024 : Shape := ⟨2, ![512, 1024]⟩
abbrev S512x128 : Shape := ⟨2, ![512, 128]⟩
abbrev S512x5120 : Shape := ⟨2, ![512, 5120]⟩
abbrev S512x512 : Shape := ⟨2, ![512, 512]⟩
abbrev S1x512x1536 : Shape := ⟨3, ![1, 512, 1536]⟩
abbrev S4x128x1536 : Shape := ⟨3, ![4, 128, 1536]⟩
abbrev S16x32x1536 : Shape := ⟨3, ![16, 32, 1536]⟩
abbrev S4x512x128 : Shape := ⟨3, ![4, 512, 128]⟩
abbrev S512 : Shape := ⟨1, ![512]⟩
abbrev S512x1 : Shape := ⟨2, ![512, 1]⟩
abbrev S1024x512 : Shape := ⟨2, ![1024, 512]⟩
abbrev S1x512x512 : Shape := ⟨3, ![1, 512, 512]⟩
abbrev S1x512x128 : Shape := ⟨3, ![1, 512, 128]⟩
abbrev S1x128x128 : Shape := ⟨3, ![1, 128, 128]⟩
abbrev S128x128 : Shape := ⟨2, ![128, 128]⟩
abbrev S1x128x512 : Shape := ⟨3, ![1, 128, 512]⟩
abbrev S1x32x128 : Shape := ⟨3, ![1, 32, 128]⟩
abbrev S32x128 : Shape := ⟨2, ![32, 128]⟩
abbrev S32x512 : Shape := ⟨2, ![32, 512]⟩
abbrev S1x32x512 : Shape := ⟨3, ![1, 32, 512]⟩

abbrev nBuf : Space → Nat
  | .hbm => 21
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x9728, .bf16⟩
  | .hbm, ⟨3, _⟩ => ⟨S1024x128, .bf16⟩
  | .hbm, ⟨4, _⟩ => ⟨S128x512, .bf16⟩
  | .hbm, ⟨5, _⟩ => ⟨S1x512, .f32⟩
  | .hbm, ⟨6, _⟩ => ⟨S16384x16, .f32⟩
  | .hbm, ⟨7, _⟩ => ⟨S16384x16, .f32⟩
  | .hbm, ⟨8, _⟩ => ⟨S_, .f32⟩
  | .hbm, ⟨9, _⟩ => ⟨S16384x96, .f32⟩
  | .hbm, ⟨10, _⟩ => ⟨S16384x128, .f32⟩
  | .hbm, ⟨11, _⟩ => ⟨S16384x16, .f32⟩
  | .hbm, ⟨12, _⟩ => ⟨S_, .f32⟩
  | .hbm, ⟨13, _⟩ => ⟨S16384x96, .f32⟩
  | .hbm, ⟨14, _⟩ => ⟨S16384x96, .f32⟩
  | .hbm, ⟨15, _⟩ => ⟨S16384x128, .f32⟩
  | .hbm, ⟨16, _⟩ => ⟨S16384x5120, .bf16⟩
  | .hbm, ⟨17, _⟩ => ⟨S16384x512, .f32⟩
  | .hbm, ⟨18, _⟩ => ⟨S1x16384x1536, .bf16⟩
  | .hbm, ⟨19, _⟩ => ⟨S4x4096x1536, .bf16⟩
  | .hbm, ⟨20, _⟩ => ⟨S16x1024x1536, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x9728, .bf16⟩
  | .local _ .vmem, ⟨4, _⟩ => ⟨S1024x128, .bf16⟩
  | .local _ .vmem, ⟨5, _⟩ => ⟨S128x512, .bf16⟩
  | .local _ .vmem, ⟨6, _⟩ => ⟨S1x512, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x5120, .bf16⟩
  | .local _ .vmem, ⟨12, _⟩ => ⟨S512x5120, .bf16⟩
  | .local _ .vmem, ⟨13, _⟩ => ⟨S512x512, .f32⟩
  | .local _ .vmem, ⟨14, _⟩ => ⟨S512x512, .f32⟩
  | .local _ .vmem, ⟨15, _⟩ => ⟨S1x512x1536, .bf16⟩
  | .local _ .vmem, ⟨16, _⟩ => ⟨S1x512x1536, .bf16⟩
  | .local _ .vmem, ⟨17, _⟩ => ⟨S4x128x1536, .bf16⟩
  | .local _ .vmem, ⟨18, _⟩ => ⟨S4x128x1536, .bf16⟩
  | .local _ .vmem, ⟨19, _⟩ => ⟨S16x32x1536, .bf16⟩
  | .local _ .vmem, ⟨20, _⟩ => ⟨S16x32x1536, .bf16⟩
  | .local _ .vmem, ⟨21, _⟩ => ⟨S4x512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x9728 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x5120 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x128x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x32x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== InprojRefIdeal.lean ====
abbrev S16384x1024 : Shape := ⟨2, ![16384, 1024]⟩
abbrev S1x1024 : Shape := ⟨2, ![1, 1024]⟩
abbrev S1024x9728 : Shape := ⟨2, ![1024, 9728]⟩
abbrev S1024x128 : Shape := ⟨2, ![1024, 128]⟩
abbrev S128x512 : Shape := ⟨2, ![128, 512]⟩
abbrev S1x512 : Shape := ⟨2, ![1, 512]⟩
abbrev S16384x16 : Shape := ⟨2, ![16384, 16]⟩
abbrev S_ : Shape := ⟨0, ![]⟩
abbrev S16384 : Shape := ⟨1, ![16384]⟩
abbrev S16384x1 : Shape := ⟨2, ![16384, 1]⟩
abbrev S16384x9728 : Shape := ⟨2, ![16384, 9728]⟩
abbrev S16384x512 : Shape := ⟨2, ![16384, 512]⟩
abbrev S16384x2560 : Shape := ⟨2, ![16384, 2560]⟩
abbrev S16384x2048 : Shape := ⟨2, ![16384, 2048]⟩
abbrev S16384x5120 : Shape := ⟨2, ![16384, 5120]⟩
abbrev S16384x128 : Shape := ⟨2, ![16384, 128]⟩
abbrev S16384x4x128 : Shape := ⟨3, ![16384, 4, 128]⟩
abbrev S16384x4x16 : Shape := ⟨3, ![16384, 4, 16]⟩
abbrev S16384x4x96 : Shape := ⟨3, ![16384, 4, 96]⟩
abbrev S16384x1x16 : Shape := ⟨3, ![16384, 1, 16]⟩
abbrev S16384x1536 : Shape := ⟨2, ![16384, 1536]⟩
abbrev S16384x1x1536 : Shape := ⟨3, ![16384, 1, 1536]⟩
abbrev S1x16384x1536 : Shape := ⟨3, ![1, 16384, 1536]⟩
abbrev S4096x4x1536 : Shape := ⟨3, ![4096, 4, 1536]⟩
abbrev S4x4096x1536 : Shape := ⟨3, ![4, 4096, 1536]⟩
abbrev S1024x16x1536 : Shape := ⟨3, ![1024, 16, 1536]⟩
abbrev S16x1024x1536 : Shape := ⟨3, ![16, 1024, 1536]⟩

abbrev nBuf : Space → Nat
  | .hbm => 210
  | .vmem => 0
  | .smem => 0
  | _ => 0

abbrev hbmTy0_0 (i : Nat) : BufTy := match i % 128 with
  | 0 => ⟨S16384x1024, .f32⟩
  | 1 => ⟨S1x1024, .f32⟩
  | 2 => ⟨S1024x9728, .bf16⟩
  | 3 => ⟨S1024x128, .bf16⟩
  | 4 => ⟨S128x512, .bf16⟩
  | 5 => ⟨S1x512, .f32⟩
  | 6 => ⟨S16384x16, .f32⟩
  | 7 => ⟨S16384x16, .f32⟩
  | 8 => ⟨S16384x1024, .f32⟩
  | 9 => ⟨S_, .f32⟩
  | 10 => ⟨S16384, .f32⟩
  | 11 => ⟨S16384x1, .f32⟩
  | 12 => ⟨S_, .f32⟩
  | 13 => ⟨S16384x1, .f32⟩
  | 14 => ⟨S16384x1, .f32⟩
  | 15 => ⟨S_, .f32⟩
  | 16 => ⟨S16384x1, .f32⟩
  | 17 => ⟨S16384x1, .f32⟩
  | 18 => ⟨S16384x1, .f32⟩
  | 19 => ⟨S16384x1024, .f32⟩
  | 20 => ⟨S16384x1024, .f32⟩
  | 21 => ⟨S16384x1024, .f32⟩
  | 22 => ⟨S16384x1024, .f32⟩
  | 23 => ⟨S1024x9728, .f32⟩
  | 24 => ⟨S16384x9728, .f32⟩
  | 25 => ⟨S16384x512, .f32⟩
  | 26 => ⟨S_, .f32⟩
  | 27 => ⟨S16384x512, .f32⟩
  | 28 => ⟨S16384x512, .f32⟩
  | 29 => ⟨S16384x2560, .f32⟩
  | 30 => ⟨S16384x2048, .f32⟩
  | 31 => ⟨S16384x2048, .f32⟩
  | 32 => ⟨S16384x2048, .f32⟩
  | 33 => ⟨S_, .f32⟩
  | 34 => ⟨S16384x2048, .f32⟩
  | 35 => ⟨S16384x2048, .f32⟩
  | 36 => ⟨S_, .f32⟩
  | 37 => ⟨S16384x2048, .f32⟩
  | 38 => ⟨S16384x2048, .f32⟩
  | 39 => ⟨S16384x5120, .f32⟩
  | 40 => ⟨S1024x128, .f32⟩
  | 41 => ⟨S16384x128, .f32⟩
  | 42 => ⟨S128x512, .f32⟩
  | 43 => ⟨S16384x512, .f32⟩
  | 44 => ⟨S16384x512, .f32⟩
  | 45 => ⟨S16384x512, .f32⟩
  | 46 => ⟨S16384x512, .f32⟩
  | 47 => ⟨S_, .f32⟩
  | 48 => ⟨S16384x512, .f32⟩
  | 49 => ⟨S16384x512, .f32⟩
  | 50 => ⟨S16384x512, .f32⟩
  | 51 => ⟨S16384x512, .f32⟩
  | 52 => ⟨S16384x512, .i1⟩
  | 53 => ⟨S16384x512, .f32⟩
  | 54 => ⟨S16384x512, .f32⟩
  | 55 => ⟨S16384x512, .f32⟩
  | 56 => ⟨S16384x512, .f32⟩
  | 57 => ⟨S16384x512, .f32⟩
  | 58 => ⟨S16384x512, .f32⟩
  | 59 => ⟨S16384x512, .f32⟩
  | 60 => ⟨S16384x512, .f32⟩
  | 61 => ⟨S16384x512, .f32⟩
  | 62 => ⟨S_, .f32⟩
  | 63 => ⟨S16384x512, .f32⟩
  | 64 => ⟨S16384x512, .f32⟩
  | 65 => ⟨S16384x512, .f32⟩
  | 66 => ⟨S16384x4x128, .f32⟩
  | 67 => ⟨S16384x512, .f32⟩
  | 68 => ⟨S16384x4x128, .f32⟩
  | 69 => ⟨S16384x512, .f32⟩
  | 70 => ⟨S16384x4x128, .f32⟩
  | 71 => ⟨S16384x4x16, .f32⟩
  | 72 => ⟨S16384x4x16, .f32⟩
  | 73 => ⟨S16384x4x96, .f32⟩
  | 74 => ⟨S16384x1x16, .f32⟩
  | 75 => ⟨S16384x1x16, .f32⟩
  | 76 => ⟨S16384x4x16, .f32⟩
  | 77 => ⟨S16384x4x16, .f32⟩
  | 78 => ⟨S16384x4x16, .f32⟩
  | 79 => ⟨S16384x4x16, .f32⟩
  | 80 => ⟨S16384x4x16, .f32⟩
  | 81 => ⟨S16384x4x16, .f32⟩
  | 82 => ⟨S16384x4x16, .f32⟩
  | 83 => ⟨S16384x4x16, .f32⟩
  | 84 => ⟨S16384x4x16, .f32⟩
  | 85 => ⟨S16384x4x16, .f32⟩
  | 86 => ⟨S16384x4x128, .f32⟩
  | 87 => ⟨S_, .f32⟩
  | 88 => ⟨S16384x4x128, .f32⟩
  | 89 => ⟨S16384x4x128, .f32⟩
  | 90 => ⟨S16384x4x16, .f32⟩
  | 91 => ⟨S16384x4x16, .f32⟩
  | 92 => ⟨S16384x4x96, .f32⟩
  | 93 => ⟨S16384x1x16, .f32⟩
  | 94 => ⟨S16384x1x16, .f32⟩
  | 95 => ⟨S16384x4x16, .f32⟩
  | 96 => ⟨S16384x4x16, .f32⟩
  | 97 => ⟨S16384x4x16, .f32⟩
  | 98 => ⟨S16384x4x16, .f32⟩
  | 99 => ⟨S16384x4x16, .f32⟩
  | 100 => ⟨S16384x4x16, .f32⟩
  | 101 => ⟨S16384x4x16, .f32⟩
  | 102 => ⟨S16384x4x16, .f32⟩
  | 103 => ⟨S16384x4x16, .f32⟩
  | 104 => ⟨S16384x4x16, .f32⟩
  | 105 => ⟨S16384x4x128, .f32⟩
  | 106 => ⟨S16384x512, .f32⟩
  | 107 => ⟨S16384x512, .f32⟩
  | 108 => ⟨S16384x512, .f32⟩
  | 109 => ⟨S16384x1536, .f32⟩
  | 110 => ⟨S16384x1x1536, .f32⟩
  | 111 => ⟨S1x16384x1536, .f32⟩
  | 112 => ⟨S1x16384x1536, .bf16⟩
  | 113 => ⟨S16384x512, .f32⟩
  | 114 => ⟨S16384x4x128, .f32⟩
  | 115 => ⟨S16384x512, .f32⟩
  | 116 => ⟨S16384x4x128, .f32⟩
  | 117 => ⟨S16384x512, .f32⟩
  | 118 => ⟨S16384x4x128, .f32⟩
  | 119 => ⟨S16384x4x16, .f32⟩
  | 120 => ⟨S16384x4x16, .f32⟩
  | 121 => ⟨S16384x4x96, .f32⟩
  | 122 => ⟨S16384x1x16, .f32⟩
  | 123 => ⟨S16384x1x16, .f32⟩
  | 124 => ⟨S16384x4x16, .f32⟩
  | 125 => ⟨S16384x4x16, .f32⟩
  | 126 => ⟨S16384x4x16, .f32⟩
  | 127 => ⟨S16384x4x16, .f32⟩
  | _ => ⟨S16384x1024, .f32⟩

abbrev hbmTy0_1 (i : Nat) : BufTy := match i % 128 with
  | 0 => ⟨S16384x4x16, .f32⟩
  | 1 => ⟨S16384x4x16, .f32⟩
  | 2 => ⟨S16384x4x16, .f32⟩
  | 3 => ⟨S16384x4x16, .f32⟩
  | 4 => ⟨S16384x4x16, .f32⟩
  | 5 => ⟨S16384x4x16, .f32⟩
  | 6 => ⟨S16384x4x128, .f32⟩
  | 7 => ⟨S_, .f32⟩
  | 8 => ⟨S16384x4x128, .f32⟩
  | 9 => ⟨S16384x4x128, .f32⟩
  | 10 => ⟨S16384x4x16, .f32⟩
  | 11 => ⟨S16384x4x16, .f32⟩
  | 12 => ⟨S16384x4x96, .f32⟩
  | 13 => ⟨S16384x1x16, .f32⟩
  | 14 => ⟨S16384x1x16, .f32⟩
  | 15 => ⟨S16384x4x16, .f32⟩
  | 16 => ⟨S16384x4x16, .f32⟩
  | 17 => ⟨S16384x4x16, .f32⟩
  | 18 => ⟨S16384x4x16, .f32⟩
  | 19 => ⟨S16384x4x16, .f32⟩
  | 20 => ⟨S16384x4x16, .f32⟩
  | 21 => ⟨S16384x4x16, .f32⟩
  | 22 => ⟨S16384x4x16, .f32⟩
  | 23 => ⟨S16384x4x16, .f32⟩
  | 24 => ⟨S16384x4x16, .f32⟩
  | 25 => ⟨S16384x4x128, .f32⟩
  | 26 => ⟨S16384x512, .f32⟩
  | 27 => ⟨S16384x512, .f32⟩
  | 28 => ⟨S16384x512, .f32⟩
  | 29 => ⟨S16384x1536, .f32⟩
  | 30 => ⟨S4096x4x1536, .f32⟩
  | 31 => ⟨S4x4096x1536, .f32⟩
  | 32 => ⟨S4x4096x1536, .bf16⟩
  | 33 => ⟨S16384x512, .f32⟩
  | 34 => ⟨S16384x4x128, .f32⟩
  | 35 => ⟨S16384x512, .f32⟩
  | 36 => ⟨S16384x4x128, .f32⟩
  | 37 => ⟨S16384x512, .f32⟩
  | 38 => ⟨S16384x4x128, .f32⟩
  | 39 => ⟨S16384x4x16, .f32⟩
  | 40 => ⟨S16384x4x16, .f32⟩
  | 41 => ⟨S16384x4x96, .f32⟩
  | 42 => ⟨S16384x1x16, .f32⟩
  | 43 => ⟨S16384x1x16, .f32⟩
  | 44 => ⟨S16384x4x16, .f32⟩
  | 45 => ⟨S16384x4x16, .f32⟩
  | 46 => ⟨S16384x4x16, .f32⟩
  | 47 => ⟨S16384x4x16, .f32⟩
  | 48 => ⟨S16384x4x16, .f32⟩
  | 49 => ⟨S16384x4x16, .f32⟩
  | 50 => ⟨S16384x4x16, .f32⟩
  | 51 => ⟨S16384x4x16, .f32⟩
  | 52 => ⟨S16384x4x16, .f32⟩
  | 53 => ⟨S16384x4x16, .f32⟩
  | 54 => ⟨S16384x4x128, .f32⟩
  | 55 => ⟨S_, .f32⟩
  | 56 => ⟨S16384x4x128, .f32⟩
  | 57 => ⟨S16384x4x128, .f32⟩
  | 58 => ⟨S16384x4x16, .f32⟩
  | 59 => ⟨S16384x4x16, .f32⟩
  | 60 => ⟨S16384x4x96, .f32⟩
  | 61 => ⟨S16384x1x16, .f32⟩
  | 62 => ⟨S16384x1x16, .f32⟩
  | 63 => ⟨S16384x4x16, .f32⟩
  | 64 => ⟨S16384x4x16, .f32⟩
  | 65 => ⟨S16384x4x16, .f32⟩
  | 66 => ⟨S16384x4x16, .f32⟩
  | 67 => ⟨S16384x4x16, .f32⟩
  | 68 => ⟨S16384x4x16, .f32⟩
  | 69 => ⟨S16384x4x16, .f32⟩
  | 70 => ⟨S16384x4x16, .f32⟩
  | 71 => ⟨S16384x4x16, .f32⟩
  | 72 => ⟨S16384x4x16, .f32⟩
  | 73 => ⟨S16384x4x128, .f32⟩
  | 74 => ⟨S16384x512, .f32⟩
  | 75 => ⟨S16384x512, .f32⟩
  | 76 => ⟨S16384x512, .f32⟩
  | 77 => ⟨S16384x1536, .f32⟩
  | 78 => ⟨S1024x16x1536, .f32⟩
  | 79 => ⟨S16x1024x1536, .f32⟩
  | 80 => ⟨S16x1024x1536, .bf16⟩
  | 81 => ⟨S16384x5120, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call0_v0 : Ref sig .tc := ⟨.hbm, 46, rfl⟩
abbrev main_call0_call0_cst : Ref sig .tc := ⟨.hbm, 47, rfl⟩
abbrev main_call0_call0_v0 : Ref sig .tc := ⟨.hbm, 48, rfl⟩
abbrev main_call0_call0_v1 : Ref sig .tc := ⟨.hbm, 49, rfl⟩
abbrev main_call0_call0_v2 : Ref sig .tc := ⟨.hbm, 50, rfl⟩
abbrev main_call0_call0_v3 : Ref sig .tc := ⟨.hbm, 51, rfl⟩
abbrev main_call0_call0_v4 : Ref sig .tc := ⟨.hbm, 52, rfl⟩
abbrev main_call0_call0_v5 : Ref sig .tc := ⟨.hbm, 53, rfl⟩
abbrev main_call0_call0_v6 : Ref sig .tc := ⟨.hbm, 54, rfl⟩
abbrev main_call0_call0_v7 : Ref sig .tc := ⟨.hbm, 55, rfl⟩
abbrev main_call0_call0_v8 : Ref sig .tc := ⟨.hbm, 56, rfl⟩
abbrev main_call0_call0_v9 : Ref sig .tc := ⟨.hbm, 57, rfl⟩
abbrev main_call0_call0_v10 : Ref sig .tc := ⟨.hbm, 58, rfl⟩
abbrev main_call0_call0_v11 : Ref sig .tc := ⟨.hbm, 59, rfl⟩
abbrev main_call0_v1 : Ref sig .tc := ⟨.hbm, 60, rfl⟩
abbrev main_v32 : Ref sig .tc := ⟨.hbm, 61, rfl⟩
abbrev main_cst_5 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_6 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_7 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_cst_8 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩

abbrev nD : Nat := 1
abbrev τ : Topo := Topo.v7x

variable {F : FTy → Type} [FloatOps F]
-- ==== Proof.Softmax.lean ====
/- One row of a softmax over the extended reals, as the kernel and as the reference write it. The kernel subtracts the
   row's maximum, sums the exponentials times the values and the exponentials times one, and divides. The reference takes
   the logarithm of the summed exponentials first and weights the values by the exponential of score minus logarithm.
   A masked score is ⊥. -/
module

public import Idealize.ShloMosaic.PureOps.Ideal
public import Idealize.ShloMosaic.PureOps.Ideal.Laws

@[expose] public section

noncomputable section

namespace Cert.Softmax

open Idealize.ShloMosaic

variable {N : ℕ}

/-- The largest score of a row (⊥ for an empty one). -/
def top (s : Fin N → EReal) : EReal := Finset.univ.fold max ⊥ s

/-- The kernel's weight of key `j`: the exponential of the score less the row's maximum. -/
def wgt (s : Fin N → EReal) (j : Fin N) : EReal := Ideal.exp (s j - top s)

/-- The kernel's output entry: the weighted values over the summed weights. -/
def outK (s v : Fin N → EReal) : EReal := Ideal.div (∑ j, wgt s j * v j) (∑ j, wgt s j * 1)

/-- The kernel's logarithm of the summed exponentials. -/
def lseK (s : Fin N → EReal) : EReal := top s + Ideal.log (∑ j, wgt s j * 1)

/-- The reference's logarithm of the summed exponentials. -/
def lseR (s : Fin N → EReal) : EReal := top s + Ideal.log (0 + ∑ j, Ideal.exp (s j - top s))

/-- The reference's output entry. -/
def outR (s v : Fin N → EReal) : EReal := ∑ j, v j * Ideal.exp (s j - lseR s)

theorem top_eq_sup (s : Fin N → EReal) : top s = Finset.univ.sup s := rfl

theorem le_top' (s : Fin N → EReal) (j : Fin N) : s j ≤ top s := by
  rw [top_eq_sup]; exact Finset.le_sup (Finset.mem_univ j)

/-- A row of scores below ⊤ with one real score has a real maximum. -/
theorem top_real (s : Fin N → EReal) (hs : ∀ j, s j ≠ ⊤) (h0 : ∃ j, s j ≠ ⊥) : ∃ μ : ℝ, top s = (μ : EReal) := by
  obtain ⟨j0, h0⟩ := h0
  have hb : top s ≠ ⊥ := fun h => h0 (le_bot_iff.mp (h ▸ le_top' s j0))
  have ht : top s ≠ ⊤ := by
    rw [top_eq_sup]
    refine ne_of_lt ((Finset.sup_lt_iff bot_lt_top).mpr fun j _ => lt_top_iff_ne_top.mpr (hs j))
  exact ⟨(top s).toReal, (EReal.coe_toReal ht hb).symm⟩

/-- A weight over a real maximum is a nonnegative real. -/
theorem wgt_real (s : Fin N → EReal) (hs : ∀ j, s j ≠ ⊤) (μ : ℝ) (j : Fin N) :
    ∃ e : ℝ, 0 ≤ e ∧ Ideal.exp (s j - (μ : EReal)) = (e : EReal) ∧ (s j ≠ ⊥ → 0 < e) ∧ (s j = ⊥ → e = 0) := by
  rcases h : s j with _ | _ | x
  · exact ⟨0, le_refl _, by simp; rfl, fun h => absurd rfl h, fun _ => rfl⟩
  · exact absurd h (hs j)
  · exact ⟨Real.exp (x - μ), (Real.exp_pos _).le, rfl, fun _ => Real.exp_pos _, fun h => absurd h (EReal.coe_ne_bot x)⟩

/-- Multiplying by a nonnegative real distributes over a sum of extended reals. -/
theorem sum_mul_coe {ι : Type} (t : Finset ι) (f : ι → EReal) (c : ℝ) (hc : 0 ≤ c) :
    (∑ j ∈ t, f j) * (c : EReal) = ∑ j ∈ t, f j * (c : EReal) := by
  classical
  induction t using Finset.induction_on with
  | empty => simp
  | insert a t ha ih =>
    rw [Finset.sum_insert ha, Finset.sum_insert ha,
      EReal.right_distrib_of_nonneg_of_ne_top (EReal.coe_nonneg.mpr hc) (EReal.coe_ne_top c), ih]

/-- A sum of reals, as an extended real. -/
theorem coe_sum {ι : Type} (t : Finset ι) (f : ι → ℝ) : ((∑ j ∈ t, f j : ℝ) : EReal) = ∑ j ∈ t, (f j : EReal) := by
  classical
  induction t using Finset.induction_on with
  | empty => simp
  | insert a t ha ih => rw [Finset.sum_insert ha, Finset.sum_insert ha, EReal.coe_add, ih]

/-- What both readings of a row come to: its real maximum `μ`, the real weights `e` and their positive sum. -/
theorem row_data (s : Fin N → EReal) (hs : ∀ j, s j ≠ ⊤) (h0 : ∃ j, s j ≠ ⊥) :
    ∃ (μ : ℝ) (e : Fin N → ℝ), top s = (μ : EReal) ∧ (∀ j, 0 ≤ e j) ∧ (∀ j, wgt s j = (e j : EReal))
      ∧ (∀ j, s j = ⊥ → e j = 0) ∧ 0 < ∑ j, e j
      ∧ lseR s = ((μ + Real.log (∑ j, e j) : ℝ) : EReal) := by
  obtain ⟨μ, hμ⟩ := top_real s hs h0
  choose e he hw hp hz using wgt_real s hs μ
  have hpos : 0 < ∑ j, e j := by
    obtain ⟨j0, h0⟩ := h0
    exact Finset.sum_pos' (fun j _ => he j) ⟨j0, Finset.mem_univ _, hp j0 h0⟩
  refine ⟨μ, e, hμ, he, fun j => by unfold wgt; rw [hμ, hw], hz, hpos, ?_⟩
  unfold lseR
  rw [hμ]
  have : (0 : EReal) + ∑ j, Ideal.exp (s j - (μ : EReal)) = ((∑ j, e j : ℝ) : EReal) := by
    rw [zero_add, coe_sum]; exact Finset.sum_congr rfl fun j _ => hw j
  rw [this, Ideal.log_coe, if_neg (not_le.mpr hpos), EReal.coe_add]

/-- **The logarithms agree**: a row of scores below ⊤ with one real score. -/
theorem lse_eq (s : Fin N → EReal) (hs : ∀ j, s j ≠ ⊤) (h0 : ∃ j, s j ≠ ⊥) : lseK s = lseR s := by
  obtain ⟨μ, e, hμ, he, hw, hz, hpos, hl⟩ := row_data s hs h0
  rw [hl]; unfold lseK
  have : ∑ j, wgt s j * 1 = ((∑ j, e j : ℝ) : EReal) := by
    rw [coe_sum]; exact Finset.sum_congr rfl fun j _ => by rw [mul_one, hw]
  rw [this, hμ, Ideal.log_coe, if_neg (not_le.mpr hpos), EReal.coe_add]

/-- **The outputs agree**, for values which agree wherever the score is not masked; the values may be infinite. -/
theorem out_eq (s v v' : Fin N → EReal) (hs : ∀ j, s j ≠ ⊤) (h0 : ∃ j, s j ≠ ⊥) (hv : ∀ j, s j ≠ ⊥ → v j = v' j) :
    outK s v = outR s v' := by
  obtain ⟨μ, e, hμ, he, hw, hz, hpos, hl⟩ := row_data s hs h0
  unfold outK outR
  have : ∑ j, wgt s j * 1 = ((∑ j, e j : ℝ) : EReal) := by
    rw [coe_sum]; exact Finset.sum_congr rfl fun j _ => by rw [mul_one, hw]
  rw [this, Ideal.div_coe hpos.ne', sum_mul_coe _ _ _ (one_div_nonneg.mpr hpos.le)]
  refine Finset.sum_congr rfl fun j _ => ?_
  have hE : Ideal.exp (s j - lseR s) = ((e j * (1 / ∑ j, e j) : ℝ) : EReal) := by
    rw [hl]
    rcases h : s j with _ | _ | x
    · rw [hz j h, zero_mul]; simp; rfl
    · exact absurd h (hs j)
    · have h1 := hw j
      unfold wgt at h1
      rw [hμ, h] at h1
      have h2 : e j = Real.exp (x - μ) := by
        have : ((Real.exp (x - μ) : ℝ) : EReal) = (e j : EReal) := h1
        exact (EReal.coe_eq_coe_iff.mp this).symm
      show ((Real.exp (x - (μ + Real.log (∑ j, e j))) : ℝ) : EReal) = _
      rw [h2, show x - (μ + Real.log (∑ j, e j)) = (x - μ) - Real.log (∑ j, e j) by ring, Real.exp_sub,
        Real.exp_log hpos, mul_one_div]
  rw [hE, hw]
  by_cases hb : s j = ⊥
  · rw [hz j hb]; simp
  · rw [hv j hb, EReal.coe_mul, mul_assoc, mul_comm (v' j) _, ← mul_assoc, mul_comm (v' j)]

end Cert.Softmax

end
-- ==== Proof.Tile.lean ====
/- The attention of one 128-row block and one head as the kernel computes it, stated once: `scores`, `rowTop`, `pv`,
   `outTile`, `lseTile`. Then what each is at an index over the extended reals. -/
module

public import proofs.«01_k».proof.Proof.Gen.Dil16Ideal
public import proofs.«01_k».proof.Proof.Softmax
public import Idealize.ShloMosaic.Lib.Pipeline.Value
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.IdealHost
public import Idealize.ShloMosaic.Lib.KernelVsHost

@[expose] public section

noncomputable section

namespace Cert.Tile

open Cert.Dil16Ideal Cert.Dil16Ideal.Gen Idealize.ShloMosaic Idealize.ShloMosaic.ValueIdx Idealize.SL.Sem

section Def
variable {F : FTy → Type} [FloatOps F]

/-- The block's scores: queries times keys, plus the mask. -/
def scores (b : FVec F S128x256 .f32) (q : FVec F S128x128 .bf16) (k : FVec F S256x128 .bf16) : FVec F S128x256 .f32 :=
  addf (matmul dot_S128x128_S256x128_S128x256_1_1_0_0_n_n none q k (constant S128x256 .f32 0x00000000#32)) b

/-- Each row's maximum, as a column. -/
def rowTop (s : FVec F S128x256 .f32) : FVec F S128x1 .f32 :=
  shapeCast S128x1 (multiReduction .maximumf [1] S128 s 0xFF800000#32 reduces_S128x256_S128 (.inl rfl) rfl) shapeCasts_S128_S128x1

/-- The weights times the values and times a matrix of ones, side by side. -/
def pv (s : FVec F S128x256 .f32) (v : FVec F S256x128 .bf16) : FVec F S128x256 .f32 :=
  matmul dot_S128x256_S256x256_S128x256_1_0_0_1_n_n none
    (truncf .bf16 (exp (subf s (broadcastTo S128x256 (rowTop s) broadcasts_S128x1_S128x256))) bitsLt_bf16_f32)
    (concatenate S256x256 1 [⟨S256x128, v⟩, ⟨S256x128, broadcast S256x128 (Scalar.ofBits .bf16 0x3F80#16)⟩]
      concatenates_S256x128_S256x128_S256x256_d1)
    (constant S128x256 .f32 0x00000000#32)

/-- The summed weights, in every lane. -/
def den (s : FVec F S128x256 .f32) (v : FVec F S256x128 .bf16) : FVec F S128x128 .f32 :=
  extractStridedSlice S128x128 ![0, 128] (pv s v) slices_S128x256_o0_128_S128x128

/-- The block's output for one head. -/
def outTile (s : FVec F S128x256 .f32) (v : FVec F S256x128 .bf16) : FVec F S1x128x128 .bf16 :=
  shapeCast S1x128x128 (truncf .bf16 (divf (extractStridedSlice S128x128 ![0, 0] (pv s v) slices_S128x256_o0_0_S128x128)
    (den s v)) bitsLt_bf16_f32) shapeCasts_S128x128_S1x128x128

/-- The block's logarithms for head number `n`, written into lane `n` of the tile `t`. -/
def lseTile (n : BitVec 32) (s : FVec F S128x256 .f32) (v : FVec F S256x128 .bf16) (t : FVec F S128x128 .f32) :
    FVec F S128x128 .f32 :=
  select (cmpi .eq (iota .tc S128x128 32 [1] iota_S128x128_d1_w32) (broadcast S128x128 n))
    (addf (broadcastTo S128x128 (rowTop s) broadcasts_S128x1_S128x128) (log (den s v))) t

/-- The tile of zeros the logarithms are written into. -/
def zeros : FVec F S128x128 .f32 := broadcast S128x128 (Scalar.ofBits .f32 0x00000000#32)

/-- A [1,128,128] block as a matrix. -/
def mat (x : Vec F S1x128x128 .bf16) : FVec F S128x128 .bf16 := shapeCast S128x128 x shapeCasts_S1x128x128_S128x128

/-- A [1,256,128] block as a matrix. -/
def mat2 (x : Vec F S1x256x128 .bf16) : FVec F S256x128 .bf16 := shapeCast S256x128 x shapeCasts_S1x256x128_S256x128

/-- Two [1,128,128] blocks, one above the other. -/
def stack (x y : Vec F S1x128x128 .bf16) : FVec F S256x128 .bf16 :=
  concatenate S256x128 0 [⟨S128x128, mat x⟩, ⟨S128x128, mat y⟩] concatenates_S128x128_S128x128_S256x128_d0

/-- The four heads' logarithms as the kernel gathers them in one tile. -/
def lseAll (s : Fin 4 → FVec F S128x256 .f32) (v : Fin 4 → FVec F S256x128 .bf16) : FVec F S1x128x128 .f32 :=
  shapeCast S1x128x128 (lseTile 3#32 (s 3) (v 3) (lseTile 2#32 (s 2) (v 2) (lseTile 1#32 (s 1) (v 1)
    (lseTile 0#32 (s 0) (v 0) zeros)))) shapeCasts_S128x128_S1x128x128

end Def

/-! ## At an index, over the extended reals -/

/-- Scores at an index: the dot product plus the mask's entry. -/
theorem scores_apply (b : FVec Ideal S128x256 .f32) (q : FVec Ideal S128x128 .bf16) (k : FVec Ideal S256x128 .bf16)
    (a : Fin 128) (j : Fin 256) :
    scores b q k (ix2 a j) = (∑ d : Fin 128, q (ix2 a d) * k (ix2 j d)) + b (ix2 a j) := by
  unfold scores
  rw [addf_apply]
  congr 1
  refine (Ideal.matmul_transposedRhs_apply none q k (constant S128x256 .f32 0x00000000#32) a j).trans ?_
  rw [constant_apply, Ideal.ofBits_zero_f32, zero_add]

/-- Minus infinity's word. -/
theorem ofBits_ninf : Ideal.ofBits .f32 0xFF800000#32 = ⊥ := by simp [Ideal.ofBits, Ideal.ieee]

/-- A row's maximum at an index. -/
theorem rowTop_apply (s : FVec Ideal S128x256 .f32) (a : Fin 128) (u : Fin 1) :
    rowTop s (ix2 a u) = Softmax.top fun j : Fin 256 => s (ix2 a j) := by
  unfold rowTop
  rw [shapeCast_a_a1_apply]
  refine (Ideal.multiReduction_maximumf_single s 0xFF800000#32 reduces_S128x256_S128 (.inl rfl) rfl (ix1 a)).trans ?_
  show Finset.fold max (Ideal.ofBits .f32 0xFF800000#32) _ _ = _
  rw [ofBits_ninf]
  refine congrArg (fun f => Finset.fold max ⊥ f Finset.univ) (funext fun j => congrArg s ?_)
  funext x; apply Fin.ext
  match x with
  | ⟨0, _⟩ => rfl
  | ⟨1, _⟩ => rfl

/-- A column spread over lanes, at an index. -/
theorem spread_apply {n : ℕ} (x : FVec Ideal S128x1 .f32) (h : S128x1.Broadcasts ⟨2, ![128, n]⟩) (a : Fin 128) (j : Fin n) :
    broadcastTo ⟨2, ![128, n]⟩ x h (ix2 a j) = x (ix2 a 0) := by
  refine congrArg x ?_
  funext y; apply Fin.ext
  match y with
  | ⟨0, _⟩ => rfl
  | ⟨1, _⟩ => rfl

/-- The weights times values or ones, at an index: column `c` of `[v | 1]`. -/
theorem pv_apply (s : FVec Ideal S128x256 .f32) (v : FVec Ideal S256x128 .bf16) (a : Fin 128) (c : Fin 256) :
    pv s v (ix2 a c) = ∑ j : Fin 256, Softmax.wgt (fun j : Fin 256 => s (ix2 a j)) j
      * (if h : c.val < 128 then v (ix2 j ⟨c.val, h⟩) else 1) := by
  unfold pv
  refine (Ideal.matmul_plain_apply none _ _ (constant S128x256 .f32 0x00000000#32) a c).trans ?_
  rw [constant_apply, Ideal.ofBits_zero_f32, zero_add]
  refine Finset.sum_congr rfl fun j _ => congrArg₂ (· * ·) ?_ ?_
  · rw [truncf_apply]
    show Ideal.exp (s (ix2 a j) - broadcastTo S128x256 (rowTop s) broadcasts_S128x1_S128x256 (ix2 a j)) = _
    rw [spread_apply, rowTop_apply]; rfl
  · by_cases h : c.val < 128
    · rw [dif_pos h]
      refine concatenate_pair_apply_left (t := S256x256) (s₁ := S256x128) (s₂ := S256x128) (1 : Fin 2) v _ _ (ix2 j c) rfl (ix2 j ⟨c.val, h⟩) fun y => ?_
      match y with
      | ⟨0, _⟩ => rfl
      | ⟨1, _⟩ => rfl
    · rw [dif_neg h]
      have hc := c.isLt
      refine (concatenate_pair_apply_right (t := S256x256) (s₁ := S256x128) (s₂ := S256x128) (1 : Fin 2) v _ _ (ix2 j c) rfl rfl
        (ix2 (n0 := 256) (n1 := 128) j ⟨c.val - 128, by omega⟩) (fun y hy => ?_) ?_).trans
        Ideal.ofBits_one_bf16
      · match y with
        | ⟨0, _⟩ => rfl
        | ⟨1, _⟩ => exact absurd rfl hy
      · show c.val - 128 + 128 = c.val; omega

/-- The left half's columns carry the weighted values. -/
theorem pv_left (s : FVec Ideal S128x256 .f32) (v : FVec Ideal S256x128 .bf16) (a d : Fin 128) :
    extractStridedSlice S128x128 ![0, 0] (pv s v) slices_S128x256_o0_0_S128x128 (ix2 a d)
      = ∑ j : Fin 256, Softmax.wgt (fun j : Fin 256 => s (ix2 a j)) j * v (ix2 j d) := by
  refine (extractStridedSlice_apply _ _ _ _ (ix2 a ⟨d.val, by omega⟩) fun y => ?_).trans ?_
  · match y with
    | ⟨0, _⟩ => show a.val = 0 + a.val; omega
    | ⟨1, _⟩ => show d.val = 0 + d.val; omega
  · rw [pv_apply]
    exact Finset.sum_congr rfl fun j _ => congrArg₂ (· * ·) rfl (dif_pos d.isLt)

/-- The right half's columns carry the summed weights. -/
theorem den_apply (s : FVec Ideal S128x256 .f32) (v : FVec Ideal S256x128 .bf16) (a d : Fin 128) :
    den s v (ix2 a d) = ∑ j : Fin 256, Softmax.wgt (fun j : Fin 256 => s (ix2 a j)) j * 1 := by
  unfold den
  refine (extractStridedSlice_apply _ _ _ _ (ix2 a ⟨128 + d.val, by omega⟩) fun y => ?_).trans ?_
  · match y with
    | ⟨0, _⟩ => show a.val = 0 + a.val; omega
    | ⟨1, _⟩ => rfl
  · rw [pv_apply]
    exact Finset.sum_congr rfl fun j _ => congrArg₂ (· * ·) rfl (dif_neg (by show ¬(128 + d.val < 128); omega))

/-- The output tile at an index. -/
theorem outTile_apply (s : FVec Ideal S128x256 .f32) (v : FVec Ideal S256x128 .bf16) (u : Fin 1) (a d : Fin 128) :
    outTile s v (ix3 u a d) = Softmax.outK (fun j : Fin 256 => s (ix2 a j)) fun j : Fin 256 => v (ix2 j d) := by
  unfold outTile
  rw [shapeCast_ab_1ab_apply, truncf_apply, divf_apply, pv_left, den_apply]; rfl

/-- One head's logarithms written into its lane, at an index. -/
theorem lseTile_apply (n : Fin 4) (s : FVec Ideal S128x256 .f32) (v : FVec Ideal S256x128 .bf16) (t : FVec Ideal S128x128 .f32)
    (a d : Fin 128) : lseTile (BitVec.ofNat 32 n.val) s v t (ix2 a d)
      = if d.val = n.val then Softmax.lseK fun j : Fin 256 => s (ix2 a j) else t (ix2 a d) := by
  unfold lseTile
  rw [select_apply, addf_apply, spread_apply, rowTop_apply]
  show Scalar.select (IntOp.cmpi .eq (iota .tc S128x128 32 [1] iota_S128x128_d1_w32 (ix2 a d)) (BitVec.ofNat 32 n.val))
    (_ + Ideal.log (den s v (ix2 a d))) _ = _
  rw [den_apply, iota_single_apply]
  have hn := n.isLt
  have hd := d.isLt
  by_cases h : d.val = n.val
  · rw [if_pos h]
    have : IntOp.cmpi .eq (BitVec.ofNat 32 (ix2 a d 1 : Fin 128).val) (BitVec.ofNat 32 n.val) = 1#1 := by
      show BitVec.ofBool (BitVec.ofNat 32 d.val == BitVec.ofNat 32 n.val) = 1#1
      rw [h]; simp
    rw [this, select_one]; rfl
  · rw [if_neg h]
    have : IntOp.cmpi .eq (BitVec.ofNat 32 (ix2 a d 1 : Fin 128).val) (BitVec.ofNat 32 n.val) = 0#1 := by
      show BitVec.ofBool (BitVec.ofNat 32 d.val == BitVec.ofNat 32 n.val) = 0#1
      have : (BitVec.ofNat 32 d.val == BitVec.ofNat 32 n.val) = false := by
        rw [beq_eq_false_iff_ne]
        intro e
        have := congrArg BitVec.toNat e
        simp only [BitVec.toNat_ofNat] at this
        omega
      rw [this]; rfl
    rw [this, select_zero]

/-- The tile of logarithms at an index: head `d` in lane `d`, zero in the lanes past the heads. -/
theorem lseAll_apply (s : Fin 4 → FVec Ideal S128x256 .f32) (v : Fin 4 → FVec Ideal S256x128 .bf16) (u : Fin 1) (a d : Fin 128) :
    lseAll s v (ix3 u a d) = if h : d.val < 4 then Softmax.lseK fun j : Fin 256 => s ⟨d.val, h⟩ (ix2 a j) else 0 := by
  unfold lseAll
  rw [shapeCast_ab_1ab_apply]
  rw [show (3#32 : BitVec 32) = BitVec.ofNat 32 (3 : Fin 4).val from rfl, lseTile_apply,
    show (2#32 : BitVec 32) = BitVec.ofNat 32 (2 : Fin 4).val from rfl, lseTile_apply,
    show (1#32 : BitVec 32) = BitVec.ofNat 32 (1 : Fin 4).val from rfl, lseTile_apply,
    show (0#32 : BitVec 32) = BitVec.ofNat 32 (0 : Fin 4).val from rfl, lseTile_apply]
  have hz : (zeros : FVec Ideal S128x128 .f32) (ix2 a d) = 0 := Ideal.ofBits_zero_f32
  rw [hz]
  obtain ⟨d, hd⟩ := d
  by_cases h : d < 4
  · rw [dif_pos h]
    interval_cases d <;> rfl
  · have h3 : ¬ d = 3 := fun e => h (by omega)
    have h2 : ¬ d = 2 := fun e => h (by omega)
    have h1 : ¬ d = 1 := fun e => h (by omega)
    have h0 : ¬ d = 0 := fun e => h (by omega)
    rw [dif_neg h]
    exact (if_neg h3).trans ((if_neg h2).trans ((if_neg h1).trans (if_neg h0)))

/-- A block's matrix at an index. -/
theorem mat_apply (x : Vec Ideal S1x128x128 .bf16) (a d : Fin 128) : mat x (ix2 a d) = x (ix3 0 a d) :=
  shapeCast_1ab_ab_apply x _ a d

/-- A double block's matrix at an index. -/
theorem mat2_apply (x : Vec Ideal S1x256x128 .bf16) (j : Fin 256) (d : Fin 128) : mat2 x (ix2 j d) = x (ix3 0 j d) :=
  shapeCast_1ab_ab_apply x _ j d

/-- Two stacked blocks at an index. -/
theorem stack_apply (x y : Vec Ideal S1x128x128 .bf16) (j : Fin 256) (d : Fin 128) : stack x y (ix2 j d)
    = if h : j.val < 128 then x (ix3 0 ⟨j.val, h⟩ d) else y (ix3 0 ⟨j.val - 128, by omega⟩ d) := by
  unfold stack
  by_cases h : j.val < 128
  · rw [dif_pos h, ← mat_apply x]
    refine concatenate_pair_apply_left (t := S256x128) (s₁ := S128x128) (s₂ := S128x128) (0 : Fin 2) (mat x) (mat y) _
      (ix2 j d) rfl (ix2 ⟨j.val, h⟩ d) fun y => ?_
    match y with
    | ⟨0, _⟩ => rfl
    | ⟨1, _⟩ => rfl
  · rw [dif_neg h, ← mat_apply y]
    refine concatenate_pair_apply_right (t := S256x128) (s₁ := S128x128) (s₂ := S128x128) (0 : Fin 2) (mat x) (mat y) _
      (ix2 j d) rfl rfl (ix2 (n0 := 128) (n1 := 128) ⟨j.val - 128, by omega⟩ d) (fun y hy => ?_) ?_
    · match y with
      | ⟨0, _⟩ => exact absurd rfl hy
      | ⟨1, _⟩ => rfl
    · show j.val - 128 + 128 = j.val; omega

end Cert.Tile

end
-- ==== Proof.Rows.lean ====
/- One row of the windowed attention, as a function of a stream's entries: which keys a row sees, its scores and its values.
   Both programs are read in these terms. -/
module

public import proofs.«01_k».proof.Proof.Softmax

@[expose] public section

noncomputable section

namespace Cert.Rows

open Idealize.ShloMosaic

/-- Row `a` of block `n` sees key `j` of its 256 keys (the block before and its own): 128 steps back at most, not ahead,
    and nothing before the stream's start. -/
def Sees (n a j : ℕ) : Prop := a ≤ j ∧ j ≤ a + 128 ∧ (0 < n ∨ 128 ≤ j)

instance (n a j : ℕ) : Decidable (Sees n a j) := by unfold Sees; infer_instance

/-- A row's scores: the dot products of its query with the keys it sees, minus infinity elsewhere. -/
def rowS (X : ℕ → ℕ → EReal) (n h a : ℕ) (j : Fin 256) : EReal :=
  if Sees n a j.val then ∑ d : Fin 128, X (n * 128 + a) (h * 128 + d.val) * X (n * 128 + j.val - 128) (512 + (h * 128 + d.val)) else ⊥

/-- A row's values: column `d` of the 256 keys' values. -/
def rowV (X : ℕ → ℕ → EReal) (n h d : ℕ) (j : Fin 256) : EReal := X (n * 128 + j.val - 128) (1024 + (h * 128 + d))

/-- The attention's output at row `t`, column `c`. -/
def out (X : ℕ → ℕ → EReal) (t c : ℕ) : EReal :=
  Softmax.outK (rowS X (t / 128) (c / 128) (t % 128)) (rowV X (t / 128) (c / 128) (c % 128))

/-- The logarithm of the summed exponentials at row `t`, lane `c`: head `c` in lane `c`, zero past the heads. -/
def lse (X : ℕ → ℕ → EReal) (t c : ℕ) : EReal :=
  if c < 4 then Softmax.lseK (rowS X (t / 128) c (t % 128)) else 0

/-- A sum of finite products is finite. -/
theorem sum_ne_top {ι : Type} (s : Finset ι) (f : ι → EReal) (h : ∀ i ∈ s, f i ≠ ⊤) : ∑ i ∈ s, f i ≠ ⊤ := by
  classical
  induction s using Finset.induction_on with
  | empty => simp
  | insert a s ha ih =>
    rw [Finset.sum_insert ha]
    exact EReal.add_ne_top (h a (Finset.mem_insert_self a s)) (ih fun i hi => h i (Finset.mem_insert_of_mem hi))

/-- The same from below. -/
theorem sum_ne_bot {ι : Type} (s : Finset ι) (f : ι → EReal) (h : ∀ i ∈ s, f i ≠ ⊥) : ∑ i ∈ s, f i ≠ ⊥ := by
  classical
  induction s using Finset.induction_on with
  | empty => simp
  | insert a s ha ih =>
    rw [Finset.sum_insert ha]
    exact fun e => (EReal.add_eq_bot_iff.1 e).elim (h a (Finset.mem_insert_self a s))
      (ih fun i hi => h i (Finset.mem_insert_of_mem hi))

/-- The product of two finite numbers is finite. -/
theorem mul_fin {x y : EReal} (hx : x ≠ ⊤ ∧ x ≠ ⊥) (hy : y ≠ ⊤ ∧ y ≠ ⊥) : x * y ≠ ⊤ ∧ x * y ≠ ⊥ := by
  lift x to ℝ using hx
  lift y to ℝ using hy
  rw [← EReal.coe_mul]
  exact ⟨EReal.coe_ne_top _, EReal.coe_ne_bot _⟩

/-- With finite queries and keys no score is plus infinity. -/
theorem rowS_ne_top (X : ℕ → ℕ → EReal) (hX : ∀ t c, c < 1024 → X t c ≠ ⊤ ∧ X t c ≠ ⊥) (n h a : ℕ) (hh : h < 4) (j : Fin 256) :
    rowS X n h a j ≠ ⊤ := by
  unfold rowS
  split
  · exact sum_ne_top _ _ fun d _ => (mul_fin (hX _ _ (by have := d.isLt; omega)) (hX _ _ (by have := d.isLt; omega))).1
  · exact bot_ne_top

/-- Every row sees itself, with a finite score. -/
theorem rowS_self (X : ℕ → ℕ → EReal) (hX : ∀ t c, c < 1024 → X t c ≠ ⊤ ∧ X t c ≠ ⊥) (n h a : ℕ) (hh : h < 4) (ha : a < 128) :
    ∃ j : Fin 256, rowS X n h a j ≠ ⊥ := by
  refine ⟨⟨a + 128, by omega⟩, ?_⟩
  unfold rowS
  rw [if_pos (by unfold Sees; dsimp only; omega)]
  exact sum_ne_bot _ _ fun d _ => (mul_fin (hX _ _ (by have := d.isLt; omega)) (hX _ _ (by have := d.isLt; omega))).2

/-- A score other than minus infinity is of a key the row sees. -/
theorem sees_of_ne_bot {X : ℕ → ℕ → EReal} {n h a : ℕ} {j : Fin 256} (e : rowS X n h a j ≠ ⊥) : Sees n a j.val := by
  by_contra hn
  exact e (if_neg hn)

/-- The kernel's row output depends on the values of the keys seen only. -/
theorem outK_congr {n : ℕ} (s v v' : Fin n → EReal) (h : ∀ j, s j ≠ ⊥ → v j = v' j) : Softmax.outK s v = Softmax.outK s v' := by
  unfold Softmax.outK
  congr 1
  refine Finset.sum_congr rfl fun j _ => ?_
  by_cases e : s j = ⊥
  · have : Softmax.wgt s j = 0 := by
      unfold Softmax.wgt
      rw [e, sub_eq_add_neg, EReal.bot_add]
      rfl
    rw [this, zero_mul, zero_mul]
  · rw [h j e]

end Cert.Rows

end
-- ==== Proof.Blocks.lean ====
/- What one grid point of the kernel writes, index by index: the mask, the 32 output tiles and the 8 tiles of logarithms, and from
   them the two output blocks as functions of the stream's entries. -/
module

public import proofs.«01_k».proof.Proof.Gen.Dil16Ideal.Value
public import proofs.«01_k».proof.Proof.Tile
public import proofs.«01_k».proof.Proof.Rows
public import Idealize.ShloMosaic.Lib.Pipeline.ValueKit.Tiles
public import Idealize.ShloMosaic.Lib.WordCmp

@[expose] public section

noncomputable section

namespace Cert.Blocks

open Cert.Dil16Ideal Cert.Dil16Ideal.Gen Cert.Tile Cert.Rows Idealize.ShloMosaic Idealize.ShloMosaic.ValueIdx Idealize.SL.Sem

/-! ## The mask -/

/-- The mask constant's value. -/
theorem mask_eq : (Named.named κ "mask" 0xF149F2CA#32 : Ideal .f32) = ⊥ :=
  IdealRules.named_const.ideal_named_scalar _ _ _ _ rfl

/-- A comparison of two small numbers, as the one-bit word of the numbers' comparison. -/
theorem sge_small {x y : ℕ} (hx : x < 2 ^ 31) (hy : y < 2 ^ 31) :
    IntOp.cmpi .sge (BitVec.ofNat 32 x) (BitVec.ofNat 32 y) = BitVec.ofBool (decide (y ≤ x)) :=
  WordCmp.cmpi_sge_ofNat hx hy

/-- The same, less or equal. -/
theorem sle_small {x y : ℕ} (hx : x < 2 ^ 31) (hy : y < 2 ^ 31) :
    IntOp.cmpi .sle (BitVec.ofNat 32 x) (BitVec.ofNat 32 y) = BitVec.ofBool (decide (x ≤ y)) :=
  WordCmp.cmpi_sle_ofNat hx hy

/-- Two one-bit words' conjunction. -/
theorem ofBool_and (p q : Bool) : IntOp.andi (BitVec.ofBool p) (BitVec.ofBool q) = BitVec.ofBool (p && q) := by
  cases p <;> cases q <;> rfl

/-- Two one-bit words' disjunction. -/
theorem ofBool_or (p q : Bool) : IntOp.ori (BitVec.ofBool p) (BitVec.ofBool q) = BitVec.ofBool (p || q) := by
  cases p <;> cases q <;> rfl

/-- A selection by a decided proposition. -/
theorem select_ofBool {α : Type} (p : Prop) [Decidable p] (x y : α) :
    Scalar.select (BitVec.ofBool (decide p)) x y = if p then x else y := by
  by_cases h : p
  · rw [if_pos h, decide_eq_true h]; rfl
  · rw [if_neg h, decide_eq_false h]; rfl

/-- The mask at an index: zero on the band of 129 keys, minus infinity off it. -/
theorem bias_apply (a : Fin 128) (j : Fin 256) :
    k0_pay1 (F := Ideal) (ix2 a j) = if a.val ≤ j.val ∧ j.val ≤ a.val + 128 then 0 else ⊥ := by
  have ha := a.isLt
  have hj := j.isLt
  show Scalar.select (IntOp.andi (IntOp.cmpi .sge (iota .tc S128x256 32 [1] iota_S128x256_d1_w32 (ix2 a j)) (iota .tc S128x256 32 [0] iota_S128x256_d0_w32 (ix2 a j)))
    (IntOp.cmpi .sle (iota .tc S128x256 32 [1] iota_S128x256_d1_w32 (ix2 a j)) (IntOp.addi (iota .tc S128x256 32 [0] iota_S128x256_d0_w32 (ix2 a j)) (BitVec.ofNat 32 128))))
    (Ideal.ofBits .f32 0x00000000#32) (Named.named κ "mask" 0xF149F2CA#32 : Ideal .f32) = _
  rw [iota_single_apply, iota_single_apply, mask_eq, Ideal.ofBits_zero_f32]
  show Scalar.select (IntOp.andi (IntOp.cmpi .sge (BitVec.ofNat 32 j.val) (BitVec.ofNat 32 a.val))
    (IntOp.cmpi .sle (BitVec.ofNat 32 j.val) (BitVec.ofNat 32 a.val + BitVec.ofNat 32 128))) _ _ = _
  rw [← BitVec.ofNat_add, sge_small (by omega) (by omega), sle_small (by omega) (by omega), ofBool_and, ← Bool.decide_and,
    select_ofBool]

/-- The first block's mask at an index: the band, and nothing before the stream's start. -/
theorem bias_first_apply (i : grid0.Coords) (a : Fin 128) (j : Fin 256) :
    k0_pay2 (F := Ideal) i (ix2 a j) = if Sees (i 1).val a.val j.val then 0 else ⊥ := by
  have ha := a.isLt
  have hj := j.isLt
  have hi : (i 1).val < 1 := (i 1).isLt
  show Scalar.select (IntOp.ori (IntOp.cmpi .sgt (BitVec.ofNat 32 (i 1).val) (BitVec.ofNat 32 0))
    (IntOp.cmpi .sge (iota .tc S128x256 32 [1] iota_S128x256_d1_w32 (ix2 a j)) (BitVec.ofNat 32 128)))
    (k0_pay1 (F := Ideal) (ix2 a j)) (Named.named κ "mask" 0xF149F2CA#32 : Ideal .f32) = _
  rw [iota_single_apply, mask_eq, bias_apply]
  show Scalar.select (IntOp.ori _ (IntOp.cmpi .sge (BitVec.ofNat 32 j.val) (BitVec.ofNat 32 128))) _ _ = _
  rw [sge_small (by omega) (by omega), WordCmp.cmpi_sgt_ofNat (by omega) (by omega), ofBool_or, ← Bool.decide_or, select_ofBool]
  by_cases h1 : 0 < (i 1).val ∨ 128 ≤ j.val
  · rw [if_pos h1]
    exact if_congr ⟨fun h => ⟨h.1, h.2, h1⟩, fun h => ⟨h.1, h.2.1⟩⟩ rfl rfl
  · rw [if_neg h1]
    exact (if_neg fun h : Sees (i 1).val a.val j.val => h1 h.2.2).symm

/-! ## The tiles -/

/-- Block `n`, head `h` of a [1024, 512] block. -/
def rOwn (n : Fin 8) (h : Fin 4) : Rect S1x1024x512 := Rect.unit (s := S1x1024x512) ![0, n.val * 128, h.val * 128] S1x128x128.size
  (fun x => by
    have := n.isLt; have := h.isLt
    match x with
    | ⟨0, _⟩ => show 0 + 1 ≤ 1; omega
    | ⟨1, _⟩ => show n.val * 128 + 128 ≤ 1024; omega
    | ⟨2, _⟩ => show h.val * 128 + 128 ≤ 512; omega)

/-- Blocks `n` and `n + 1`, head `h`. -/
def rTwo (n : Fin 7) (h : Fin 4) : Rect S1x1024x512 := Rect.unit (s := S1x1024x512) ![0, n.val * 128, h.val * 128] S1x256x128.size
  (fun x => by
    have := n.isLt; have := h.isLt
    match x with
    | ⟨0, _⟩ => show 0 + 1 ≤ 1; omega
    | ⟨1, _⟩ => show n.val * 128 + 256 ≤ 1024; omega
    | ⟨2, _⟩ => show h.val * 128 + 128 ≤ 512; omega)

/-- Head `h` of the block before. -/
def rPrev (h : Fin 4) : Rect S1x128x512 := Rect.unit (s := S1x128x512) ![0, 0, h.val * 128] S1x128x128.size
  (fun x => by
    have := h.isLt
    match x with
    | ⟨0, _⟩ => show 0 + 1 ≤ 1; omega
    | ⟨1, _⟩ => show 0 + 128 ≤ 128; omega
    | ⟨2, _⟩ => show h.val * 128 + 128 ≤ 512; omega)

/-- Block `n` of the tile of logarithms. -/
def rLse (n : Fin 8) : Rect S1x1024x128 := Rect.unit (s := S1x1024x128) ![0, n.val * 128, 0] S1x128x128.size
  (fun x => by
    have := n.isLt
    match x with
    | ⟨0, _⟩ => show 0 + 1 ≤ 1; omega
    | ⟨1, _⟩ => show n.val * 128 + 128 ≤ 1024; omega
    | ⟨2, _⟩ => show 0 + 128 ≤ 128; omega)

section Tiles
variable {F : FTy → Type} [FloatOps F] [Named F]
variable (i : grid0.Coords) (x0 x1 : Vec F S1x1024x512 .bf16) (x2 : Vec F S1x128x512 .bf16) (x3 : Vec F S1x1024x512 .bf16)
  (x4 : Vec F S1x128x512 .bf16)

/-- Block `n`, head `h`, loaded. -/
def ldOwn (x : Vec F S1x1024x512 .bf16) (n : Fin 8) (h : Fin 4) : Vec F S1x128x128 .bf16 := View.ld x (rOwn n h)

/-- Blocks `n` and `n + 1`, head `h`, loaded. -/
def ldTwo (x : Vec F S1x1024x512 .bf16) (n : Fin 7) (h : Fin 4) : Vec F S1x256x128 .bf16 := View.ld x (rTwo n h)

/-- Head `h` of the block before, loaded. -/
def ldPrev (x : Vec F S1x128x512 .bf16) (h : Fin 4) : Vec F S1x128x128 .bf16 := View.ld x (rPrev h)

/-- The scores of block `n`, head `h`. -/
def tileS : Fin 8 → Fin 4 → FVec F S128x256 .f32
  | ⟨0, _⟩, h => scores (k0_pay2 i) (mat (ldOwn x0 0 h)) (stack (ldPrev x2 h) (ldOwn x1 0 h))
  | ⟨n + 1, hn⟩, h => scores k0_pay1 (mat (ldOwn x0 ⟨n + 1, hn⟩ h)) (mat2 (ldTwo x1 ⟨n, by omega⟩ h))

/-- The values of block `n`, head `h`. -/
def tileV : Fin 8 → Fin 4 → FVec F S256x128 .bf16
  | ⟨0, _⟩, h => stack (ldPrev x4 h) (ldOwn x3 0 h)
  | ⟨n + 1, _⟩, h => mat2 (ldTwo x3 ⟨n, by omega⟩ h)

/-- The order the kernel stores its output tiles in, last first. -/
def order : List (Fin 8 × Fin 4) :=
  [(7, 3), (7, 2), (7, 1), (7, 0), (6, 3), (6, 2), (6, 1), (6, 0), (5, 3), (5, 2), (5, 1), (5, 0), (4, 3), (4, 2), (4, 1), (4, 0),
   (3, 3), (3, 2), (3, 1), (3, 0), (2, 3), (2, 2), (2, 1), (2, 0), (1, 3), (1, 2), (1, 1), (1, 0), (0, 3), (0, 2), (0, 1), (0, 0)]

/-- The order of the tiles of logarithms, last first. -/
def orderL : List (Fin 8) := [7, 6, 5, 4, 3, 2, 1, 0]

set_option maxHeartbeats 4000000 in
/-- The output block is its 32 tiles. -/
theorem out5_tiles : out0_5 i x0 x1 x2 x3 x4 = View.canon (order.map fun p =>
    (⟨rOwn p.1 p.2, outTile (tileS i x0 x1 x2 p.1 p.2) (tileV x3 x4 p.1 p.2)⟩ : View.Piece (Elt F) S1x1024x512 .bf16)) := rfl

set_option maxHeartbeats 4000000 in
/-- The block of logarithms is its 8 tiles. -/
theorem out6_tiles : out0_6 i x0 x1 x2 x3 x4 = View.canon (orderL.map fun n =>
    (⟨rLse n, lseAll (tileS i x0 x1 x2 n) (tileV x3 x4 n)⟩ : View.Piece (Elt F) S1x1024x128 .f32)) := rfl

end Tiles

/-! ## The tiles at an index -/

/-- A loaded tile at an index. -/
theorem ld_own (x : Vec Ideal S1x1024x512 .bf16) (n : Fin 8) (h : Fin 4) (a d : Fin 128) : ldOwn x n h (ix3 0 a d)
    = x (ix3 0 ⟨n.val * 128 + a.val, by omega⟩ ⟨h.val * 128 + d.val, by omega⟩) :=
  View.ld_unit_apply_of x _ _ _ _ _ fun y => by
    match y with
    | ⟨0, _⟩ => rfl
    | ⟨1, _⟩ => rfl
    | ⟨2, _⟩ => rfl

/-- A loaded pair of tiles at an index. -/
theorem ld_two (x : Vec Ideal S1x1024x512 .bf16) (n : Fin 7) (h : Fin 4) (j : Fin 256) (d : Fin 128) : ldTwo x n h (ix3 0 j d)
    = x (ix3 0 ⟨n.val * 128 + j.val, by omega⟩ ⟨h.val * 128 + d.val, by omega⟩) :=
  View.ld_unit_apply_of x _ _ _ _ _ fun y => by
    match y with
    | ⟨0, _⟩ => rfl
    | ⟨1, _⟩ => rfl
    | ⟨2, _⟩ => rfl

section Apply
variable (i : grid0.Coords) (x0 x1 : Vec Ideal S1x1024x512 .bf16) (x2 : Vec Ideal S1x128x512 .bf16) (x3 : Vec Ideal S1x1024x512 .bf16)
  (x4 : Vec Ideal S1x128x512 .bf16) (X : ℕ → ℕ → EReal)

/-- The scores are the rows' scores. -/
theorem tileS_apply (hq : ∀ (t : Fin 1024) (c : Fin 512), x0 (ix3 0 t c) = X t.val c.val)
    (hk : ∀ (t : Fin 1024) (c : Fin 512), x1 (ix3 0 t c) = X t.val (512 + c.val)) (n : Fin 8) (h : Fin 4) (a : Fin 128) (j : Fin 256) :
    tileS i x0 x1 x2 n h (ix2 a j) = rowS X n.val h.val a.val j := by
  have ha := a.isLt
  have hj := j.isLt
  have hi : (i 1).val = 0 := Nat.lt_one_iff.1 (i 1).isLt
  obtain ⟨n, hn⟩ := n
  cases n with
  | zero =>
    show scores (k0_pay2 i) _ _ (ix2 a j) = _
    rw [scores_apply, bias_first_apply, hi]
    unfold rowS
    by_cases hs : Sees 0 a.val j.val
    · have hj' : 128 ≤ j.val := hs.2.2.resolve_left (lt_irrefl 0)
      rw [if_pos hs, if_pos hs, add_zero]
      refine Finset.sum_congr rfl fun d _ => congrArg₂ (· * ·) ?_ ?_
      · rw [mat_apply, ld_own, hq]; rfl
      · rw [stack_apply, dif_neg (by omega), ld_own, hk]
        refine congrArg (fun t => X t _) ?_
        show 0 * 128 + (j.val - 128) = 0 * 128 + j.val - 128
        omega
    · rw [if_neg hs, if_neg hs, EReal.add_bot]
  | succ n =>
    show scores k0_pay1 _ _ (ix2 a j) = _
    rw [scores_apply, bias_apply]
    unfold rowS
    by_cases hs : a.val ≤ j.val ∧ j.val ≤ a.val + 128
    · have hs' : Sees (n + 1) a.val j.val := ⟨hs.1, hs.2, .inl (Nat.succ_pos n)⟩
      rw [if_pos hs, if_pos hs', add_zero]
      refine Finset.sum_congr rfl fun d _ => congrArg₂ (· * ·) ?_ ?_
      · rw [mat_apply, ld_own, hq]
      · rw [mat2_apply, ld_two, hk]
        refine congrArg (fun t => X t _) ?_
        show n * 128 + j.val = (n + 1) * 128 + j.val - 128
        omega
    · rw [if_neg hs, if_neg (fun e : Sees (n + 1) a.val j.val => hs ⟨e.1, e.2.1⟩), EReal.add_bot]

/-- The values of the keys a row sees are the row's values. -/
theorem tileV_apply (hv : ∀ (t : Fin 1024) (c : Fin 512), x3 (ix3 0 t c) = X t.val (1024 + c.val)) (n : Fin 8) (h : Fin 4) (a : ℕ)
    (j : Fin 256) (d : Fin 128) (hs : Sees n.val a j.val) : tileV x3 x4 n h (ix2 j d) = rowV X n.val h.val d.val j := by
  have hj := j.isLt
  obtain ⟨n, hn⟩ := n
  cases n with
  | zero =>
    have hj' : 128 ≤ j.val := hs.2.2.resolve_left (lt_irrefl 0)
    show stack _ _ (ix2 j d) = _
    rw [stack_apply, dif_neg (by omega), ld_own, hv]
    refine congrArg (fun t => X t _) ?_
    show 0 * 128 + (j.val - 128) = 0 * 128 + j.val - 128
    omega
  | succ n =>
    show mat2 _ (ix2 j d) = _
    rw [mat2_apply, ld_two, hv]
    refine congrArg (fun t => X t _) ?_
    show n * 128 + j.val = (n + 1) * 128 + j.val - 128
    omega

/-- The three coordinates of an index. -/
theorem eta3 {p q r : ℕ} (y : (⟨3, ![p, q, r]⟩ : Shape).Idx) : y = ix3 (y 0) (y 1) (y 2) := by
  funext x
  match x with
  | ⟨0, _⟩ => rfl
  | ⟨1, _⟩ => rfl
  | ⟨2, _⟩ => rfl

/-- Every pair is in the order of stores. -/
theorem mem_order (n : Fin 8) (h : Fin 4) : (n, h) ∈ order := by revert n h; decide

/-- Every block is in the order of stores. -/
theorem mem_orderL (n : Fin 8) : n ∈ orderL := by revert n; decide

/-- The output block of a grid point is the attention's output on the stream. -/
theorem out5_apply (hq : ∀ (t : Fin 1024) (c : Fin 512), x0 (ix3 0 t c) = X t.val c.val)
    (hk : ∀ (t : Fin 1024) (c : Fin 512), x1 (ix3 0 t c) = X t.val (512 + c.val))
    (hv : ∀ (t : Fin 1024) (c : Fin 512), x3 (ix3 0 t c) = X t.val (1024 + c.val)) (y : S1x1024x512.Idx) :
    out0_5 i x0 x1 x2 x3 x4 y = Rows.out X (y 1).val (y 2).val := by
  rw [out5_tiles]
  refine View.canon_apply_of_pieces (Val := Elt Ideal) (e := .bf16)
    (fun y : S1x1024x512.Idx => Rows.out X (y 1).val (y 2).val) _ (fun p hp x => ?_) y ?_
  · obtain ⟨⟨n, h⟩, -, rfl⟩ := List.mem_map.1 hp
    obtain ⟨u, a, d, rfl⟩ : ∃ (u : Fin 1) (a d : Fin 128), x = ix3 u a d := ⟨x 0, x 1, x 2, eta3 x⟩
    show outTile (tileS i x0 x1 x2 n h) (tileV x3 x4 n h) (ix3 u a d) = Rows.out X (n.val * 128 + 1 * a.val) (h.val * 128 + 1 * d.val)
    have ha := a.isLt
    have hd := d.isLt
    rw [outTile_apply]
    unfold Rows.out
    rw [show (n.val * 128 + 1 * a.val) / 128 = n.val by omega, show (h.val * 128 + 1 * d.val) / 128 = h.val by omega,
      show (n.val * 128 + 1 * a.val) % 128 = a.val by omega, show (h.val * 128 + 1 * d.val) % 128 = d.val by omega,
      show (fun j : Fin 256 => tileS i x0 x1 x2 n h (ix2 a j)) = rowS X n.val h.val a.val from
        funext fun j => tileS_apply i x0 x1 x2 X hq hk n h a j]
    exact outK_congr _ _ _ fun j hj => tileV_apply x3 x4 X hv n h a.val j d (sees_of_ne_bot hj)
  · have h1 : (y 1).val < 1024 := (y 1).isLt
    have h2 : (y 2).val < 512 := (y 2).isLt
    refine ⟨_, List.mem_map.2 ⟨(⟨(y 1).val / 128, by omega⟩, ⟨(y 2).val / 128, by omega⟩), mem_order _ _, rfl⟩, ?_⟩
    show y ∈ (rOwn ⟨(y 1).val / 128, by omega⟩ ⟨(y 2).val / 128, by omega⟩).set
    unfold rOwn
    refine (Rect.mem_set_unit).2 fun x => ?_
    match x with
    | ⟨0, _⟩ => exact ⟨Nat.zero_le _, (y 0).isLt⟩
    | ⟨1, _⟩ => show (y 1).val / 128 * 128 ≤ (y 1).val ∧ (y 1).val < (y 1).val / 128 * 128 + 128; omega
    | ⟨2, _⟩ => show (y 2).val / 128 * 128 ≤ (y 2).val ∧ (y 2).val < (y 2).val / 128 * 128 + 128; omega

/-- The block of logarithms of a grid point is the stream's. -/
theorem out6_apply (hq : ∀ (t : Fin 1024) (c : Fin 512), x0 (ix3 0 t c) = X t.val c.val)
    (hk : ∀ (t : Fin 1024) (c : Fin 512), x1 (ix3 0 t c) = X t.val (512 + c.val)) (y : S1x1024x128.Idx) :
    out0_6 i x0 x1 x2 x3 x4 y = Rows.lse X (y 1).val (y 2).val := by
  rw [out6_tiles]
  refine View.canon_apply_of_pieces (Val := Elt Ideal) (e := .f32)
    (fun y : S1x1024x128.Idx => Rows.lse X (y 1).val (y 2).val) _ (fun p hp x => ?_) y ?_
  · obtain ⟨n, -, rfl⟩ := List.mem_map.1 hp
    obtain ⟨u, a, d, rfl⟩ : ∃ (u : Fin 1) (a d : Fin 128), x = ix3 u a d := ⟨x 0, x 1, x 2, eta3 x⟩
    show lseAll (tileS i x0 x1 x2 n) (tileV x3 x4 n) (ix3 u a d) = Rows.lse X (n.val * 128 + 1 * a.val) (0 + 1 * d.val)
    have ha := a.isLt
    rw [lseAll_apply]
    unfold Rows.lse
    rw [show (n.val * 128 + 1 * a.val) / 128 = n.val by omega, show 0 + 1 * d.val = d.val by omega,
      show (n.val * 128 + 1 * a.val) % 128 = a.val by omega]
    by_cases hd : d.val < 4
    · rw [dif_pos hd, if_pos hd]
      exact congrArg Softmax.lseK (funext fun j => tileS_apply i x0 x1 x2 X hq hk n ⟨d.val, hd⟩ a j)
    · rw [dif_neg hd, if_neg hd]
  · have h1 : (y 1).val < 1024 := (y 1).isLt
    refine ⟨_, List.mem_map.2 ⟨⟨(y 1).val / 128, by omega⟩, mem_orderL _, rfl⟩, ?_⟩
    show y ∈ (rLse ⟨(y 1).val / 128, by omega⟩).set
    unfold rLse
    refine (Rect.mem_set_unit).2 fun x => ?_
    match x with
    | ⟨0, _⟩ => exact ⟨Nat.zero_le _, (y 0).isLt⟩
    | ⟨1, _⟩ => show (y 1).val / 128 * 128 ≤ (y 1).val ∧ (y 1).val < (y 1).val / 128 * 128 + 128; omega
    | ⟨2, _⟩ => exact ⟨Nat.zero_le _, (Nat.zero_add _).symm ▸ (y 2).isLt⟩

end Apply

end Cert.Blocks

end
-- ==== Proof.RefRow.lean ====
/- The reference read index by index: its steps named one by one (`scores`, `lse`, `outs`, …), then each at an index over the
   extended reals, ending in the rows of Rows.lean. -/
module

public import proofs.«01_k».proof.Proof.Gen.Dil16RefIdeal.Run
public import proofs.«01_k».proof.Proof.Rows
public import Idealize.ShloMosaic.Lib.Pipeline.Value
public import Idealize.ShloMosaic.Lib.ValueIdx
public import Idealize.ShloMosaic.Lib.IdealHost
public import Idealize.ShloMosaic.Lib.KernelVsHost
public import Idealize.ShloMosaic.Lib.WordCmp

@[expose] public section

noncomputable section

namespace Cert.RefRow

open Cert.Dil16RefIdeal Cert.Dil16RefIdeal.Gen Cert.Rows Idealize.ShloMosaic Idealize.ShloMosaic.ValueIdx Idealize.SL.Sem

section Def
variable {F : FTy → Type} [FloatOps F]

/-- The queries by block, row and head. -/
def q5 (x : FVec F S16x1024x1536 .bf16) : FVec F S16x8x128x4x128 .f32 :=
  shapeCast S16x8x128x4x128 (extf .f32 (extractStridedSlice S16x1024x512 ![0, 0, 0] x slices_S16x1024x1536_S16x1024x512_0_0_0)
    bitsLt_bf16_f32) shapeCasts_S16x1024x512_S16x8x128x4x128

/-- The keys by block, row and head. -/
def k5 (x : FVec F S16x1024x1536 .bf16) : FVec F S16x8x128x4x128 .f32 :=
  shapeCast S16x8x128x4x128 (extf .f32 (extractStridedSlice S16x1024x512 ![0, 0, 512] x slices_S16x1024x1536_S16x1024x512_0_0_512)
    bitsLt_bf16_f32) shapeCasts_S16x1024x512_S16x8x128x4x128

/-- The values by block, row and head. -/
def v5 (x : FVec F S16x1024x1536 .bf16) : FVec F S16x8x128x4x128 .f32 :=
  shapeCast S16x8x128x4x128 (extf .f32 (extractStridedSlice S16x1024x512 ![0, 0, 1024] x slices_S16x1024x1536_S16x1024x512_0_0_1024)
    bitsLt_bf16_f32) shapeCasts_S16x1024x512_S16x8x128x4x128

/-- Each block's rows replaced by those of the block before, zeros for the first. -/
def prev (y : FVec F S16x8x128x4x128 .f32) : FVec F S16x8x128x4x128 .f32 :=
  extractStridedSlice S16x8x128x4x128 ![0, 0, 0, 0, 0] (pad S16x9x128x4x128 ![0, 1, 0, 0, 0] ![0, 0, 0, 0, 0] ![0, 0, 0, 0, 0] y
    (sitofp .f32 (constantI S_ 32 0#32)) pads_S16x8x128x4x128_S16x9x128x4x128_000_100_000_000_000 h_S_)
    slices_S16x9x128x4x128_S16x8x128x4x128_0_0_0_0_0

/-- Each block's rows after those of the block before. -/
def withPrev (y : FVec F S16x8x128x4x128 .f32) : FVec F S16x8x256x4x128 .f32 :=
  concatenate S16x8x256x4x128 2 [⟨S16x8x128x4x128, prev y⟩, ⟨S16x8x128x4x128, y⟩]
    concatenates_S16x8x128x4x128_S16x8x128x4x128_S16x8x256x4x128_d2

/-- The keys' numbers. -/
def ki : IVec S1x256 32 := broadcastInDim S1x256 ![1] bcast_S256_S1x256_1 (iotaInDim S256 32 0)

/-- How far back a key lies from a row. -/
def dist : IVec S128x256 32 :=
  subi (broadcastInDim S128x256 ![0, 1] bcast_S128x1_S128x256_0_1 (addi (broadcastInDim S128x1 ![0] bcast_S128_S128x1_0 (iotaInDim S128 32 0))
    (broadcastInDim S128x1 ![] bcast_S_S128x1 (constantI S_ 32 128#32))))
    (broadcastInDim S128x256 ![0, 1] bcast_S1x256_S128x256_0_1 ki)

/-- The keys from 0 to 128 steps back. -/
def near : IVec S128x256 1 :=
  andi (cmpi .sge dist (broadcastInDim S128x256 ![] bcast_S_S128x256 (constantI S_ 32 0#32)))
    (cmpi .sle dist (broadcastInDim S128x256 ![] bcast_S_S128x256 (constantI S_ 32 128#32)))

/-- The keys not before the stream's start. -/
def inside : IVec S8x1x256 1 :=
  ori (broadcastInDim S8x1x256 ![0, 1, 2] bcast_S8x1x1_S8x1x256_0_1_2 (cmpi .sgt (broadcastInDim S8x1x1 ![0] bcast_S8_S8x1x1_0 (iotaInDim S8 32 0))
    (broadcastInDim S8x1x1 ![] bcast_S_S8x1x1 (constantI S_ 32 0#32))))
    (broadcastInDim S8x1x256 ![0, 1, 2] bcast_S1x1x256_S8x1x256_0_1_2 (cmpi .sge (broadcastInDim S1x1x256 ![1, 2] bcast_S1x256_S1x1x256_1_2 ki)
      (broadcastInDim S1x1x256 ![] bcast_S_S1x1x256 (constantI S_ 32 128#32))))

/-- The keys each row sees. -/
def valid : IVec S8x128x256 1 :=
  andi (broadcastInDim S8x128x256 ![0, 1, 2] bcast_S1x128x256_S8x128x256_0_1_2 (broadcastInDim S1x128x256 ![1, 2] bcast_S128x256_S1x128x256_1_2 near))
    (broadcastInDim S8x128x256 ![0, 1, 2] bcast_S8x1x256_S8x128x256_0_1_2 inside)

/-- The scores, minus infinity on the keys not seen. -/
def scores (x : FVec F S16x1024x1536 .bf16) : FVec F S16x8x4x128x256 .f32 :=
  select (broadcastInDim S16x8x4x128x256 ![0, 1, 2, 3, 4] bcast_S1x8x1x128x256_S16x8x4x128x256_0_1_2_3_4
      (broadcastInDim S1x8x1x128x256 ![1, 3, 4] bcast_S8x128x256_S1x8x1x128x256_1_3_4 valid))
    (Host.dotGeneral dot_S16x8x128x4x128_S16x8x256x4x128_S16x8x4x128x256_4_4_2_2_013_013 none (q5 x) (withPrev (k5 x)))
    (broadcastInDim S16x8x4x128x256 ![] bcast_S_S16x8x4x128x256 (constant S_ .f32 0xFF800000#32))

/-- Each row's largest score. -/
def mx (x : FVec F S16x1024x1536 .bf16) : FVec F S16x8x4x128 .f32 :=
  Host.reduce FloatOps.maximumf (scores x) (constant S_ .f32 0xFF800000#32) reducesTo_S16x8x4x128x256_S16x8x4x128_d4 h_S_

/-- One number a row, repeated for its keys. -/
def wide (y : FVec F S16x8x4x128 .f32) : FVec F S16x8x4x128x256 .f32 :=
  broadcastInDim S16x8x4x128x256 ![0, 1, 2, 3, 4] bcast_S16x8x4x128x1_S16x8x4x128x256_0_1_2_3_4
    (broadcastInDim S16x8x4x128x1 ![0, 1, 2, 3] bcast_S16x8x4x128_S16x8x4x128x1_0_1_2_3 y)

/-- The logarithm of each row's summed exponentials. -/
def lse (x : FVec F S16x1024x1536 .bf16) : FVec F S16x8x4x128 .f32 :=
  addf (mx x) (Host.log (Host.reduceAdd (Host.exp (subf (scores x) (wide (mx x)))) (constant S_ .f32 0x00000000#32)
    reducesTo_S16x8x4x128x256_S16x8x4x128_d4 h_S_))

/-- The output. -/
def outs (x : FVec F S16x1024x1536 .bf16) : FVec F S16x1024x512 .bf16 :=
  truncf .bf16 (shapeCast S16x1024x512 (transpose S16x8x128x4x128 [0, 1, 4, 2, 3]
    (Host.dotGeneral dot_S16x8x256x4x128_S16x8x4x128x256_S16x8x4x128x128_2_4_4_3_013_012 none (withPrev (v5 x))
      (Host.exp (subf (scores x) (wide (lse x)))))
    transposes_S16x8x4x128x128_S16x8x128x4x128_0_1_4_2_3) shapeCasts_S16x8x128x4x128_S16x1024x512) bitsLt_bf16_f32

/-- The logarithms, padded to 128 lanes. -/
def lses (x : FVec F S16x1024x1536 .bf16) : FVec F S16x1024x128 .f32 :=
  pad S16x1024x128 ![0, 0, 0] ![0, 0, 124] ![0, 0, 0] (shapeCast S16x1024x4 (transpose S16x8x128x4 [0, 1, 3, 2] (lse x)
    transposes_S16x8x4x128_S16x8x128x4_0_1_3_2) shapeCasts_S16x8x128x4_S16x1024x4) (sitofp .f32 (constantI S_ 32 0#32))
    pads_S16x1024x4_S16x1024x128_000_000_01240 h_S_

end Def

section Steps
variable {F : FTy → Type} [FloatOps F] (m : (ℓ : Loc nD τ sig) → Buf (Elt F) ℓ) (c : Dev nD)

/-- The reference's first result is `outs` of its argument. -/
theorem res0_eq : Value.res_out0 m c = outs (m ((c.tc : Thread nD τ).loc main_arg0)) := rfl

/-- The reference's second result is `lses` of its argument. -/
theorem res1_eq : Value.res_out1 m c = lses (m ((c.tc : Thread nD τ).loc main_arg0)) := rfl

end Steps

/-! ## At an index, over the extended reals -/

/-- A stream's entries, zero outside the array. -/
def X (x : FVec Ideal S16x1024x1536 .bf16) (r : Fin 16) (t c : ℕ) : EReal :=
  if h : t < 1024 ∧ c < 1536 then x (ix3 r ⟨t, h.1⟩ ⟨c, h.2⟩) else 0

/-- Inside the array the stream's entries are the array's. -/
theorem X_in (x : FVec Ideal S16x1024x1536 .bf16) (r : Fin 16) (t : Fin 1024) (c : Fin 1536) (t' c' : ℕ) (ht : t.val = t')
    (hc : c.val = c') : X x r t' c' = x (ix3 r t c) := by
  subst ht hc
  unfold X
  rw [dif_pos ⟨t.isLt, c.isLt⟩]

/-- The regrouping of 512 columns by block, row and head, at an index. -/
theorem cast5 (y : FVec Ideal S16x1024x512 .f32) (r : Fin 16) (n : Fin 8) (a : Fin 128) (h : Fin 4) (d : Fin 128) :
    shapeCast S16x8x128x4x128 y shapeCasts_S16x1024x512_S16x8x128x4x128 (ix5 r n a h d)
      = y (ix3 r ⟨n.val * 128 + a.val, by omega⟩ ⟨h.val * 128 + d.val, by omega⟩) := by
  refine shapeCast_apply _ _ _ _ ?_
  rw [Shape.rowMajor_val_three, Shape.rowMajor_val_five]
  show (r.val * 1024 + (n.val * 128 + a.val)) * 512 + (h.val * 128 + d.val) = (((r.val * 8 + n.val) * 128 + a.val) * 4 + h.val) * 128 + d.val
  omega

/-- The queries at an index. -/
theorem q5_apply (x : FVec Ideal S16x1024x1536 .bf16) (r : Fin 16) (n : Fin 8) (a : Fin 128) (h : Fin 4) (d : Fin 128) :
    q5 x (ix5 r n a h d) = X x r (n.val * 128 + a.val) (h.val * 128 + d.val) := by
  unfold q5
  rw [cast5, extf_apply]
  refine (extractStridedSlice_apply _ _ _ _ (ix3 r ⟨n.val * 128 + a.val, by omega⟩ ⟨h.val * 128 + d.val, by omega⟩) fun y => ?_).trans
    (X_in x r _ _ _ _ rfl rfl).symm
  match y with
  | ⟨0, _⟩ => show r.val = 0 + r.val; omega
  | ⟨1, _⟩ => show n.val * 128 + a.val = 0 + (n.val * 128 + a.val); omega
  | ⟨2, _⟩ => show h.val * 128 + d.val = 0 + (h.val * 128 + d.val); omega

/-- The keys at an index. -/
theorem k5_apply (x : FVec Ideal S16x1024x1536 .bf16) (r : Fin 16) (n : Fin 8) (a : Fin 128) (h : Fin 4) (d : Fin 128) :
    k5 x (ix5 r n a h d) = X x r (n.val * 128 + a.val) (512 + (h.val * 128 + d.val)) := by
  unfold k5
  rw [cast5, extf_apply]
  refine (extractStridedSlice_apply _ _ _ _ (ix3 r ⟨n.val * 128 + a.val, by omega⟩ ⟨512 + (h.val * 128 + d.val), by omega⟩) fun y => ?_).trans
    (X_in x r _ _ _ _ rfl rfl).symm
  match y with
  | ⟨0, _⟩ => show r.val = 0 + r.val; omega
  | ⟨1, _⟩ => show n.val * 128 + a.val = 0 + (n.val * 128 + a.val); omega
  | ⟨2, _⟩ => rfl

/-- The values at an index. -/
theorem v5_apply (x : FVec Ideal S16x1024x1536 .bf16) (r : Fin 16) (n : Fin 8) (a : Fin 128) (h : Fin 4) (d : Fin 128) :
    v5 x (ix5 r n a h d) = X x r (n.val * 128 + a.val) (1024 + (h.val * 128 + d.val)) := by
  unfold v5
  rw [cast5, extf_apply]
  refine (extractStridedSlice_apply _ _ _ _ (ix3 r ⟨n.val * 128 + a.val, by omega⟩ ⟨1024 + (h.val * 128 + d.val), by omega⟩) fun y => ?_).trans
    (X_in x r _ _ _ _ rfl rfl).symm
  match y with
  | ⟨0, _⟩ => show r.val = 0 + r.val; omega
  | ⟨1, _⟩ => show n.val * 128 + a.val = 0 + (n.val * 128 + a.val); omega
  | ⟨2, _⟩ => rfl

/-- Rows of the block before and the own block, at a key that does not lie before the stream's start. -/
theorem withPrev_apply (y : FVec Ideal S16x8x128x4x128 .f32) (f : ℕ → ℕ → EReal) (r : Fin 16)
    (hy : ∀ (n : Fin 8) (a : Fin 128) (h : Fin 4) (d : Fin 128), y (ix5 r n a h d) = f (n.val * 128 + a.val) (h.val * 128 + d.val))
    (n : Fin 8) (j : Fin 256) (h : Fin 4) (d : Fin 128) (hj : 0 < n.val ∨ 128 ≤ j.val) :
    withPrev y (ix5 r n j h d) = f (n.val * 128 + j.val - 128) (h.val * 128 + d.val) := by
  unfold withPrev
  have hj2 := j.isLt
  by_cases hl : j.val < 128
  · have hn : 0 < n.val := hj.resolve_right (by omega)
    refine (concatenate_pair_apply_left (t := S16x8x256x4x128) (s₁ := S16x8x128x4x128) (s₂ := S16x8x128x4x128) (2 : Fin 5) (prev y) y _
      (ix5 r n j h d) rfl (ix5 r n ⟨j.val, hl⟩ h d) fun z => ?_).trans ?_
    · match z with
      | ⟨0, _⟩ => rfl
      | ⟨1, _⟩ => rfl
      | ⟨2, _⟩ => rfl
      | ⟨3, _⟩ => rfl
      | ⟨4, _⟩ => rfl
    · unfold prev
      refine (extractStridedSlice_apply _ _ _ _ (ix5 r (⟨n.val, by omega⟩ : Fin 9) ⟨j.val, hl⟩ h d) fun z => ?_).trans ?_
      · match z with
        | ⟨0, _⟩ => exact (Nat.zero_add _).symm
        | ⟨1, _⟩ => exact (Nat.zero_add _).symm
        | ⟨2, _⟩ => exact (Nat.zero_add _).symm
        | ⟨3, _⟩ => exact (Nat.zero_add _).symm
        | ⟨4, _⟩ => exact (Nat.zero_add _).symm
      · refine (pad_apply_of_inside _ _ _ y _ _ _ _ (ix5 r (⟨n.val - 1, by omega⟩ : Fin 8) ⟨j.val, hl⟩ h d) fun z => ?_).trans ?_
        · match z with
          | ⟨0, _⟩ => show r.val = 0 + r.val * 1; omega
          | ⟨1, _⟩ => show n.val = 1 + (n.val - 1) * 1; omega
          | ⟨2, _⟩ => show j.val = 0 + j.val * 1; omega
          | ⟨3, _⟩ => show h.val = 0 + h.val * 1; omega
          | ⟨4, _⟩ => show d.val = 0 + d.val * 1; omega
        · rw [hy]
          refine congrArg (fun t => f t _) ?_
          show (n.val - 1) * 128 + j.val = n.val * 128 + j.val - 128
          omega
  · refine (concatenate_pair_apply_right (t := S16x8x256x4x128) (s₁ := S16x8x128x4x128) (s₂ := S16x8x128x4x128) (2 : Fin 5) (prev y) y _
      (ix5 r n j h d) rfl rfl (ix5 r n (⟨j.val - 128, by omega⟩ : Fin 128) h d) (fun z hz => ?_) ?_).trans ?_
    · match z with
      | ⟨0, _⟩ => rfl
      | ⟨1, _⟩ => rfl
      | ⟨2, _⟩ => exact absurd rfl hz
      | ⟨3, _⟩ => rfl
      | ⟨4, _⟩ => rfl
    · show j.val - 128 + 128 = j.val; omega
    · rw [hy]
      refine congrArg (fun t => f t _) ?_
      show n.val * 128 + (j.val - 128) = n.val * 128 + j.val - 128
      omega

/-- Two one-bit words' conjunction. -/
theorem ofBool_and (p q : Bool) : IntOp.andi (BitVec.ofBool p) (BitVec.ofBool q) = BitVec.ofBool (p && q) := by
  cases p <;> cases q <;> rfl

/-- Two one-bit words' disjunction. -/
theorem ofBool_or (p q : Bool) : IntOp.ori (BitVec.ofBool p) (BitVec.ofBool q) = BitVec.ofBool (p || q) := by
  cases p <;> cases q <;> rfl

/-- The distance between 0 and 128, as the comparison of row and key. -/
theorem near_word (a j : ℕ) (ha : a < 128) (hj : j < 256) :
    IntOp.andi (IntOp.cmpi .sge (BitVec.ofNat 32 (a + 128) - BitVec.ofNat 32 j) (BitVec.ofNat 32 0))
      (IntOp.cmpi .sle (BitVec.ofNat 32 (a + 128) - BitVec.ofNat 32 j) (BitVec.ofNat 32 128))
      = BitVec.ofBool (decide (a ≤ j ∧ j ≤ a + 128)) := by
  by_cases h : j ≤ a + 128
  · have e : BitVec.ofNat 32 (a + 128) - BitVec.ofNat 32 j = BitVec.ofNat 32 (a + 128 - j) := by
      apply BitVec.eq_of_toNat_eq
      rw [BitVec.toNat_sub, BitVec.toNat_ofNat, BitVec.toNat_ofNat, BitVec.toNat_ofNat]
      omega
    rw [e, WordCmp.cmpi_sge_ofNat (by omega) (by omega), WordCmp.cmpi_sle_ofNat (by omega) (by omega), ofBool_and, ← Bool.decide_and]
    exact congrArg BitVec.ofBool (decide_eq_decide.2 (by omega))
  · have e : IntOp.cmpi .sge (BitVec.ofNat 32 (a + 128) - BitVec.ofNat 32 j) (BitVec.ofNat 32 0) = BitVec.ofBool false := by
      rw [WordCmp.cmpi_sge_zero, decide_eq_false]
      rw [BitVec.toNat_sub, BitVec.toNat_ofNat, BitVec.toNat_ofNat]
      omega
    rw [e, decide_eq_false (fun hh => h hh.2)]
    generalize IntOp.cmpi .sle _ _ = w
    show 0#1 &&& w = 0#1
    exact BitVec.zero_and

/-- The band at an index. -/
theorem near_apply (a : Fin 128) (j : Fin 256) : near (ix2 a j) = BitVec.ofBool (decide (a.val ≤ j.val ∧ j.val ≤ a.val + 128)) := by
  have e : dist (ix2 a j) = BitVec.ofNat 32 (a.val + 128) - BitVec.ofNat 32 j.val := by
    rw [BitVec.ofNat_add]; rfl
  show IntOp.andi (IntOp.cmpi .sge (dist (ix2 a j)) (BitVec.ofNat 32 0)) (IntOp.cmpi .sle (dist (ix2 a j)) (BitVec.ofNat 32 128)) = _
  rw [e, near_word _ _ a.isLt j.isLt]

/-- The keys a row sees, at an index. -/
theorem valid_apply (n : Fin 8) (a : Fin 128) (j : Fin 256) : valid (ix3 n a j) = BitVec.ofBool (decide (Sees n.val a.val j.val)) := by
  have hj := j.isLt
  have hn := n.isLt
  have e : valid (ix3 n a j) = IntOp.andi (near (ix2 a j)) (IntOp.ori (IntOp.cmpi .sgt (BitVec.ofNat 32 n.val) (BitVec.ofNat 32 0))
      (IntOp.cmpi .sge (BitVec.ofNat 32 j.val) (BitVec.ofNat 32 128))) := by
    rfl
  rw [e, near_apply, WordCmp.cmpi_sgt_ofNat (by omega) (by omega), WordCmp.cmpi_sge_ofNat (by omega) (by omega), ofBool_or, ofBool_and,
    ← Bool.decide_or, ← Bool.decide_and]
  refine congrArg BitVec.ofBool (decide_eq_decide.2 ?_)
  unfold Sees
  tauto

/-- The scores' product at an index. -/
theorem qk_apply (L : FVec Ideal S16x8x128x4x128 .f32) (R : FVec Ideal S16x8x256x4x128 .f32) (r : Fin 16) (n : Fin 8) (h : Fin 4)
    (a : Fin 128) (j : Fin 256) :
    Host.dotGeneral dot_S16x8x128x4x128_S16x8x256x4x128_S16x8x4x128x256_4_4_2_2_013_013 none L R (ix5 r n h a j)
      = ∑ d : Fin 128, L (ix5 r n a h d) * R (ix5 r n j h d) := by
  let D := dot_S16x8x128x4x128_S16x8x256x4x128_S16x8x4x128x256_4_4_2_2_013_013
  have hr : D.contr.rank = 1 := rfl
  have hs : D.contr.size ⟨0, by rw [hr]; exact Nat.one_pos⟩ = 128 := rfl
  refine (Ideal.dotGeneral_apply D none _ L R (ix5 r n h a j)).trans ?_
  rw [← Equiv.sum_comp (contrEquiv1 D 128 hr hs).symm]
  refine Finset.sum_congr rfl fun d _ => ?_
  have hk := contrEquiv1_symm_val D 128 hr hs d
  have el : D.lhsIdx (ix5 r n h a j) ((contrEquiv1 D 128 hr hs).symm d) = ix5 r n a h d := by
    funext z; apply Fin.ext
    match z with
    | ⟨0, _⟩ => rfl
    | ⟨1, _⟩ => rfl
    | ⟨2, _⟩ => rfl
    | ⟨3, _⟩ => rfl
    | ⟨4, _⟩ => exact hk
  have er : D.rhsIdx (ix5 r n h a j) ((contrEquiv1 D 128 hr hs).symm d) = ix5 r n j h d := by
    funext z; apply Fin.ext
    match z with
    | ⟨0, _⟩ => rfl
    | ⟨1, _⟩ => rfl
    | ⟨2, _⟩ => rfl
    | ⟨3, _⟩ => rfl
    | ⟨4, _⟩ => exact hk
  rw [el, er]

/-- The output's product at an index: values times weights, summed over the keys. -/
theorem vp_apply (L : FVec Ideal S16x8x256x4x128 .f32) (R : FVec Ideal S16x8x4x128x256 .f32) (r : Fin 16) (n : Fin 8) (h : Fin 4)
    (d a : Fin 128) :
    Host.dotGeneral dot_S16x8x256x4x128_S16x8x4x128x256_S16x8x4x128x128_2_4_4_3_013_012 none L R (ix5 r n h d a)
      = ∑ j : Fin 256, L (ix5 r n j h d) * R (ix5 r n h a j) := by
  let D := dot_S16x8x256x4x128_S16x8x4x128x256_S16x8x4x128x128_2_4_4_3_013_012
  have hr : D.contr.rank = 1 := rfl
  have hs : D.contr.size ⟨0, by rw [hr]; exact Nat.one_pos⟩ = 256 := rfl
  refine (Ideal.dotGeneral_apply D none _ L R (ix5 r n h d a)).trans ?_
  rw [← Equiv.sum_comp (contrEquiv1 D 256 hr hs).symm]
  refine Finset.sum_congr rfl fun j _ => ?_
  have hk := contrEquiv1_symm_val D 256 hr hs j
  have el : D.lhsIdx (ix5 r n h d a) ((contrEquiv1 D 256 hr hs).symm j) = ix5 r n j h d := by
    funext z; apply Fin.ext
    match z with
    | ⟨0, _⟩ => rfl
    | ⟨1, _⟩ => rfl
    | ⟨2, _⟩ => exact hk
    | ⟨3, _⟩ => rfl
    | ⟨4, _⟩ => rfl
  have er : D.rhsIdx (ix5 r n h d a) ((contrEquiv1 D 256 hr hs).symm j) = ix5 r n h a j := by
    funext z; apply Fin.ext
    match z with
    | ⟨0, _⟩ => rfl
    | ⟨1, _⟩ => rfl
    | ⟨2, _⟩ => rfl
    | ⟨3, _⟩ => rfl
    | ⟨4, _⟩ => exact hk
  rw [el, er]

/-- Minus infinity's bits. -/
theorem ofBits_ninf : FloatOps.ofBits (F := Ideal) .f32 0xFF800000#32 = (⊥ : EReal) := by
  show Ideal.ofBits .f32 0xFF800000#32 = ⊥
  simp [Ideal.ofBits, Ideal.ieee]

/-- The scores at an index are the row's. -/
theorem scores_apply (x : FVec Ideal S16x1024x1536 .bf16) (r : Fin 16) (n : Fin 8) (h : Fin 4) (a : Fin 128) (j : Fin 256) :
    scores x (ix5 r n h a j) = rowS (X x r) n.val h.val a.val j := by
  have e : scores x (ix5 r n h a j) = Scalar.select (valid (ix3 n a j))
      (Host.dotGeneral dot_S16x8x128x4x128_S16x8x256x4x128_S16x8x4x128x256_4_4_2_2_013_013 none (q5 x) (withPrev (k5 x)) (ix5 r n h a j))
      (FloatOps.ofBits (F := Ideal) .f32 0xFF800000#32) := rfl
  rw [e, valid_apply, ofBits_ninf]
  unfold rowS
  by_cases hs : Sees n.val a.val j.val
  · rw [decide_eq_true hs, if_pos hs]
    refine (qk_apply _ _ r n h a j).trans (Finset.sum_congr rfl fun d _ => ?_)
    rw [q5_apply, withPrev_apply (k5 x) (fun t c => X x r t (512 + c)) r (fun n a h d => k5_apply x r n a h d) n j h d hs.2.2]
  · rw [decide_eq_false hs, if_neg hs]
    rfl

/-- The reductions drop the keys. -/
theorem redu : S16x8x4x128x256.Reduces [4] S16x8x4x128 := by decide

/-- The axis the reductions run over. -/
theorem lift_eq (r : Fin 16) (n : Fin 8) (h : Fin 4) (a : Fin 128) (j : Fin 256) : redu.lift (ix4 r n h a) j = ix5 r n h a j := by
  funext z; apply Fin.ext
  match z with
  | ⟨0, _⟩ => rfl
  | ⟨1, _⟩ => rfl
  | ⟨2, _⟩ => rfl
  | ⟨3, _⟩ => rfl
  | ⟨4, _⟩ => rfl

/-- The largest score at an index. -/
theorem mx_apply (x : FVec Ideal S16x1024x1536 .bf16) (r : Fin 16) (n : Fin 8) (h : Fin 4) (a : Fin 128) :
    mx x (ix4 r n h a) = Softmax.top (rowS (X x r) n.val h.val a.val) := by
  unfold mx
  rw [hostReduce_maximumf_eq_multiReduction (scores x) 0xFF800000#32 reducesTo_S16x8x4x128x256_S16x8x4x128_d4 h_S_ redu (by decide) rfl]
  refine (Ideal.multiReduction_maximumf_single (scores x) _ redu _ _ (ix4 r n h a)).trans ?_
  rw [ofBits_ninf]
  exact congrArg (fun f => Finset.fold max ⊥ f Finset.univ) (funext fun j => (congrArg (scores x) (lift_eq r n h a j)).trans (scores_apply x r n h a j))

/-- A row's number repeated, at an index. -/
theorem wide_apply (y : FVec Ideal S16x8x4x128 .f32) (r : Fin 16) (n : Fin 8) (h : Fin 4) (a : Fin 128) (j : Fin 256) :
    wide y (ix5 r n h a j) = y (ix4 r n h a) := by
  unfold wide
  rw [broadcastInDim_apply _ _ _ _ (ix5 r n h a (0 : Fin 1)) fun z => by
    match z with
    | ⟨0, _⟩ => rfl
    | ⟨1, _⟩ => rfl
    | ⟨2, _⟩ => rfl
    | ⟨3, _⟩ => rfl
    | ⟨4, _⟩ => rfl]
  exact broadcastInDim_apply _ _ _ _ (ix4 r n h a) fun z => by
    match z with
    | ⟨0, _⟩ => rfl
    | ⟨1, _⟩ => rfl
    | ⟨2, _⟩ => rfl
    | ⟨3, _⟩ => rfl

/-- A sum of a number and a logarithm at an index. -/
theorem addLog_apply {t : Shape} (y z : FVec Ideal t .f32) (i : t.Idx) : addf y (Host.log z) i = y i + Ideal.log (z i) := rfl

/-- An exponential of a difference at an index. -/
theorem expSub_apply {t : Shape} (y z : FVec Ideal t .f32) (i : t.Idx) : Host.exp (subf y z) i = Ideal.exp (y i - z i) := rfl

/-- A sum over the keys at an index. -/
theorem sum_apply (y : FVec Ideal S16x8x4x128x256 .f32) (r : Fin 16) (n : Fin 8) (h : Fin 4) (a : Fin 128) :
    Host.reduceAdd y (constant S_ .f32 0x00000000#32) reducesTo_S16x8x4x128x256_S16x8x4x128_d4 h_S_ (ix4 r n h a)
      = 0 + ∑ j : Fin 256, y (ix5 r n h a j) := by
  rw [hostReduceAdd_apply, Ideal.hostReduceAdd_single _ redu]
  exact congrArg₂ (· + ·) Ideal.ofBits_zero_f32 (Finset.sum_congr rfl fun j _ => congrArg y (lift_eq r n h a j))

/-- The logarithm of the summed exponentials at an index. -/
theorem lse_apply (x : FVec Ideal S16x1024x1536 .bf16) (r : Fin 16) (n : Fin 8) (h : Fin 4) (a : Fin 128) :
    lse x (ix4 r n h a) = Softmax.lseR (rowS (X x r) n.val h.val a.val) := by
  unfold lse
  rw [addLog_apply, sum_apply, mx_apply]
  unfold Softmax.lseR
  refine congrArg (fun z => _ + Ideal.log (0 + z)) (Finset.sum_congr rfl fun j _ => ?_)
  rw [expSub_apply, wide_apply, mx_apply, scores_apply]

/-- The values as a row reads them: those of the block before are zero in the first block. -/
def vals (x : FVec Ideal S16x1024x1536 .bf16) (r : Fin 16) (n : Fin 8) (h : Fin 4) (d : Fin 128) (j : Fin 256) : EReal :=
  withPrev (v5 x) (ix5 r n j h d)

/-- Of a key that a row sees it is the stream's value. -/
theorem vals_eq (x : FVec Ideal S16x1024x1536 .bf16) (r : Fin 16) (n : Fin 8) (h : Fin 4) (a d : Fin 128) (j : Fin 256)
    (hs : Sees n.val a.val j.val) : rowV (X x r) n.val h.val d.val j = vals x r n h d j :=
  (withPrev_apply (v5 x) (fun t c => X x r t (1024 + c)) r (fun n a h d => v5_apply x r n a h d) n j h d hs.2.2).symm

/-- The output at an index. -/
theorem outs_apply (x : FVec Ideal S16x1024x1536 .bf16) (r : Fin 16) (n : Fin 8) (h : Fin 4) (a d : Fin 128) :
    outs x (ix3 r ⟨n.val * 128 + a.val, by omega⟩ ⟨h.val * 128 + d.val, by omega⟩)
      = Softmax.outR (rowS (X x r) n.val h.val a.val) (vals x r n h d) := by
  unfold outs
  rw [truncf_apply]
  refine (shapeCast_apply _ _ _ (ix5 r n a h d) ?_).trans ?_
  · rw [Shape.rowMajor_val_three, Shape.rowMajor_val_five]
    show (((r.val * 8 + n.val) * 128 + a.val) * 4 + h.val) * 128 + d.val = (r.val * 1024 + (n.val * 128 + a.val)) * 512 + (h.val * 128 + d.val)
    omega
  · refine (transpose_apply _ _ _ _ (ix5 r n h d a) fun z => ?_).trans ?_
    · match z with
      | ⟨0, _⟩ => rfl
      | ⟨1, _⟩ => rfl
      | ⟨2, _⟩ => rfl
      | ⟨3, _⟩ => rfl
      | ⟨4, _⟩ => rfl
    · refine (vp_apply _ _ r n h d a).trans (Finset.sum_congr rfl fun j _ => congrArg (vals x r n h d j * ·) ?_)
      rw [expSub_apply, wide_apply, lse_apply, scores_apply]

/-- The logarithms at an index: head `c` in lane `c`, zero past the heads. -/
theorem lses_apply (x : FVec Ideal S16x1024x1536 .bf16) (r : Fin 16) (n : Fin 8) (a c : Fin 128) :
    lses x (ix3 r ⟨n.val * 128 + a.val, by omega⟩ c)
      = if c.val < 4 then Softmax.lseR (rowS (X x r) n.val c.val a.val) else 0 := by
  unfold lses
  by_cases hc : c.val < 4
  · rw [if_pos hc]
    refine (pad_apply_of_inside _ _ _ _ _ _ _ _ (ix3 r (⟨n.val * 128 + a.val, by omega⟩ : Fin 1024) (⟨c.val, hc⟩ : Fin 4)) fun z => ?_).trans ?_
    · match z with
      | ⟨0, _⟩ => show r.val = 0 + r.val * 1; omega
      | ⟨1, _⟩ => show n.val * 128 + a.val = 0 + (n.val * 128 + a.val) * 1; omega
      | ⟨2, _⟩ => show c.val = 0 + c.val * 1; omega
    · refine (shapeCast_apply _ _ _ (ix4 r n a (⟨c.val, hc⟩ : Fin 4)) ?_).trans ?_
      · rw [Shape.rowMajor_val_three, Shape.rowMajor_val_four]
        show ((r.val * 8 + n.val) * 128 + a.val) * 4 + c.val = (r.val * 1024 + (n.val * 128 + a.val)) * 4 + c.val
        omega
      · refine (transpose_apply _ _ _ _ (ix4 r n (⟨c.val, hc⟩ : Fin 4) a) fun z => ?_).trans (lse_apply x r n ⟨c.val, hc⟩ a)
        match z with
        | ⟨0, _⟩ => rfl
        | ⟨1, _⟩ => rfl
        | ⟨2, _⟩ => rfl
        | ⟨3, _⟩ => rfl
  · rw [if_neg hc]
    refine (pad_apply_of_not_inside _ _ _ _ _ _ _ _ (2 : Fin 3) ?_).trans ?_
    · rintro ⟨-, -, h⟩
      have h : (c.val - 0) / 1 < 4 := h
      omega
    · show ((((0#32 : BitVec 32).toInt : ℝ) : EReal)) = 0
      simp

end Cert.RefRow

end
-- ==== Proof.Whole.lean ====
/- The whole arrays: what the kernel leaves in its two results, and that the reference leaves the same. -/
module

public import proofs.«01_k».proof.Defs
public import proofs.«01_k».proof.Proof.Gen.Dil16Ideal.Value
public import proofs.«01_k».proof.Proof.Gen.Pre_finite_qk
public import proofs.«01_k».proof.Proof.Blocks
public import proofs.«01_k».proof.Proof.RefRow
public import Idealize.ShloMosaic.Lib.Pipeline.ValueKit

@[expose] public section

noncomputable section

namespace Cert.Whole

open Cert.Dil16Ideal Cert.Dil16Ideal.Gen Idealize.ShloMosaic Idealize.SL.Sem

variable (m : (ℓ : Loc nD τ sig) → Buf (Elt Ideal) ℓ) (c : Dev nD)

/-- The argument array. -/
abbrev arg : FVec Ideal S16x1024x1536 .bf16 := m ((c.tc : Thread nD τ).loc main_arg0)

/-- The queries' window moves along the streams. -/
theorem ix_q : ∀ t : Fin cfg0.N, win0_0.index t = ![(grid0.coords t 0).val, (grid0.coords t 1).val, 0] :=
  (by decide +kernel : ∀ t : Fin grid0.N, _)

/-- The keys' window moves along the streams. -/
theorem ix_k : ∀ t : Fin cfg0.N, win0_1.index t = ![(grid0.coords t 0).val, (grid0.coords t 1).val, 1] :=
  (by decide +kernel : ∀ t : Fin grid0.N, _)

/-- The values' window moves along the streams. -/
theorem ix_v : ∀ t : Fin cfg0.N, win0_3.index t = ![(grid0.coords t 0).val, (grid0.coords t 1).val, 2] :=
  (by decide +kernel : ∀ t : Fin grid0.N, _)

/-- The output's window moves along the streams. -/
theorem ix_o : ∀ t : Fin cfg0.N, win0_5.index t = ![(grid0.coords t 0).val, (grid0.coords t 1).val, 0] :=
  (by decide +kernel : ∀ t : Fin grid0.N, _)

/-- The logarithms' window moves along the streams. -/
theorem ix_l : ∀ t : Fin cfg0.N, win0_6.index t = ![(grid0.coords t 0).val, (grid0.coords t 1).val, 0] :=
  (by decide +kernel : ∀ t : Fin grid0.N, _)

/-- The second grid axis has one point. -/
theorem co1 (t : Fin cfg0.N) : (grid0.coords t 1).val = 0 := by
  have h : (grid0.coords t 1).val < 1 := (grid0.coords t 1).isLt
  omega

/-- The stream of a grid point. -/
def row (t : Fin cfg0.N) : Fin 16 := ⟨(grid0.coords t 0).val, (grid0.coords t 0).isLt⟩

/-- The queries' block at an index. -/
theorem blk_q (t : Fin cfg0.N) (a : Fin 1024) (d : Fin 512) :
    iblk m c 0 t (ValueIdx.ix3 (0 : Fin 1) a d) = RefRow.X (arg m c) (row t) a.val d.val := by
  refine Eq.trans ?_ (RefRow.X_in (arg m c) (row t) a ⟨d.val, by omega⟩ _ _ rfl rfl).symm
  have e := ix_q t
  have e1 := co1 t
  blk_simp [iblk]
  refine congrArg (V m c main_arg0) ?_
  blk_ext [e, e1]
  rfl

/-- The keys' block at an index. -/
theorem blk_k (t : Fin cfg0.N) (a : Fin 1024) (d : Fin 512) :
    iblk m c 1 t (ValueIdx.ix3 (0 : Fin 1) a d) = RefRow.X (arg m c) (row t) a.val (512 + d.val) := by
  refine Eq.trans ?_ (RefRow.X_in (arg m c) (row t) a ⟨512 + d.val, by omega⟩ _ _ rfl rfl).symm
  have e := ix_k t
  have e1 := co1 t
  blk_simp [iblk]
  refine congrArg (V m c main_arg0) ?_
  blk_ext [e, e1]
  rfl

/-- The values' block at an index. -/
theorem blk_v (t : Fin cfg0.N) (a : Fin 1024) (d : Fin 512) :
    iblk m c 3 t (ValueIdx.ix3 (0 : Fin 1) a d) = RefRow.X (arg m c) (row t) a.val (1024 + d.val) := by
  refine Eq.trans ?_ (RefRow.X_in (arg m c) (row t) a ⟨1024 + d.val, by omega⟩ _ _ rfl rfl).symm
  have e := ix_v t
  have e1 := co1 t
  blk_simp [iblk]
  refine congrArg (V m c main_arg0) ?_
  blk_ext [e, e1]
  rfl

/-- The output array: the attention's output on every stream. -/
def outG (x : FVec Ideal S16x1024x1536 .bf16) : FVec Ideal S16x1024x512 .bf16 :=
  fun i => Rows.out (RefRow.X x (i 0)) (i 1).val (i 2).val

/-- The array of logarithms. -/
def lseG (x : FVec Ideal S16x1024x1536 .bf16) : FVec Ideal S16x1024x128 .f32 :=
  fun i => Rows.lse (RefRow.X x (i 0)) (i 1).val (i 2).val

/-- The output array at an index given by its coordinates' values. -/
theorem outG_at (x : FVec Ideal S16x1024x1536 .bf16) (i : S16x1024x512.Idx) (r : Fin 16) (t d : ℕ) (h0 : (i 0).val = r.val)
    (h1 : (i 1).val = t) (h2 : (i 2).val = d) : outG x i = Rows.out (RefRow.X x r) t d := by
  have e0 : i 0 = r := Fin.ext h0
  unfold outG
  rw [e0, h1, h2]

/-- The array of logarithms at an index given by its coordinates' values. -/
theorem lseG_at (x : FVec Ideal S16x1024x1536 .bf16) (i : S16x1024x128.Idx) (r : Fin 16) (t d : ℕ) (h0 : (i 0).val = r.val)
    (h1 : (i 1).val = t) (h2 : (i 2).val = d) : lseG x i = Rows.lse (RefRow.X x r) t d := by
  have e0 : i 0 = r := Fin.ext h0
  unfold lseG
  rw [e0, h1, h2]

/-- What the kernel leaves in its first result. -/
theorem final_out : (dats m 0 c).arrAt 5 cfg0.N = outG (arg m c) := by
  refine (dats m 0 c).arrAt_eq_of_covers 5 _ (by decide +kernel) fun t hf y => ?_
  have e := ix_o t
  have e1 := co1 t
  blk_simp
  rw [after0_5]
  refine (Blocks.out5_apply _ _ _ _ _ _ (RefRow.X (arg m c) (row t)) (blk_q m c t) (blk_k m c t) (blk_v m c t) y).trans
    (outG_at _ _ (row t) _ _ ?_ ?_ ?_).symm
  · have h0 : (y 0).val < 1 := (y 0).isLt
    blk_simp [e, e1]
    rfl
  · blk_simp [e, e1]
  · blk_simp [e, e1]

/-- What the kernel leaves in its second result. -/
theorem final_lse : (dats m 0 c).arrAt 6 cfg0.N = lseG (arg m c) := by
  refine (dats m 0 c).arrAt_eq_of_covers 6 _ (by decide +kernel) fun t hf y => ?_
  have e := ix_l t
  have e1 := co1 t
  blk_simp
  rw [after0_6]
  refine (Blocks.out6_apply _ _ _ _ _ _ (RefRow.X (arg m c) (row t)) (blk_q m c t) (blk_k m c t) y).trans
    (lseG_at _ _ (row t) _ _ ?_ ?_ ?_).symm
  · have h0 : (y 0).val < 1 := (y 0).isLt
    blk_simp [e, e1]
    rfl
  · blk_simp [e, e1]
  · blk_simp [e, e1]

/-- Plus infinity's bits. -/
theorem ofBits_pinf : Ideal.ofBits .f32 0x7F800000#32 = ⊤ := by simp [Ideal.ofBits, Ideal.ieee]

/-- A number of absolute value below plus infinity is finite. -/
theorem finite_of_abs (z : EReal) (h : max z (-z) < ⊤) : z ≠ ⊤ ∧ z ≠ ⊥ := by
  refine ⟨fun e => ?_, fun e => ?_⟩ <;> subst e <;> simp at h

/-- The precondition's test at an index. -/
theorem pre_apply (x : FVec Ideal S16x1024x1536 .bf16) (r : Fin 16) (t d : Fin 1024) :
    Cert.Pre_finite_qk.fn (F := Ideal) x (ValueIdx.ix3 r t d)
      = BitVec.ofBool (decide (max (x (ValueIdx.ix3 r t ⟨d.val, by omega⟩)) (-(x (ValueIdx.ix3 r t ⟨d.val, by omega⟩))) < (⊤ : EReal))) := by
  have e : extractStridedSlice Cert.Pre_finite_qk.S16x1024x1024 ![0, 0, 0] x
      Cert.Pre_finite_qk.Gen.slices_S16x1024x1536_S16x1024x1024_0_0_0 (ValueIdx.ix3 r t d) = x (ValueIdx.ix3 r t ⟨d.val, by omega⟩) :=
    extractStridedSlice_apply _ _ _ _ _ fun z => by
      match z with
      | ⟨0, _⟩ => exact (Nat.zero_add _).symm
      | ⟨1, _⟩ => exact (Nat.zero_add _).symm
      | ⟨2, _⟩ => exact (Nat.zero_add _).symm
  rw [← e, ← ofBits_pinf]
  rfl

/-- The precondition: every query and key entry is finite. -/
theorem finite_of_pre (x : FVec Ideal S16x1024x1536 .bf16) (h : Cert.Pre_finite_qk.fn (F := Ideal) x = fun _ => 1#1) (r : Fin 16)
    (t d : ℕ) (hd : d < 1024) : RefRow.X x r t d ≠ ⊤ ∧ RefRow.X x r t d ≠ ⊥ := by
  unfold RefRow.X
  split
  · rename_i hi
    have hx := (pre_apply x r ⟨t, hi.1⟩ ⟨d, hd⟩).symm.trans (congrFun h _)
    refine finite_of_abs _ ?_
    by_contra hn
    rw [decide_eq_false hn] at hx
    exact absurd hx (by decide)
  · exact ⟨EReal.zero_ne_top, EReal.zero_ne_bot⟩

/-- The reference's first result is the same. -/
theorem outs_eq (x : FVec Ideal S16x1024x1536 .bf16) (h : Cert.Pre_finite_qk.fn (F := Ideal) x = fun _ => 1#1) :
    RefRow.outs x = outG x := by
  funext i
  obtain ⟨r, t, d, rfl⟩ : ∃ (r : Fin 16) (t : Fin 1024) (d : Fin 512), i = ValueIdx.ix3 r t d := ⟨i 0, i 1, i 2, Blocks.eta3 i⟩
  have ht := t.isLt
  have hd := d.isLt
  have hn : t.val / 128 < 8 := by omega
  have hh : d.val / 128 < 4 := by omega
  have ha : t.val % 128 < 128 := by omega
  have hb : d.val % 128 < 128 := by omega
  have et : t = ⟨t.val / 128 * 128 + t.val % 128, by omega⟩ := Fin.ext (by dsimp only; omega)
  have ed : d = ⟨d.val / 128 * 128 + d.val % 128, by omega⟩ := Fin.ext (by dsimp only; omega)
  have hX := finite_of_pre x h r
  refine (congrArg₂ (fun t d => RefRow.outs x (ValueIdx.ix3 r t d)) et ed).trans
    ((RefRow.outs_apply x r ⟨t.val / 128, hn⟩ ⟨d.val / 128, hh⟩ ⟨t.val % 128, ha⟩ ⟨d.val % 128, hb⟩).trans ?_)
  exact (Softmax.out_eq _ _ _ (Rows.rowS_ne_top _ hX _ _ _ hh) (Rows.rowS_self _ hX _ _ _ hh ha)
    fun j hj => RefRow.vals_eq x r ⟨t.val / 128, hn⟩ ⟨d.val / 128, hh⟩ ⟨t.val % 128, ha⟩ ⟨d.val % 128, hb⟩ j
      (Rows.sees_of_ne_bot hj)).symm

/-- The reference's second result is the same. -/
theorem lses_eq (x : FVec Ideal S16x1024x1536 .bf16) (h : Cert.Pre_finite_qk.fn (F := Ideal) x = fun _ => 1#1) :
    RefRow.lses x = lseG x := by
  funext i
  obtain ⟨r, t, d, rfl⟩ : ∃ (r : Fin 16) (t : Fin 1024) (d : Fin 128), i = ValueIdx.ix3 r t d := ⟨i 0, i 1, i 2, Blocks.eta3 i⟩
  have ht := t.isLt
  have hn : t.val / 128 < 8 := by omega
  have ha : t.val % 128 < 128 := by omega
  have et : t = ⟨t.val / 128 * 128 + t.val % 128, by omega⟩ := Fin.ext (by dsimp only; omega)
  have hX := finite_of_pre x h r
  refine (congrArg (fun t => RefRow.lses x (ValueIdx.ix3 r t d)) et).trans
    ((RefRow.lses_apply x r ⟨t.val / 128, hn⟩ ⟨t.val % 128, ha⟩ d).trans ?_)
  show _ = Rows.lse (RefRow.X x r) t.val d.val
  unfold Rows.lse
  split
  · rename_i hc
    exact (Softmax.lse_eq _ (Rows.rowS_ne_top _ hX _ _ _ hc) (Rows.rowS_self _ hX _ _ _ hc ha)).symm
  · rfl

end Cert.Whole

end
-- ==== Proof.FfnRows.lean ====
/- The feed-forward part of the layer, row by row and entry by entry over the extended reals: root-mean-square normalisation,
   the up projection, the causal convolution of the gate over time, gelu, and the down projection. Both programs are read in
   these terms; they differ in how gelu is written. -/
module

public import proofs.«01_k».proof.Proof.Rows
public import Idealize.ShloMosaic.PureOps.Ideal.Laws
public import Idealize.ShloMosaic.Lib.IdealHost
public import Idealize.ShloMosaic.Lib.ValueIdx

@[expose] public section

noncomputable section

namespace Cert.FfnRows

open Idealize.ShloMosaic Cert.Rows

/-- A matrix read at natural numbers, zero outside. -/
def tab {a b : ℕ} (x : (⟨2, ![a, b]⟩ : Shape).Idx → EReal) (i j : ℕ) : EReal :=
  if h : i < a ∧ j < b then x (ValueIdx.ix2 ⟨i, h.1⟩ ⟨j, h.2⟩) else 0

/-- A matrix read inside. -/
theorem tab_in {a b : ℕ} (x : (⟨2, ![a, b]⟩ : Shape).Idx → EReal) (i : Fin a) (j : Fin b) (i' j' : ℕ) (hi : i.val = i')
    (hj : j.val = j') : x (ValueIdx.ix2 i j) = tab x i' j' := by
  subst hi hj
  have h : i.val < a ∧ j.val < b := ⟨i.isLt, j.isLt⟩
  unfold tab
  rw [dif_pos h]

/-- Finite entries, read at natural numbers. -/
theorem tab_fin {a b : ℕ} (x : (⟨2, ![a, b]⟩ : Shape).Idx → EReal) (h : ∀ y, x y ≠ ⊤ ∧ x y ≠ ⊥) (i j : ℕ) :
    tab x i j ≠ ⊤ ∧ tab x i j ≠ ⊥ := by
  unfold tab
  split
  · exact h _
  · exact ⟨EReal.zero_ne_top, EReal.zero_ne_bot⟩

/-! ## The constants -/

/-- The normalisation's small number. -/
def eps : EReal := Ideal.ofBits .f32 0x358637BD#32
/-- The width of a row, as a float. -/
def width : EReal := Ideal.ofBits .f32 0x44800000#32
/-- Gelu's outer factor. -/
def outer : EReal := Ideal.ofBits .f32 0x3F4C422A#32
/-- Gelu's cubic factor, as the reference multiplies by it. -/
def inner : EReal := Ideal.ofBits .f32 0x3D372713#32
/-- Gelu's two factors multiplied together, as the kernel has them. -/
def cubic : EReal := ((80338380498831 / 2251799813685248 : ℝ) : EReal)
/-- One half. -/
def half : EReal := Ideal.ofBits .f32 0x3F000000#32
/-- One. -/
def one : EReal := Ideal.ofBits .f32 0x3F800000#32

/-- A positive normal 32-bit float with exponent bits `E` and fraction bits `T`. -/
theorem ofBits_normal (b : BitVec 32) (E T : ℕ) (hs : (b.extractLsb' (8 + 23) 1 == 1#1) = false)
    (hE : (b.extractLsb' 23 8).toNat = E) (hT : (b.extractLsb' 0 23).toNat = T) (h0 : E ≠ 0) (h1 : E ≠ 2 ^ 8 - 1) :
    Ideal.ofBits .f32 b = ((((2 ^ 23 + T : ℕ) : ℝ) * (2 : ℝ) ^ ((E : ℤ) - 127 - 23) : ℝ) : EReal) := by
  unfold Ideal.ofBits Ideal.ieee
  dsimp only
  rw [hs, hE, hT, if_neg h1, if_neg h0]
  norm_num

/-- The small number is a positive real. -/
theorem eps_eq : eps = ((8796093 / 8796093022208 : ℝ) : EReal) := by
  unfold eps
  rw [ofBits_normal _ 107 407485 (by decide) (by decide) (by decide) (by decide) (by decide)]
  norm_num

/-- The width is 1024. -/
theorem width_eq : width = ((1024 : ℝ) : EReal) := by
  unfold width
  rw [ofBits_normal _ 137 0 (by decide) (by decide) (by decide) (by decide) (by decide)]
  norm_num

/-- The outer factor is a real. -/
theorem outer_eq : outer = ((13386282 / 16777216 : ℝ) : EReal) := by
  unfold outer
  rw [ofBits_normal _ 126 4997674 (by decide) (by decide) (by decide) (by decide) (by decide)]
  norm_num

/-- The cubic factor is a real. -/
theorem inner_eq : inner = ((12003091 / 268435456 : ℝ) : EReal) := by
  unfold inner
  rw [ofBits_normal _ 122 3614483 (by decide) (by decide) (by decide) (by decide) (by decide)]
  norm_num

/-- One half is one half. -/
theorem half_eq : half = ((1 / 2 : ℝ) : EReal) := by
  unfold half
  rw [ofBits_normal _ 126 0 (by decide) (by decide) (by decide) (by decide) (by decide)]
  norm_num

/-- One is one. -/
theorem one_eq : one = ((1 : ℝ) : EReal) := by
  unfold one
  rw [ofBits_normal _ 127 0 (by decide) (by decide) (by decide) (by decide) (by decide)]
  norm_num

/-! ## Gelu, written twice -/

/-- Gelu as the kernel computes it: the two factors multiplied together beforehand, the half taken outside. -/
def geluK (x : EReal) : EReal := half * x + half * x * Ideal.tanh (x * (outer + cubic * (x * x)))

/-- Gelu as the reference computes it. -/
def geluR (x : EReal) : EReal := x * (half * (one + Ideal.tanh (outer * (x + inner * (x * x * x)))))

/-- On the real numbers the two are the same. -/
theorem gelu_eq (x : EReal) (hx : x ≠ ⊤ ∧ x ≠ ⊥) : geluK x = geluR x := by
  lift x to ℝ using hx
  unfold geluK geluR cubic
  rw [outer_eq, inner_eq, half_eq, one_eq]
  simp only [← EReal.coe_mul, ← EReal.coe_add, Ideal.tanh_coe]
  rw [show x * (13386282 / 16777216 + 80338380498831 / 2251799813685248 * (x * x))
    = 13386282 / 16777216 * (x + 12003091 / 268435456 * (x * x * x)) by ring]
  congr 1
  ring

/-! ## The rows -/

/-- A row divided by its root mean square and scaled. -/
def norm (x w : ℕ → EReal) (k : ℕ) : EReal :=
  x k * Ideal.rsqrt (Ideal.div (∑ j : Fin 1024, x j.val * x j.val) width + eps) * w k

section Rows
variable (H : ℕ → ℕ → EReal) (A : ℕ → EReal) (W : ℕ → ℕ → EReal) (C : ℕ → ℕ → EReal) (B : ℕ → EReal) (D : ℕ → ℕ → EReal)
  (Z : ℕ → EReal)

/-- The up projection of the normalised row `t`: the gate in columns 0 to 4095, the value in those after. -/
def up (t n : ℕ) : EReal := ∑ k : Fin 1024, norm (H t) A k.val * W k.val n

/-- The gate `d` rows back, nothing before the start. -/
def before (d t n : ℕ) : EReal := if t < d then 0 else up H A W (t - d) n

/-- The gate convolved over three rows. -/
def conv (t n : ℕ) : EReal :=
  before H A W 2 t n * C 0 n + before H A W 1 t n * C 1 n + up H A W t n * C 2 n + B n

/-- The down projection of the gated value, with the gelu given. -/
def down (g : EReal → EReal) (t k : ℕ) : EReal :=
  ∑ n : Fin 4096, g (conv H A W C B t n.val) * up H A W t (4096 + n.val) * D n.val k

/-- The result: the row plus the normalised down projection. -/
def out (g : EReal → EReal) (t k : ℕ) : EReal := H t k + norm (down H A W C B D g t) Z k

/-- Two finite numbers' sum is finite. -/
theorem add_fin {x y : EReal} (hx : x ≠ ⊤ ∧ x ≠ ⊥) (hy : y ≠ ⊤ ∧ y ≠ ⊥) : x + y ≠ ⊤ ∧ x + y ≠ ⊥ := by
  lift x to ℝ using hx
  lift y to ℝ using hy
  rw [← EReal.coe_add]
  exact ⟨EReal.coe_ne_top _, EReal.coe_ne_bot _⟩

/-- A sum of finite numbers is finite. -/
theorem sum_fin {n : ℕ} (f : Fin n → EReal) (h : ∀ i, f i ≠ ⊤ ∧ f i ≠ ⊥) : ∑ i, f i ≠ ⊤ ∧ ∑ i, f i ≠ ⊥ :=
  ⟨sum_ne_top _ _ fun i _ => (h i).1, sum_ne_bot _ _ fun i _ => (h i).2⟩

/-- A finite row's inverse root mean square is finite. -/
theorem rsqrt_fin (x : ℕ → EReal) (hx : ∀ k < 1024, x k ≠ ⊤ ∧ x k ≠ ⊥) :
    Ideal.rsqrt (Ideal.div (∑ j : Fin 1024, x j.val * x j.val) width + eps) ≠ ⊤
      ∧ Ideal.rsqrt (Ideal.div (∑ j : Fin 1024, x j.val * x j.val) width + eps) ≠ ⊥ := by
  have hs := sum_fin (fun j : Fin 1024 => x j.val * x j.val) fun j => mul_fin (hx _ j.isLt) (hx _ j.isLt)
  have h0 : 0 ≤ ∑ j : Fin 1024, x j.val * x j.val := by
    refine Finset.sum_nonneg fun j _ => ?_
    have hj := hx _ j.isLt
    generalize x j.val = y at hj
    lift y to ℝ using hj
    rw [← EReal.coe_mul]
    exact EReal.coe_nonneg.2 (mul_self_nonneg y)
  generalize (∑ j : Fin 1024, x j.val * x j.val) = s at hs h0
  lift s to ℝ using hs
  have hs0 : 0 ≤ s := EReal.coe_nonneg.1 h0
  have e : Ideal.div (s : EReal) width + eps = ((s * (1024 : ℝ)⁻¹ + 8796093 / 8796093022208 : ℝ) : EReal) := by
    unfold Ideal.div
    rw [width_eq, eps_eq, if_neg (by exact_mod_cast (by norm_num : (1024 : ℝ) ≠ 0)), EReal.coe_add, EReal.coe_mul, EReal.coe_inv]
  have hp : 0 < s * (1024 : ℝ)⁻¹ + 8796093 / 8796093022208 := by positivity
  rw [e, Ideal.rsqrt_coe, if_neg (not_lt.2 hp.le), if_neg hp.ne']
  exact ⟨EReal.coe_ne_top _, EReal.coe_ne_bot _⟩

/-- A square is not negative. -/
theorem sq_nonneg (x : EReal) : 0 ≤ x * x := by
  rcases le_total 0 x with h | h
  · exact mul_nonneg h h
  · exact neg_mul_neg x x ▸ mul_nonneg (EReal.neg_nonneg.2 h) (EReal.neg_nonneg.2 h)

/-- A row with an infinite entry has inverse root mean square zero. -/
theorem rsqrt_inf (x : ℕ → EReal) (j : Fin 1024) (hj : ¬(x j.val ≠ ⊤ ∧ x j.val ≠ ⊥)) :
    Ideal.rsqrt (Ideal.div (∑ j : Fin 1024, x j.val * x j.val) width + eps) = 0 := by
  have hq : x j.val * x j.val = ⊤ := by
    by_cases ht : x j.val = ⊤
    · rw [ht]; exact EReal.top_mul_top
    · rw [not_not.1 fun hb => hj ⟨ht, hb⟩]; exact EReal.bot_mul_bot
  have hs : ∑ j : Fin 1024, x j.val * x j.val = ⊤ := top_le_iff.1 (hq ▸ Finset.single_le_sum
    (f := fun j : Fin 1024 => x j.val * x j.val) (fun i _ => sq_nonneg _) (Finset.mem_univ j))
  have e : Ideal.div ⊤ width + eps = ⊤ := by
    unfold Ideal.div
    rw [width_eq, eps_eq, if_neg (by exact_mod_cast (by norm_num : (1024 : ℝ) ≠ 0)), ← EReal.coe_inv,
      EReal.top_mul_coe_of_pos (by norm_num), EReal.top_add_coe]
  rw [hs, e, Ideal.rsqrt_top]

/-- A normalised entry is finite where its weight is, whatever the row: an infinite row is divided by infinity. -/
theorem norm_fin (x w : ℕ → EReal) (k : ℕ) (hk : k < 1024) (hw : w k ≠ ⊤ ∧ w k ≠ ⊥) : norm x w k ≠ ⊤ ∧ norm x w k ≠ ⊥ := by
  unfold norm
  by_cases h : ∀ j < 1024, x j ≠ ⊤ ∧ x j ≠ ⊥
  · exact mul_fin (mul_fin (h k hk) (rsqrt_fin x h)) hw
  · push Not at h
    obtain ⟨j, hj, hx⟩ := h
    rw [rsqrt_inf x ⟨j, hj⟩ fun hh => hh.2 (hx hh.1), mul_zero, zero_mul]
    exact ⟨EReal.zero_ne_top, EReal.zero_ne_bot⟩

/-- With finite weights the convolution is finite. -/
theorem conv_fin (hA : ∀ k < 1024, A k ≠ ⊤ ∧ A k ≠ ⊥)
    (hW : ∀ k < 1024, ∀ n < 4096, W k n ≠ ⊤ ∧ W k n ≠ ⊥) (hC : ∀ i < 3, ∀ n < 4096, C i n ≠ ⊤ ∧ C i n ≠ ⊥)
    (hB : ∀ n < 4096, B n ≠ ⊤ ∧ B n ≠ ⊥) (t n : ℕ) (hn : n < 4096) :
    conv H A W C B t n ≠ ⊤ ∧ conv H A W C B t n ≠ ⊥ := by
  have hu : ∀ s, up H A W s n ≠ ⊤ ∧ up H A W s n ≠ ⊥ := fun s =>
    sum_fin _ fun k => mul_fin (norm_fin (H s) A _ k.isLt (hA _ k.isLt)) (hW _ k.isLt _ hn)
  have hb : ∀ d s, before H A W d s n ≠ ⊤ ∧ before H A W d s n ≠ ⊥ := fun d s => by
    unfold before
    split
    · exact ⟨EReal.zero_ne_top, EReal.zero_ne_bot⟩
    · exact hu _
  unfold conv
  exact add_fin (add_fin (add_fin (mul_fin (hb _ _) (hC _ (by omega) _ hn)) (mul_fin (hb _ _) (hC _ (by omega) _ hn)))
    (mul_fin (hu _) (hC _ (by omega) _ hn))) (hB _ hn)

/-- Where the convolution is finite the two gelus give the same result. -/
theorem out_eq (h : ∀ t n, n < 4096 → conv H A W C B t n ≠ ⊤ ∧ conv H A W C B t n ≠ ⊥) (t k : ℕ) :
    out H A W C B D Z geluK t k = out H A W C B D Z geluR t k := by
  have e : down H A W C B D geluK t = down H A W C B D geluR t := funext fun k => by
    unfold down
    exact Finset.sum_congr rfl fun n _ => by rw [gelu_eq _ (h t n.val n.isLt)]
  unfold out
  rw [e]

end Rows

end Cert.FfnRows

end

end
-- ==== Proof.FfnTile.lean ====
/- The feed-forward step of one 512-row tile as the kernel computes it, stated once: the normalised rows `normed`, the gate
   and value products `prod`, the rows shifted back `back`, the convolution `convT`, the activation `geluT`, one chunk of
   1024 inner features `part`, and the tile `tile`. Then what each is at an index over the extended reals. -/
module

public import proofs.«01_k».proof.Proof.Gen.FfnIdeal
public import proofs.«01_k».proof.Proof.Gen.FfnIdeal.Skeleton
public import proofs.«01_k».proof.Proof.FfnRows
public import Idealize.ShloMosaic.Lib.Pipeline.Value
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.IdealHost
public import Idealize.ShloMosaic.Lib.KernelVsHost
public import Idealize.ShloMosaic.Lib.WordCmp

@[expose] public section

noncomputable section

namespace Cert.FfnTile

open Idealize.ShloMosaic Idealize.SL.Sem Cert.FfnIdeal Cert.FfnIdeal.Gen
open Idealize.ShloMosaic.ValueIdx

section Def

variable {F : FTy → Type} [FloatOps F] [Named F]

/-- Rows divided by their root mean square and weighted. -/
def normed (x : FVec F S512x1024 .f32) (w : FVec F S1x1024 .f32) : FVec F S512x1024 .f32 :=
  mulf (mulf x (broadcastTo S512x1024 (rsqrt (addf (divf (shapeCast S512x1 (multiReduction .add [1] S512 (mulf x x)
    0x00000000#32 reduces_S512x1024_S512 (.inl rfl) rfl) shapeCasts_S512_S512x1)
    (broadcast S512x1 (Scalar.ofBits .f32 0x44800000#32))) (broadcast S512x1 (Scalar.ofBits .f32 0x358637BD#32))))
    broadcasts_S512x1_S512x1024)) (broadcastTo S512x1024 w broadcasts_S1x1024_S512x1024)

/-- Rows times one 1024 by 1024 block of a weight. -/
def prod (x : FVec F S512x1024 .bf16) (w : FVec F S1024x1024 .bf16) : FVec F S512x1024 .f32 :=
  matmul dot_S512x1024_S1024x1024_S512x1024_1_0_0_1_n_n none x w (constant S512x1024 .f32 0x00000000#32)

/-- The rows shifted down by `d`, the first `d` taken from the last rows `p` of the tile before. -/
def back (d : BitVec 32) (g : FVec F S512x1024 .f32) (p : FVec F S8x1024 .f32) : FVec F S512x1024 .f32 :=
  concatenate S512x1024 0
    [⟨S8x1024, select (broadcastTo S8x1024 (shapeCast S8x1 (cmpi .slt (iota .tc S8x1 32 [0] iota_S8x1_d0_w32)
        (broadcast S8x1 d)) shapeCasts_S8x1_S8x1) broadcasts_S8x1_S8x1024)
        (dynamicRotate 0 d none p rotates_S8x1024_d0)
        (extractStridedSlice S8x1024 ![0, 0] (dynamicRotate 0 d none g rotates_S512x1024_d0)
          slices_S512x1024_o0_0_S8x1024)⟩,
     ⟨S504x1024, extractStridedSlice S504x1024 ![8, 0] (dynamicRotate 0 d none g rotates_S512x1024_d0)
        slices_S512x1024_o8_0_S504x1024⟩] concatenates_S8x1024_S504x1024_S512x1024_d0

/-- The three taps of the convolution over rows, and its offset. -/
def convT (g : FVec F S512x1024 .f32) (p : FVec F S8x1024 .f32) (c0 c1 c2 b : FVec F S1x1024 .f32) :
    FVec F S512x1024 .f32 :=
  addf (addf (addf (mulf (back 2#32 g p) (broadcastTo S512x1024 c0 broadcasts_S1x1024_S512x1024))
    (mulf (back 1#32 g p) (broadcastTo S512x1024 c1 broadcasts_S1x1024_S512x1024)))
    (mulf g (broadcastTo S512x1024 c2 broadcasts_S1x1024_S512x1024)))
    (broadcastTo S512x1024 b broadcasts_S1x1024_S512x1024)

/-- The activation in the kernel's form. -/
def geluT (x : FVec F S512x1024 .f32) : FVec F S512x1024 .f32 :=
  addf (mulf (broadcast S512x1024 (Scalar.ofBits .f32 0x3F000000#32)) x)
    (mulf (mulf (broadcast S512x1024 (Scalar.ofBits .f32 0x3F000000#32)) x)
      (tanh (mulf x (addf (broadcast S512x1024 (Scalar.ofBits .f32 0x3F4C422A#32))
        (mulf (broadcast S512x1024 (Named.named κ "cubic" 0x3D122279#32)) (mulf x x))))))

/-- One chunk of 1024 inner features, projected back. -/
def part (x : FVec F S512x1024 .bf16) (wg wv : FVec F S1024x1024 .bf16) (p : FVec F S8x1024 .f32)
    (c0 c1 c2 b : FVec F S1x1024 .f32) (wd : FVec F S1024x1024 .bf16) : FVec F S512x1024 .f32 :=
  prod (truncf .bf16 (mulf (geluT (convT (prod x wg) p c0 c1 c2 b)) (prod x wv)) bitsLt_bf16_f32) wd

/-- The normalised rows as the products take them. -/
def rows (h : FVec F S512x1024 .f32) (a : FVec F S1x1024 .f32) : FVec F S512x1024 .bf16 :=
  truncf .bf16 (normed h a) bitsLt_bf16_f32

/-- The last eight rows of a gate product. -/
def tail (g : FVec F S512x1024 .f32) : FVec F S8x1024 .f32 :=
  shapeCast S8x1024 (extractStridedSlice S8x1024 ![504, 0] g slices_S512x1024_o504_0_S8x1024)
    shapeCasts_S8x1024_S8x1024

/-- The tile: the rows plus the four chunks' sum, normalised. -/
def tile (h : FVec F S512x1024 .f32) (a : FVec F S1x1024 .f32) (wg wv : Fin 4 → FVec F S1024x1024 .bf16)
    (p : Fin 4 → FVec F S8x1024 .f32) (c0 c1 c2 b : Fin 4 → FVec F S1x1024 .f32)
    (wd : Fin 4 → FVec F S1024x1024 .bf16) (z : FVec F S1x1024 .f32) : FVec F S512x1024 .f32 :=
  addf h (normed (addf (addf (addf
    (part (rows h a) (wg 0) (wv 0) (p 0) (c0 0) (c1 0) (c2 0) (b 0) (wd 0))
    (part (rows h a) (wg 1) (wv 1) (p 1) (c0 1) (c1 1) (c2 1) (b 1) (wd 1)))
    (part (rows h a) (wg 2) (wv 2) (p 2) (c0 2) (c1 2) (c2 2) (b 2) (wd 2)))
    (part (rows h a) (wg 3) (wv 3) (p 3) (c0 3) (c1 3) (c2 3) (b 3) (wd 3))) z)

end Def

/-! ## At an index, over the extended reals -/

/-- A column spread over lanes, at an index. -/
theorem spread_apply (x : FVec Ideal S512x1 .f32) (r : Fin 512) (k : Fin 1024) :
    broadcastTo S512x1024 x broadcasts_S512x1_S512x1024 (ix2 r k) = x (ix2 r 0) := by
  refine congrArg x ?_
  funext y; apply Fin.ext
  match y with
  | ⟨0, _⟩ => rfl
  | ⟨1, _⟩ => rfl

/-- A row's sum at an index. -/
theorem rowSum_apply (x : FVec Ideal S512x1024 .f32) (r : Fin 512) :
    multiReduction .add [1] S512 x 0x00000000#32 reduces_S512x1024_S512 (.inl rfl) rfl (ix1 r)
      = ∑ k : Fin 1024, x (ix2 r k) := by
  refine (Ideal.multiReduction_add_single x 0x00000000#32 reduces_S512x1024_S512 (.inl rfl) rfl (ix1 r)).trans ?_
  refine Finset.sum_congr rfl fun k _ => congrArg x ?_
  funext y; apply Fin.ext
  match y with
  | ⟨0, _⟩ => rfl
  | ⟨1, _⟩ => rfl

/-- The normalised rows at an index. -/
theorem normed_apply (x : FVec Ideal S512x1024 .f32) (w : FVec Ideal S1x1024 .f32) (X W : ℕ → EReal) (r : Fin 512)
    (hx : ∀ k : Fin 1024, x (ix2 r k) = X k.val) (hw : ∀ k : Fin 1024, w (ix2 0 k) = W k.val) (k : Fin 1024) :
    normed x w (ix2 r k) = FfnRows.norm X W k.val := by
  unfold normed FfnRows.norm
  rw [mulf_apply, mulf_apply, spread_apply, broadcastTo_1b_ab_apply, hx, hw]
  congr 2
  show Ideal.rsqrt (Ideal.div (shapeCast S512x1 _ shapeCasts_S512_S512x1 (ix2 r 0)) FfnRows.width + FfnRows.eps) = _
  rw [shapeCast_a_a1_apply, rowSum_apply]
  congr 3
  exact Finset.sum_congr rfl fun j _ => by rw [mulf_apply, hx]

/-- A product at an index. -/
theorem prod_apply (x : FVec Ideal S512x1024 .bf16) (w : FVec Ideal S1024x1024 .bf16) (r : Fin 512) (n : Fin 1024) :
    prod x w (ix2 r n) = ∑ k : Fin 1024, x (ix2 r k) * w (ix2 k n) := by
  unfold prod
  refine (Ideal.matmul_plain_apply none _ _ (constant S512x1024 .f32 0x00000000#32) r n).trans ?_
  rw [constant_apply, Ideal.ofBits_zero_f32, zero_add]

/-- A rotation down by `d` rows, at an index not wrapped around. -/
theorem rotate_apply {a : ℕ} (d : BitVec 32) (g : FVec Ideal ⟨2, ![a, 1024]⟩ .f32)
    (h : Shape.Rotates ⟨2, ![a, 1024]⟩ (0 : Fin 2) none) (r q : Fin a) (n : Fin 1024)
    (hq : q.val = (r.val + a - d.toNat % a) % a) :
    dynamicRotate 0 d none g h (ix2 r n) = g (ix2 q n) := by
  refine dynamicRotate_apply _ _ _ _ _ _ fun b => ?_
  match b with
  | ⟨0, _⟩ => exact hq
  | ⟨1, _⟩ => rfl

/-- A selection by a decided proposition. -/
theorem select_decide {α : Type} (p : Prop) [Decidable p] (x y : α) :
    Scalar.select (BitVec.ofBool (decide p)) x y = if p then x else y := by
  by_cases h : p
  · rw [if_pos h, decide_eq_true h]; rfl
  · rw [if_neg h, decide_eq_false h]; rfl

/-- The mask of the first `d` of eight rows, at an index. -/
theorem first_apply (d : ℕ) (hd8 : d < 8) (r : Fin 8) (n : Fin 1024) :
    broadcastTo S8x1024 (shapeCast S8x1 (cmpi .slt (iota .tc S8x1 32 [0] iota_S8x1_d0_w32)
      (broadcast S8x1 (BitVec.ofNat 32 d))) shapeCasts_S8x1_S8x1) broadcasts_S8x1_S8x1024 (ix2 r n)
      = BitVec.ofBool (decide (r.val < d)) := by
  rw [shapeCast_self]
  refine (broadcastTo_apply _ _ (ix2 r n) (ix2 r (0 : Fin 1)) fun ax => ?_).trans ?_
  · match ax with
    | ⟨0, _⟩ => rfl
    | ⟨1, _⟩ => rfl
  · show IntOp.cmpi .slt (iota .tc S8x1 32 [0] iota_S8x1_d0_w32 (ix2 r 0)) (BitVec.ofNat 32 d) = _
    rw [iota_single_apply]
    exact WordCmp.cmpi_slt_ofNat (by have := r.isLt; simp only [ix2]; show r.val < _; omega) (by omega)

/-- The shifted rows at an index: from the tile, or from the last rows of the tile before. -/
theorem back_apply (d : ℕ) (hd8 : d < 8) (g : FVec Ideal S512x1024 .f32) (p : FVec Ideal S8x1024 .f32)
    (r : Fin 512) (n : Fin 1024) :
    back (BitVec.ofNat 32 d) g p (ix2 r n)
      = if h : r.val < d then p (ix2 ⟨8 + r.val - d, by omega⟩ n) else g (ix2 ⟨r.val - d, by omega⟩ n) := by
  have hr := r.isLt
  have hn : (BitVec.ofNat 32 d).toNat = d := by rw [BitVec.toNat_ofNat]; omega
  unfold back
  by_cases h8 : r.val < 8
  · refine (concatenate_pair_apply_left (t := S512x1024) (s₁ := S8x1024) (s₂ := S504x1024) (0 : Fin 2) _ _ _ (ix2 r n) rfl
      (ix2 (⟨r.val, h8⟩ : Fin 8) n) fun y => ?_).trans ?_
    · match y with
      | ⟨0, _⟩ => rfl
      | ⟨1, _⟩ => rfl
    · show Scalar.select _ _ _ = _
      rw [first_apply d hd8, select_decide]
      by_cases h : r.val < d
      · rw [if_pos h, dif_pos h]
        refine rotate_apply _ p _ _ _ n ?_
        show 8 + r.val - d = (r.val + 8 - (BitVec.ofNat 32 d).toNat % 8) % 8
        rw [hn]; omega
      · rw [if_neg h, dif_neg h]
        refine (extractStridedSlice_apply _ _ _ _ (ix2 r n) fun a => ?_).trans (rotate_apply _ g _ _ _ n ?_)
        · match a with
          | ⟨0, _⟩ => show r.val = 0 + r.val; omega
          | ⟨1, _⟩ => show n.val = 0 + n.val; omega
        · show r.val - d = (r.val + 512 - (BitVec.ofNat 32 d).toNat % 512) % 512
          rw [hn]; omega
  · rw [dif_neg (by omega)]
    refine (concatenate_pair_apply_right (t := S512x1024) (s₁ := S8x1024) (s₂ := S504x1024) (0 : Fin 2) _ _ _ (ix2 r n) rfl rfl
      (ix2 (⟨r.val - 8, by omega⟩ : Fin 504) n) (fun y hy => ?_) ?_).trans ?_
    · match y with
      | ⟨0, _⟩ => exact absurd rfl hy
      | ⟨1, _⟩ => rfl
    · show r.val - 8 + 8 = r.val; omega
    · refine (extractStridedSlice_apply _ _ _ _ (ix2 r n) fun a => ?_).trans (rotate_apply _ g _ _ _ n ?_)
      · match a with
        | ⟨0, _⟩ => show r.val = 8 + (r.val - 8); omega
        | ⟨1, _⟩ => show n.val = 0 + n.val; omega
      · show r.val - d = (r.val + 512 - (BitVec.ofNat 32 d).toNat % 512) % 512
        rw [hn]; omega

/-- The named constant's value. -/
theorem cubic_eq : (Named.named κ "cubic" 0x3D122279#32 : Ideal .f32) = FfnRows.cubic :=
  IdealRules.named_const.ideal_named_scalar _ _ _ _ rfl

/-- The activation at an index. -/
theorem geluT_apply (x : FVec Ideal S512x1024 .f32) (i : S512x1024.Idx) : geluT x i = FfnRows.geluK (x i) := by
  show FfnRows.half * x i + FfnRows.half * x i * Ideal.tanh (x i * (FfnRows.outer
    + (Named.named κ "cubic" 0x3D122279#32 : Ideal .f32) * (x i * x i))) = _
  rw [cubic_eq]; rfl

/-- The last eight rows at an index. -/
theorem tail_apply (g : FVec Ideal S512x1024 .f32) (r : Fin 8) (n : Fin 1024) :
    tail g (ix2 r n) = g (ix2 ⟨504 + r.val, by omega⟩ n) := by
  unfold tail
  rw [shapeCast_self]
  refine extractStridedSlice_apply _ _ _ _ _ fun a => ?_
  match a with
  | ⟨0, _⟩ => rfl
  | ⟨1, _⟩ => show n.val = 0 + n.val; omega

/-! ## In the layer's own terms -/

/-- What a tile's operands are: rows `512 T + r` of the states, chunk `c` of every weight, and as carried rows the eight
    gate rows before the tile (zero before the first). -/
structure Operands (T : ℕ) (H : ℕ → ℕ → EReal) (A : ℕ → EReal) (W C : ℕ → ℕ → EReal) (B : ℕ → EReal) (D : ℕ → ℕ → EReal)
    (Z : ℕ → EReal) (h : FVec Ideal S512x1024 .f32) (a : FVec Ideal S1x1024 .f32)
    (wg wv : Fin 4 → FVec Ideal S1024x1024 .bf16) (p : Fin 4 → FVec Ideal S8x1024 .f32)
    (c0 c1 c2 b : Fin 4 → FVec Ideal S1x1024 .f32) (wd : Fin 4 → FVec Ideal S1024x1024 .bf16)
    (z : FVec Ideal S1x1024 .f32) : Prop where
  /-- The states. -/
  h : ∀ r k, h (ix2 r k) = H (512 * T + r.val) k.val
  /-- The first weight of the normalisation. -/
  a : ∀ k, a (ix2 0 k) = A k.val
  /-- The gate's weight. -/
  wg : ∀ c k n, wg c (ix2 k n) = W k.val (1024 * c.val + n.val)
  /-- The value's weight. -/
  wv : ∀ c k n, wv c (ix2 k n) = W k.val (4096 + (1024 * c.val + n.val))
  /-- The carried rows. -/
  p : ∀ c r n, p c (ix2 r n) = if T = 0 then 0 else FfnRows.up H A W (512 * T + r.val - 8) (1024 * c.val + n.val)
  /-- The first tap. -/
  c0 : ∀ c n, c0 c (ix2 0 n) = C 0 (1024 * c.val + n.val)
  /-- The second tap. -/
  c1 : ∀ c n, c1 c (ix2 0 n) = C 1 (1024 * c.val + n.val)
  /-- The third tap. -/
  c2 : ∀ c n, c2 c (ix2 0 n) = C 2 (1024 * c.val + n.val)
  /-- The offset. -/
  b : ∀ c n, b c (ix2 0 n) = B (1024 * c.val + n.val)
  /-- The down projection. -/
  wd : ∀ c n k, wd c (ix2 n k) = D (1024 * c.val + n.val) k.val
  /-- The second weight of the normalisation. -/
  z : ∀ k, z (ix2 0 k) = Z k.val

namespace Operands

variable {T : ℕ} {H : ℕ → ℕ → EReal} {A : ℕ → EReal} {W C : ℕ → ℕ → EReal} {B : ℕ → EReal} {D : ℕ → ℕ → EReal} {Z : ℕ → EReal}
  {h : FVec Ideal S512x1024 .f32} {a : FVec Ideal S1x1024 .f32} {wg wv : Fin 4 → FVec Ideal S1024x1024 .bf16}
  {p : Fin 4 → FVec Ideal S8x1024 .f32} {c0 c1 c2 b : Fin 4 → FVec Ideal S1x1024 .f32}
  {wd : Fin 4 → FVec Ideal S1024x1024 .bf16} {z : FVec Ideal S1x1024 .f32}

/-- The normalised rows. -/
theorem rows_apply (o : Operands T H A W C B D Z h a wg wv p c0 c1 c2 b wd z) (r : Fin 512) (k : Fin 1024) :
    rows h a (ix2 r k) = FfnRows.norm (H (512 * T + r.val)) A k.val := by
  unfold rows
  rw [truncf_apply]
  exact normed_apply h a _ _ r (o.h r) o.a k

/-- The gate product of a chunk. -/
theorem gate_apply (o : Operands T H A W C B D Z h a wg wv p c0 c1 c2 b wd z) (c : Fin 4) (r : Fin 512) (n : Fin 1024) :
    prod (rows h a) (wg c) (ix2 r n) = FfnRows.up H A W (512 * T + r.val) (1024 * c.val + n.val) := by
  rw [prod_apply]
  exact Finset.sum_congr rfl fun k _ => by rw [o.rows_apply, o.wg]

/-- The value product of a chunk. -/
theorem value_apply (o : Operands T H A W C B D Z h a wg wv p c0 c1 c2 b wd z) (c : Fin 4) (r : Fin 512) (n : Fin 1024) :
    prod (rows h a) (wv c) (ix2 r n) = FfnRows.up H A W (512 * T + r.val) (4096 + (1024 * c.val + n.val)) := by
  rw [prod_apply]
  exact Finset.sum_congr rfl fun k _ => by rw [o.rows_apply, o.wv]

/-- The gate rows `d` back. -/
theorem back_apply (o : Operands T H A W C B D Z h a wg wv p c0 c1 c2 b wd z) (d : ℕ) (hd8 : d < 8) (c : Fin 4)
    (r : Fin 512) (n : Fin 1024) :
    back (BitVec.ofNat 32 d) (prod (rows h a) (wg c)) (p c) (ix2 r n)
      = FfnRows.before H A W d (512 * T + r.val) (1024 * c.val + n.val) := by
  rw [FfnTile.back_apply d hd8]
  unfold FfnRows.before
  by_cases hr : r.val < d
  · rw [dif_pos hr, o.p]
    by_cases hT : T = 0
    · rw [if_pos hT, if_pos (by omega)]
    · rw [if_neg hT, if_neg (by omega)]
      congr 1
      show 512 * T + (8 + r.val - d) - 8 = _
      omega
  · rw [dif_neg hr, if_neg (by omega), o.gate_apply]
    congr 1
    show 512 * T + (r.val - d) = _
    omega

/-- The convolution of a chunk. -/
theorem conv_apply (o : Operands T H A W C B D Z h a wg wv p c0 c1 c2 b wd z) (c : Fin 4) (r : Fin 512) (n : Fin 1024) :
    convT (prod (rows h a) (wg c)) (p c) (c0 c) (c1 c) (c2 c) (b c) (ix2 r n)
      = FfnRows.conv H A W C B (512 * T + r.val) (1024 * c.val + n.val) := by
  unfold convT FfnRows.conv
  rw [addf_apply, addf_apply, addf_apply, mulf_apply, mulf_apply, mulf_apply]
  simp only [broadcastTo_1b_ab_apply]
  rw [o.back_apply 2 (by decide), o.back_apply 1 (by decide), o.gate_apply, o.c0, o.c1, o.c2, o.b]

/-- One chunk, projected back. -/
theorem part_apply (o : Operands T H A W C B D Z h a wg wv p c0 c1 c2 b wd z) (c : Fin 4) (r : Fin 512) (k : Fin 1024) :
    part (rows h a) (wg c) (wv c) (p c) (c0 c) (c1 c) (c2 c) (b c) (wd c) (ix2 r k)
      = ∑ n : Fin 1024, FfnRows.geluK (FfnRows.conv H A W C B (512 * T + r.val) (1024 * c.val + n.val))
          * FfnRows.up H A W (512 * T + r.val) (4096 + (1024 * c.val + n.val)) * D (1024 * c.val + n.val) k.val := by
  unfold part
  rw [prod_apply]
  refine Finset.sum_congr rfl fun n _ => ?_
  rw [truncf_apply, mulf_apply, geluT_apply, o.conv_apply, o.value_apply, o.wd]

/-- A sum over 4096 features as the sum of its four chunks' sums. -/
theorem sum_chunks (f : ℕ → EReal) : ∑ n : Fin 4096, f n.val
    = (∑ n : Fin 1024, f (1024 * 0 + n.val)) + (∑ n : Fin 1024, f (1024 * 1 + n.val))
      + (∑ n : Fin 1024, f (1024 * 2 + n.val)) + ∑ n : Fin 1024, f (1024 * 3 + n.val) := by
  have e : ∀ m, ∑ n : Fin m, f n.val = ∑ n ∈ Finset.range m, f n := fun m => Fin.sum_univ_eq_sum_range f m
  have e' : ∀ j, ∑ n : Fin 1024, f (j + n.val) = ∑ n ∈ Finset.range 1024, f (j + n) :=
    fun j => Fin.sum_univ_eq_sum_range (fun n => f (j + n)) 1024
  rw [e, e', e', e', e', show 4096 = 1024 + 1024 + 1024 + 1024 from rfl, Finset.sum_range_add, Finset.sum_range_add,
    Finset.sum_range_add]
  simp only [Nat.mul_zero, Nat.zero_add, Nat.mul_one]

/-- The tile. -/
theorem tile_apply (o : Operands T H A W C B D Z h a wg wv p c0 c1 c2 b wd z) (r : Fin 512) (k : Fin 1024) :
    tile h a wg wv p c0 c1 c2 b wd z (ix2 r k) = FfnRows.out H A W C B D Z FfnRows.geluK (512 * T + r.val) k.val := by
  unfold tile FfnRows.out
  rw [addf_apply, o.h]
  congr 1
  refine normed_apply _ z _ Z r (fun k => ?_) o.z k
  rw [addf_apply, addf_apply, addf_apply, o.part_apply, o.part_apply, o.part_apply, o.part_apply]
  exact (sum_chunks fun n => FfnRows.geluK (FfnRows.conv H A W C B (512 * T + r.val) n)
    * FfnRows.up H A W (512 * T + r.val) (4096 + n) * D n k.val).symm

/-- The last eight gate rows of a chunk. -/
theorem tail_apply (o : Operands T H A W C B D Z h a wg wv p c0 c1 c2 b wd z) (c : Fin 4) (r : Fin 8) (n : Fin 1024) :
    tail (prod (rows h a) (wg c)) (ix2 r n) = FfnRows.up H A W (512 * T + 504 + r.val) (1024 * c.val + n.val) := by
  rw [FfnTile.tail_apply, o.gate_apply, Nat.add_assoc]

end Operands

end Cert.FfnTile
-- ==== Proof.FfnPoint.lean ====
/- What one grid point of the feed-forward kernel leaves, over any numbers: its output block is `tile` of the point's blocks
   and of the carried rows, its scratch is the last eight gate rows, chunk by chunk, and its second output is the scratch. The
   carried rows are the scratch as found, at the first point zeros. -/
module

public import proofs.«01_k».proof.Proof.Gen.FfnIdeal.Frame
public import proofs.«01_k».proof.Proof.FfnTile
public import Idealize.ShloMosaic.Lib.Pipeline.ValueKit.Tiles

@[expose] public section

noncomputable section

namespace Cert.FfnPoint

open Cert.FfnIdeal Cert.FfnIdeal.Gen Cert.FfnTile Idealize.ShloMosaic Idealize.SL.Sem
open Idealize.ShloMosaic.ValueIdx

section Def

variable {F : FTy → Type} [FloatOps F] [Named F]

/-- The states as loaded. -/
def hs (x0 : Vec F S512x1024 .f32) : Vec F S512x1024 .f32 :=
  View.ld x0 (Rect.unit ![0, 0] S512x1024.size inb_S512x1024_S512x1024_0_0)

/-- A row of weights as loaded. -/
def row (x : Vec F S1x1024 .f32) : Vec F S1x1024 .f32 :=
  View.ld x (Rect.unit ![0, 0] S1x1024.size inb_S1x1024_S1x1024_0_0)

/-- Chunk `c` of the gate's weight. -/
def wgs (x : Vec F S1024x8192 .bf16) (c : Fin 4) : Vec F S1024x1024 .bf16 :=
  View.ld x (Rect.unit ![0, 1024 * c.val] S1024x1024.size (by intro a; have := c.isLt; fin_cases a <;> simp <;> omega))

/-- Chunk `c` of the value's weight. -/
def wvs (x : Vec F S1024x8192 .bf16) (c : Fin 4) : Vec F S1024x1024 .bf16 :=
  View.ld x (Rect.unit ![0, 4096 + 1024 * c.val] S1024x1024.size
    (by intro a; have := c.isLt; fin_cases a <;> simp <;> omega))

/-- Chunk `c` of the scratch as found. -/
def carried (x : Vec F S8x4096 .f32) (c : Fin 4) : Vec F S8x1024 .f32 :=
  View.ld x (Rect.unit ![0, 1024 * c.val] S8x1024.size (by intro a; have := c.isLt; fin_cases a <;> simp <;> omega))

/-- Chunk `c` of tap `i`. -/
def taps (i : Fin 8) (x : Vec F S8x4096 .f32) (c : Fin 4) : Vec F S1x1024 .f32 :=
  View.ld x (Rect.unit ![i.val, 1024 * c.val] S1x1024.size
    (by intro a; have := c.isLt; have := i.isLt; fin_cases a <;> simp <;> omega))

/-- Chunk `c` of the offset. -/
def offs (x : Vec F S1x4096 .f32) (c : Fin 4) : Vec F S1x1024 .f32 :=
  View.ld x (Rect.unit ![0, 1024 * c.val] S1x1024.size (by intro a; have := c.isLt; fin_cases a <;> simp <;> omega))

/-- Chunk `c` of the down projection. -/
def wds (x : Vec F S4096x1024 .bf16) (c : Fin 4) : Vec F S1024x1024 .bf16 :=
  View.ld x (Rect.unit ![1024 * c.val, 0] S1024x1024.size (by intro a; have := c.isLt; fin_cases a <;> simp <;> omega))

/-- A point's tile from its blocks and the carried rows. -/
def tileOf (x0 : Vec F S512x1024 .f32) (x1 : Vec F S1x1024 .f32) (x2 : Vec F S1024x8192 .bf16) (x3 : Vec F S8x4096 .f32)
    (x4 : Vec F S1x4096 .f32) (x5 : Vec F S4096x1024 .bf16) (x6 : Vec F S1x1024 .f32) (p : Fin 4 → Vec F S8x1024 .f32) :
    Vec F S512x1024 .f32 :=
  tile (hs x0) (row x1) (wgs x2) (wvs x2) p (taps 0 x3) (taps 1 x3) (taps 2 x3) (offs x4) (wds x5) (row x6)

/-- The last eight gate rows of chunk `c`. -/
def last (x0 : Vec F S512x1024 .f32) (x1 : Vec F S1x1024 .f32) (x2 : Vec F S1024x8192 .bf16) (c : Fin 4) :
    Vec F S8x1024 .f32 := tail (prod (rows (hs x0) (row x1)) (wgs x2 c))

/-- The scratch zeroed. -/
def stored0 : List (View.Piece (Elt F) S8x4096 .f32) :=
  [⟨Rect.unit ![0, 0] S8x4096.size inb_S8x4096_S8x4096_0_0, k0_pay2⟩]

/-- The first chunk's rows stored. -/
def stored1 (q : Fin 4 → Vec F S8x1024 .f32) (L : List (View.Piece (Elt F) S8x4096 .f32)) :
    List (View.Piece (Elt F) S8x4096 .f32) :=
  ⟨Rect.unit ![0, 0] S8x1024.size inb_S8x4096_S8x1024_0_0, q 0⟩ :: L

/-- Two chunks' rows stored. -/
def stored2 (q : Fin 4 → Vec F S8x1024 .f32) (L : List (View.Piece (Elt F) S8x4096 .f32)) :
    List (View.Piece (Elt F) S8x4096 .f32) :=
  ⟨Rect.unit ![0, 1024] S8x1024.size inb_S8x4096_S8x1024_0_1024, q 1⟩ :: stored1 q L

/-- Three chunks' rows stored. -/
def stored3 (q : Fin 4 → Vec F S8x1024 .f32) (L : List (View.Piece (Elt F) S8x4096 .f32)) :
    List (View.Piece (Elt F) S8x4096 .f32) :=
  ⟨Rect.unit ![0, 2048] S8x1024.size inb_S8x4096_S8x1024_0_2048, q 2⟩ :: stored2 q L

/-- All four chunks' rows stored. -/
def stored4 (q : Fin 4 → Vec F S8x1024 .f32) (L : List (View.Piece (Elt F) S8x4096 .f32)) :
    List (View.Piece (Elt F) S8x4096 .f32) :=
  ⟨Rect.unit ![0, 3072] S8x1024.size inb_S8x4096_S8x1024_0_3072, q 3⟩ :: stored3 q L

end Def

section Canon

variable {F : FTy → Type} [FloatOps F] [Named F]

/-- Inside the last stored columns. -/
theorem canon_hit (o : ℕ) (inb : ∀ a, (![0, o] : Fin 2 → ℕ) a + S8x1024.size a ≤ S8x4096.size a) (w : Vec F S8x1024 .f32)
    (L : List (View.Piece (Elt F) S8x4096 .f32)) (r : Fin 8) (j : Fin 1024) (n : Fin 4096) (hn : n.val = o + j.val) :
    View.canon (⟨Rect.unit (s := S8x4096) ![0, o] S8x1024.size inb, w⟩ :: L) (ix2 r n) = w (ix2 r j) := by
  have e : (ix2 r n : S8x4096.Idx) = (Rect.unit (s := S8x4096) ![0, o] S8x1024.size inb).emb (ix2 r j) := by
    funext y; apply Fin.ext
    match y with
    | ⟨0, _⟩ => show r.val = 0 + 1 * r.val; omega
    | ⟨1, _⟩ => show n.val = o + 1 * j.val; omega
  rw [e]
  exact View.canon_cons_emb _ _ _ _

/-- Outside the last stored columns. -/
theorem canon_miss (o : ℕ) (inb : ∀ a, (![0, o] : Fin 2 → ℕ) a + S8x1024.size a ≤ S8x4096.size a) (w : Vec F S8x1024 .f32)
    (L : List (View.Piece (Elt F) S8x4096 .f32)) (r : Fin 8) (n : Fin 4096) (hn : n.val < o ∨ o + 1024 ≤ n.val) :
    View.canon (⟨Rect.unit (s := S8x4096) ![0, o] S8x1024.size inb, w⟩ :: L) (ix2 r n) = View.canon L (ix2 r n) := by
  refine View.canon_cons_of_not_mem _ L fun hm => ?_
  have h1 : o ≤ n.val ∧ n.val < o + 1024 :=
    (Rect.mem_set_unit (s := S8x4096) (off := ![0, o]) (size := S8x1024.size) (inb := inb)).mp hm (1 : Fin 2)
  omega

/-- The stored rows at an index. -/
theorem stored4_apply (q : Fin 4 → Vec F S8x1024 .f32) (L : List (View.Piece (Elt F) S8x4096 .f32)) (c : Fin 4) (r : Fin 8)
    (j : Fin 1024) (n : Fin 4096) (hn : n.val = 1024 * c.val + j.val) :
    View.canon (stored4 q L) (ix2 r n) = q c (ix2 r j) := by
  have hj := j.isLt
  unfold stored4 stored3 stored2 stored1
  match c, hn with
  | ⟨3, _⟩, hn => exact canon_hit 3072 _ _ _ r j n hn
  | ⟨2, _⟩, hn =>
    replace hn : n.val = 1024 * 2 + j.val := hn
    rw [canon_miss 3072 _ _ _ _ _ (by omega)]
    exact canon_hit 2048 _ _ _ r j n hn
  | ⟨1, _⟩, hn =>
    replace hn : n.val = 1024 * 1 + j.val := hn
    rw [canon_miss 3072 _ _ _ _ _ (by omega), canon_miss 2048 _ _ _ _ _ (by omega)]
    exact canon_hit 1024 _ _ _ r j n hn
  | ⟨0, _⟩, hn =>
    replace hn : n.val = 1024 * 0 + j.val := hn
    rw [canon_miss 3072 _ _ _ _ _ (by omega), canon_miss 2048 _ _ _ _ _ (by omega), canon_miss 1024 _ _ _ _ _ (by omega)]
    exact canon_hit 0 _ _ _ r j n hn

/-- The zeroed scratch at an index, over the extended reals. -/
theorem stored0_apply (y : S8x4096.Idx) : View.canon (stored0 (F := Ideal)) y = (0 : EReal) := by
  unfold stored0
  rw [View.canon_unit_zero (S := S8x4096) (funext fun a => by fin_cases a <;> rfl)]
  unfold k0_pay2
  rw [shapeCast_self]
  exact Ideal.ofBits_zero_f32

/-- The whole rectangle's index map. -/
theorem whole_idx (inb : ∀ a, (![0, 0] : Fin 2 → ℕ) a + S8x4096.size a ≤ S8x4096.size a) (y : S8x4096.Idx) :
    (Rect.unit (s := S8x4096) ![0, 0] S8x4096.size inb).toLoadRect.idx y = y := by
  funext a; apply Fin.ext
  match a with
  | ⟨0, _⟩ => show 0 + 1 * (y 0).val = (y 0).val; omega
  | ⟨1, _⟩ => show 0 + 1 * (y 1).val = (y 1).val; omega

end Canon

section Point

variable {F : FTy → Type} [FloatOps F] [Named F] (c : Dev nD) (i : grid0.Coords)
  (arg1 : Memref sig .tc .vmem S512x1024 .f32) (harg1 : arg1.IsWhole) (arg2 : Memref sig .tc .vmem S1x1024 .f32)
  (harg2 : arg2.IsWhole) (arg3 : Memref sig .tc .vmem S1024x8192 .bf16) (harg3 : arg3.IsWhole)
  (arg4 : Memref sig .tc .vmem S8x4096 .f32) (harg4 : arg4.IsWhole) (arg5 : Memref sig .tc .vmem S1x4096 .f32)
  (harg5 : arg5.IsWhole) (arg6 : Memref sig .tc .vmem S4096x1024 .bf16) (harg6 : arg6.IsWhole)
  (arg7 : Memref sig .tc .vmem S1x1024 .f32) (harg7 : arg7.IsWhole) (arg8 : Memref sig .tc .vmem S512x1024 .f32)
  (harg8 : arg8.IsWhole) (arg9 : Memref sig .tc .vmem S8x4096 .f32) (harg9 : arg9.IsWhole)
  (arg10 : Memref sig .tc .vmem S8x4096 .f32) (harg10 : arg10.IsWhole)
  (x0 : Vec F S512x1024 .f32) (x1 : Vec F S1x1024 .f32) (x2 : Vec F S1024x8192 .bf16) (x3 : Vec F S8x4096 .f32)
  (x4 : Vec F S1x4096 .f32) (x5 : Vec F S4096x1024 .bf16) (x6 : Vec F S1x1024 .f32) (xs : Vec F S8x4096 .f32)

/-- A later point's output pieces. -/
theorem piecesB (hc : ¬ cond0_0 i) :
    (kernelRun0_B c i arg1 harg1 arg2 harg2 arg3 harg3 arg4 harg4 arg5 harg5 arg6 harg6 arg7 harg7 arg8 harg8 arg9 harg9
      arg10 harg10 hc x0 x1 x2 x3 x4 x5 x6 xs).1
      = [⟨Rect.unit ![0, 0] S512x1024.size inb_S512x1024_S512x1024_0_0,
          tileOf (arg1.view.read (Elt F) (harg1.unread x0)) (arg2.view.read (Elt F) (harg2.unread x1))
            (arg3.view.read (Elt F) (harg3.unread x2)) (arg4.view.read (Elt F) (harg4.unread x3))
            (arg5.view.read (Elt F) (harg5.unread x4)) (arg6.view.read (Elt F) (harg6.unread x5))
            (arg7.view.read (Elt F) (harg7.unread x6)) (carried (arg10.view.read (Elt F) (harg10.unread xs)))⟩] := rfl

/-- A later point's scratch pieces. -/
theorem scratchB (hc : ¬ cond0_0 i) :
    (kernelRun0_B c i arg1 harg1 arg2 harg2 arg3 harg3 arg4 harg4 arg5 harg5 arg6 harg6 arg7 harg7 arg8 harg8 arg9 harg9
      arg10 harg10 hc x0 x1 x2 x3 x4 x5 x6 xs).2.2.1
      = stored4 (last (arg1.view.read (Elt F) (harg1.unread x0)) (arg2.view.read (Elt F) (harg2.unread x1))
          (arg3.view.read (Elt F) (harg3.unread x2))) [] := rfl

/-- The first point's output pieces. -/
theorem piecesA (hc : cond0_0 i) :
    (kernelRun0_A c i arg1 harg1 arg2 harg2 arg3 harg3 arg4 harg4 arg5 harg5 arg6 harg6 arg7 harg7 arg8 harg8 arg9 harg9
      arg10 harg10 hc x0 x1 x2 x3 x4 x5 x6).1
      = [⟨Rect.unit ![0, 0] S512x1024.size inb_S512x1024_S512x1024_0_0,
          tileOf (arg1.view.read (Elt F) (harg1.unread x0)) (arg2.view.read (Elt F) (harg2.unread x1))
            (arg3.view.read (Elt F) (harg3.unread x2)) (arg4.view.read (Elt F) (harg4.unread x3))
            (arg5.view.read (Elt F) (harg5.unread x4)) (arg6.view.read (Elt F) (harg6.unread x5))
            (arg7.view.read (Elt F) (harg7.unread x6))
            (let q := last (arg1.view.read (Elt F) (harg1.unread x0)) (arg2.view.read (Elt F) (harg2.unread x1))
              (arg3.view.read (Elt F) (harg3.unread x2))
            ![arg10.view.readCov stored0 (Rect.unit (s := S8x4096) ![0, 0] S8x1024.size inb_S8x4096_S8x1024_0_0),
              arg10.view.readCov (stored1 q stored0) (Rect.unit (s := S8x4096) ![0, 1024] S8x1024.size inb_S8x4096_S8x1024_0_1024),
              arg10.view.readCov (stored2 q stored0) (Rect.unit (s := S8x4096) ![0, 2048] S8x1024.size inb_S8x4096_S8x1024_0_2048),
              arg10.view.readCov (stored3 q stored0) (Rect.unit (s := S8x4096) ![0, 3072] S8x1024.size inb_S8x4096_S8x1024_0_3072)])⟩] :=
  rfl

/-- The first point's scratch pieces. -/
theorem scratchA (hc : cond0_0 i) :
    (kernelRun0_A c i arg1 harg1 arg2 harg2 arg3 harg3 arg4 harg4 arg5 harg5 arg6 harg6 arg7 harg7 arg8 harg8 arg9 harg9
      arg10 harg10 hc x0 x1 x2 x3 x4 x5 x6).2.2.1
      = stored4 (last (arg1.view.read (Elt F) (harg1.unread x0)) (arg2.view.read (Elt F) (harg2.unread x1))
          (arg3.view.read (Elt F) (harg3.unread x2))) stored0 := rfl

/-- A later point's second output's pieces. -/
theorem copyB (hc : ¬ cond0_0 i) :
    (kernelRun0_B c i arg1 harg1 arg2 harg2 arg3 harg3 arg4 harg4 arg5 harg5 arg6 harg6 arg7 harg7 arg8 harg8 arg9 harg9
      arg10 harg10 hc x0 x1 x2 x3 x4 x5 x6 xs).2.1
      = [⟨Rect.unit ![0, 0] S8x4096.size inb_S8x4096_S8x4096_0_0,
          arg10.view.readCov (stored4 (last (arg1.view.read (Elt F) (harg1.unread x0))
            (arg2.view.read (Elt F) (harg2.unread x1)) (arg3.view.read (Elt F) (harg3.unread x2))) [])
            (Rect.unit ![0, 0] S8x4096.size inb_S8x4096_S8x4096_0_0)⟩] := rfl

/-- The first point's second output's pieces. -/
theorem copyA (hc : cond0_0 i) :
    (kernelRun0_A c i arg1 harg1 arg2 harg2 arg3 harg3 arg4 harg4 arg5 harg5 arg6 harg6 arg7 harg7 arg8 harg8 arg9 harg9
      arg10 harg10 hc x0 x1 x2 x3 x4 x5 x6).2.1
      = [⟨Rect.unit ![0, 0] S8x4096.size inb_S8x4096_S8x4096_0_0,
          arg10.view.readCov (stored4 (last (arg1.view.read (Elt F) (harg1.unread x0))
            (arg2.view.read (Elt F) (harg2.unread x1)) (arg3.view.read (Elt F) (harg3.unread x2))) stored0)
            (Rect.unit ![0, 0] S8x4096.size inb_S8x4096_S8x4096_0_0)⟩] := rfl

/-- A later point's output block. -/
theorem outB (hc : ¬ cond0_0 i) :
    out0_B_7 c i arg1 harg1 arg2 harg2 arg3 harg3 arg4 harg4 arg5 harg5 arg6 harg6 arg7 harg7 arg8 harg8 arg9 harg9
      arg10 harg10 hc x0 x1 x2 x3 x4 x5 x6 xs
      = tileOf x0 x1 x2 x3 x4 x5 x6 (carried xs) := by
  unfold out0_B_7
  rw [View.read_writes_eq_canon _ _ _ (cover0_B_7 c i arg1 harg1 arg2 harg2 arg3 harg3 arg4 harg4 arg5 harg5 arg6 harg6 arg7 harg7 arg8 harg8 arg9 harg9
      arg10 harg10 hc x0 x1 x2 x3 x4 x5 x6 xs),
    piecesB, View.canon_unit_zero (S := S512x1024) (funext fun a => by fin_cases a <;> rfl), harg1.read_unread, harg2.read_unread, harg3.read_unread, harg4.read_unread, harg5.read_unread,
    harg6.read_unread, harg7.read_unread, harg10.read_unread]

/-- A later point's scratch at an index. -/
theorem soutB (hc : ¬ cond0_0 i) (k : Fin 4) (r : Fin 8) (j : Fin 1024) (n : Fin 4096) (hn : n.val = 1024 * k.val + j.val) :
    sout0_B_0 c i arg1 harg1 arg2 harg2 arg3 harg3 arg4 harg4 arg5 harg5 arg6 harg6 arg7 harg7 arg8 harg8 arg9 harg9
      arg10 harg10 hc x0 x1 x2 x3 x4 x5 x6 xs (ix2 r n)
      = last x0 x1 x2 k (ix2 r j) := by
  unfold sout0_B_0
  rw [View.read_writes_eq_canon _ _ _ (scover0_B_0 c i arg1 harg1 arg2 harg2 arg3 harg3 arg4 harg4 arg5 harg5 arg6 harg6 arg7 harg7 arg8 harg8 arg9 harg9
      arg10 harg10 hc x0 x1 x2 x3 x4 x5 x6 xs),
    scratchB, harg1.read_unread, harg2.read_unread, harg3.read_unread, stored4_apply _ _ k r j n hn]

/-- A later point's second output block at an index. -/
theorem out8B (hc : ¬ cond0_0 i) (k : Fin 4) (r : Fin 8) (j : Fin 1024) (n : Fin 4096) (hn : n.val = 1024 * k.val + j.val) :
    out0_B_8 c i arg1 harg1 arg2 harg2 arg3 harg3 arg4 harg4 arg5 harg5 arg6 harg6 arg7 harg7 arg8 harg8 arg9 harg9
      arg10 harg10 hc x0 x1 x2 x3 x4 x5 x6 xs (ix2 r n)
      = last x0 x1 x2 k (ix2 r j) := by
  unfold out0_B_8
  rw [View.read_writes_eq_canon _ _ _ (cover0_B_8 c i arg1 harg1 arg2 harg2 arg3 harg3 arg4 harg4 arg5 harg5 arg6 harg6 arg7 harg7 arg8 harg8 arg9 harg9
      arg10 harg10 hc x0 x1 x2 x3 x4 x5 x6 xs),
    copyB, View.canon_unit_zero (S := S8x4096) (funext fun a => by fin_cases a <;> rfl), View.readCov_eq_canon', harg1.read_unread, harg2.read_unread,
    harg3.read_unread]
  refine (congrArg (View.canon _) ?_).trans (stored4_apply _ _ k r j n hn)
  exact whole_idx _ _

/-- The first point's scratch at an index. -/
theorem soutA (hc : cond0_0 i) (k : Fin 4) (r : Fin 8) (j : Fin 1024) (n : Fin 4096) (hn : n.val = 1024 * k.val + j.val) :
    sout0_A_0 c i arg1 harg1 arg2 harg2 arg3 harg3 arg4 harg4 arg5 harg5 arg6 harg6 arg7 harg7 arg8 harg8 arg9 harg9
      arg10 harg10 hc x0 x1 x2 x3 x4 x5 x6 (ix2 r n)
      = last x0 x1 x2 k (ix2 r j) := by
  unfold sout0_A_0
  rw [View.read_writes_eq_canon _ _ _ (scover0_A_0 c i arg1 harg1 arg2 harg2 arg3 harg3 arg4 harg4 arg5 harg5 arg6 harg6 arg7 harg7 arg8 harg8 arg9 harg9
      arg10 harg10 hc x0 x1 x2 x3 x4 x5 x6),
    scratchA, harg1.read_unread, harg2.read_unread, harg3.read_unread, stored4_apply _ _ k r j n hn]

/-- The first point's second output block at an index. -/
theorem out8A (hc : cond0_0 i) (k : Fin 4) (r : Fin 8) (j : Fin 1024) (n : Fin 4096) (hn : n.val = 1024 * k.val + j.val) :
    out0_A_8 c i arg1 harg1 arg2 harg2 arg3 harg3 arg4 harg4 arg5 harg5 arg6 harg6 arg7 harg7 arg8 harg8 arg9 harg9
      arg10 harg10 hc x0 x1 x2 x3 x4 x5 x6 (ix2 r n)
      = last x0 x1 x2 k (ix2 r j) := by
  unfold out0_A_8
  rw [View.read_writes_eq_canon _ _ _ (cover0_A_8 c i arg1 harg1 arg2 harg2 arg3 harg3 arg4 harg4 arg5 harg5 arg6 harg6 arg7 harg7 arg8 harg8 arg9 harg9
      arg10 harg10 hc x0 x1 x2 x3 x4 x5 x6),
    copyA, View.canon_unit_zero (S := S8x4096) (funext fun a => by fin_cases a <;> rfl), View.readCov_eq_canon', harg1.read_unread, harg2.read_unread,
    harg3.read_unread]
  refine (congrArg (View.canon _) ?_).trans (stored4_apply _ _ k r j n hn)
  exact whole_idx _ _

end Point

section First

variable (c : Dev nD) (i : grid0.Coords)
  (arg1 : Memref sig .tc .vmem S512x1024 .f32) (harg1 : arg1.IsWhole) (arg2 : Memref sig .tc .vmem S1x1024 .f32)
  (harg2 : arg2.IsWhole) (arg3 : Memref sig .tc .vmem S1024x8192 .bf16) (harg3 : arg3.IsWhole)
  (arg4 : Memref sig .tc .vmem S8x4096 .f32) (harg4 : arg4.IsWhole) (arg5 : Memref sig .tc .vmem S1x4096 .f32)
  (harg5 : arg5.IsWhole) (arg6 : Memref sig .tc .vmem S4096x1024 .bf16) (harg6 : arg6.IsWhole)
  (arg7 : Memref sig .tc .vmem S1x1024 .f32) (harg7 : arg7.IsWhole) (arg8 : Memref sig .tc .vmem S512x1024 .f32)
  (harg8 : arg8.IsWhole) (arg9 : Memref sig .tc .vmem S8x4096 .f32) (harg9 : arg9.IsWhole)
  (arg10 : Memref sig .tc .vmem S8x4096 .f32) (harg10 : arg10.IsWhole)
  (x0 : Vec Ideal S512x1024 .f32) (x1 : Vec Ideal S1x1024 .f32) (x2 : Vec Ideal S1024x8192 .bf16)
  (x3 : Vec Ideal S8x4096 .f32) (x4 : Vec Ideal S1x4096 .f32) (x5 : Vec Ideal S4096x1024 .bf16) (x6 : Vec Ideal S1x1024 .f32)

/-- The scratch read, at columns no chunk has been stored to since it was zeroed, is zero. -/
theorem zero_read (L : List (View.Piece (Elt Ideal) S8x4096 .f32)) (o : ℕ)
    (inb : ∀ a, (![0, o] : Fin 2 → ℕ) a + S8x1024.size a ≤ S8x4096.size a)
    (hL : ∀ (r : Fin 8) (n : Fin 4096), o ≤ n.val → View.canon L (ix2 r n) = (0 : EReal)) (r : Fin 8) (j : Fin 1024) :
    arg10.view.readCov L (Rect.unit (s := S8x4096) ![0, o] S8x1024.size inb) (ix2 r j) = (0 : EReal) := by
  have hb : o + 1024 ≤ 4096 := inb (1 : Fin 2)
  rw [View.readCov_eq_canon']
  refine (congrArg (View.canon L) ?_).trans (hL r ⟨o + j.val, by omega⟩ (Nat.le_add_right _ _))
  funext y; apply Fin.ext
  match y with
  | ⟨0, _⟩ => show 0 + 1 * r.val = r.val; omega
  | ⟨1, _⟩ => show o + 1 * j.val = o + j.val; omega

/-- The first point's output block: the carried rows are zero. -/
theorem outA (hc : cond0_0 i) : ∃ p : Fin 4 → Vec Ideal S8x1024 .f32, (∀ k r j, p k (ix2 r j) = (0 : EReal)) ∧
    out0_A_7 c i arg1 harg1 arg2 harg2 arg3 harg3 arg4 harg4 arg5 harg5 arg6 harg6 arg7 harg7 arg8 harg8 arg9 harg9
      arg10 harg10 hc x0 x1 x2 x3 x4 x5 x6
      = tileOf x0 x1 x2 x3 x4 x5 x6 p := by
  unfold out0_A_7
  rw [View.read_writes_eq_canon _ _ _ (cover0_A_7 c i arg1 harg1 arg2 harg2 arg3 harg3 arg4 harg4 arg5 harg5 arg6 harg6 arg7 harg7 arg8 harg8 arg9 harg9
      arg10 harg10 hc x0 x1 x2 x3 x4 x5 x6),
    piecesA, View.canon_unit_zero (S := S512x1024) (funext fun a => by fin_cases a <;> rfl), harg1.read_unread, harg2.read_unread, harg3.read_unread, harg4.read_unread, harg5.read_unread,
    harg6.read_unread, harg7.read_unread]
  refine ⟨_, fun k r j => ?_, rfl⟩
  match k with
  | ⟨0, _⟩ => exact zero_read arg10 _ 0 _ (fun r n _ => stored0_apply _) r j
  | ⟨1, _⟩ =>
    refine zero_read arg10 _ 1024 _ (fun r n hn => ?_) r j
    unfold stored1
    rw [canon_miss 0 _ _ _ _ _ (by omega)]
    exact stored0_apply _
  | ⟨2, _⟩ =>
    refine zero_read arg10 _ 2048 _ (fun r n hn => ?_) r j
    unfold stored2 stored1
    rw [canon_miss 1024 _ _ _ _ _ (by omega), canon_miss 0 _ _ _ _ _ (by omega)]
    exact stored0_apply _
  | ⟨3, _⟩ =>
    refine zero_read arg10 _ 3072 _ (fun r n hn => ?_) r j
    unfold stored3 stored2 stored1
    rw [canon_miss 2048 _ _ _ _ _ (by omega), canon_miss 1024 _ _ _ _ _ (by omega), canon_miss 0 _ _ _ _ _ (by omega)]
    exact stored0_apply _

end First

end Cert.FfnPoint
-- ==== Proof.FfnWhole.lean ====
/- The feed-forward kernel's whole arrays: every point's block in the layer's own terms, then the two arrays. -/
module

public import proofs.«01_k».proof.Proof.FfnPoint
public import Idealize.ShloMosaic.Lib.Pipeline.ValueKit

@[expose] public section

noncomputable section

namespace Cert.FfnWhole

open Cert.FfnIdeal Cert.FfnIdeal.Gen Cert.FfnTile Cert.FfnPoint Idealize.ShloMosaic Idealize.SL.Sem

variable (m : (ℓ : Loc nD τ sig) → Buf (Elt Ideal) ℓ) (c : Dev nD)

/-- The states, by row and feature. -/
def H : ℕ → ℕ → EReal := FfnRows.tab (a := 16384) (b := 1024) (m ((c.tc : Thread nD τ).loc main_arg0))
/-- The first normalisation's weight. -/
def A : ℕ → EReal := FfnRows.tab (a := 1) (b := 1024) (m ((c.tc : Thread nD τ).loc main_arg1)) 0
/-- The up projection. -/
def W : ℕ → ℕ → EReal := FfnRows.tab (a := 1024) (b := 8192) (m ((c.tc : Thread nD τ).loc main_arg2))
/-- The taps. -/
def C : ℕ → ℕ → EReal := FfnRows.tab (a := 8) (b := 4096) (m ((c.tc : Thread nD τ).loc main_arg3))
/-- The offset. -/
def B : ℕ → EReal := FfnRows.tab (a := 1) (b := 4096) (m ((c.tc : Thread nD τ).loc main_arg4)) 0
/-- The down projection. -/
def D : ℕ → ℕ → EReal := FfnRows.tab (a := 4096) (b := 1024) (m ((c.tc : Thread nD τ).loc main_arg5))
/-- The second normalisation's weight. -/
def Z : ℕ → EReal := FfnRows.tab (a := 1) (b := 1024) (m ((c.tc : Thread nD τ).loc main_arg6)) 0

/-- The states' window moves along the rows. -/
theorem ix_0 : ∀ t : Fin cfg0.N, win0_0.index t = ![t.val, 0] := (by decide +kernel : ∀ t : Fin grid0.N, _)
/-- The output's window moves along the rows. -/
theorem ix_7 : ∀ t : Fin cfg0.N, win0_7.index t = ![t.val, 0] := (by decide +kernel : ∀ t : Fin grid0.N, _)
/-- The second output's window moves along its rows. -/
theorem ix_8 : ∀ t : Fin cfg0.N, win0_8.index t = ![t.val, 0] := (by decide +kernel : ∀ t : Fin grid0.N, _)
/-- The first normalisation's weight is one block. -/
theorem ix_1 : ∀ t : Fin cfg0.N, win0_1.index t = ![0, 0] := (by decide +kernel : ∀ t : Fin grid0.N, _)
/-- The up projection is one block. -/
theorem ix_2 : ∀ t : Fin cfg0.N, win0_2.index t = ![0, 0] := (by decide +kernel : ∀ t : Fin grid0.N, _)
/-- The taps are one block. -/
theorem ix_3 : ∀ t : Fin cfg0.N, win0_3.index t = ![0, 0] := (by decide +kernel : ∀ t : Fin grid0.N, _)
/-- The offset is one block. -/
theorem ix_4 : ∀ t : Fin cfg0.N, win0_4.index t = ![0, 0] := (by decide +kernel : ∀ t : Fin grid0.N, _)
/-- The down projection is one block. -/
theorem ix_5 : ∀ t : Fin cfg0.N, win0_5.index t = ![0, 0] := (by decide +kernel : ∀ t : Fin grid0.N, _)
/-- The second normalisation's weight is one block. -/
theorem ix_6 : ∀ t : Fin cfg0.N, win0_6.index t = ![0, 0] := (by decide +kernel : ∀ t : Fin grid0.N, _)

/-- A point's number is below 32. -/
theorem lt32 (t : Fin cfg0.N) : t.val < 32 := t.isLt.trans_eq N_0

/-- The states' block at an index. -/
theorem blk_0 (t : Fin cfg0.N) (r : Fin 512) (k : Fin 1024) :
    iblk m c 0 t (ValueIdx.ix2 r k) = H m c (512 * t.val + r.val) k.val := by
  have ht := lt32 t
  refine Eq.trans ?_ (FfnRows.tab_in _ (⟨512 * t.val + r.val, by omega⟩ : Fin 16384) k _ _ rfl rfl)
  have e := ix_0 t
  blk_simp [iblk]
  refine congrArg (V m c main_arg0) ?_
  blk_ext [e]
  exact congrArg (· + r.val) (Nat.mul_comm _ _)

/-- The first normalisation's weight at an index. -/
theorem blk_1 (t : Fin cfg0.N) (k : Fin 1024) : iblk m c 1 t (ValueIdx.ix2 (0 : Fin 1) k) = A m c k.val := by
  refine Eq.trans ?_ (FfnRows.tab_in _ (0 : Fin 1) k _ _ rfl rfl)
  have e := ix_1 t
  blk_simp [iblk]
  refine congrArg (V m c main_arg1) ?_
  blk_ext [e]

/-- The up projection at an index. -/
theorem blk_2 (t : Fin cfg0.N) (k : Fin 1024) (n : Fin 8192) :
    iblk m c 2 t (ValueIdx.ix2 k n) = W m c k.val n.val := by
  refine Eq.trans ?_ (FfnRows.tab_in _ k n _ _ rfl rfl)
  have e := ix_2 t
  blk_simp [iblk]
  refine congrArg (V m c main_arg2) ?_
  blk_ext [e]

/-- The taps at an index. -/
theorem blk_3 (t : Fin cfg0.N) (i : Fin 8) (n : Fin 4096) :
    iblk m c 3 t (ValueIdx.ix2 i n) = C m c i.val n.val := by
  refine Eq.trans ?_ (FfnRows.tab_in _ i n _ _ rfl rfl)
  have e := ix_3 t
  blk_simp [iblk]
  refine congrArg (V m c main_arg3) ?_
  blk_ext [e]

/-- The offset at an index. -/
theorem blk_4 (t : Fin cfg0.N) (n : Fin 4096) : iblk m c 4 t (ValueIdx.ix2 (0 : Fin 1) n) = B m c n.val := by
  refine Eq.trans ?_ (FfnRows.tab_in _ (0 : Fin 1) n _ _ rfl rfl)
  have e := ix_4 t
  blk_simp [iblk]
  refine congrArg (V m c main_arg4) ?_
  blk_ext [e]

/-- The down projection at an index. -/
theorem blk_5 (t : Fin cfg0.N) (n : Fin 4096) (k : Fin 1024) :
    iblk m c 5 t (ValueIdx.ix2 n k) = D m c n.val k.val := by
  refine Eq.trans ?_ (FfnRows.tab_in _ n k _ _ rfl rfl)
  have e := ix_5 t
  blk_simp [iblk]
  refine congrArg (V m c main_arg5) ?_
  blk_ext [e]

/-- The second normalisation's weight at an index. -/
theorem blk_6 (t : Fin cfg0.N) (k : Fin 1024) : iblk m c 6 t (ValueIdx.ix2 (0 : Fin 1) k) = Z m c k.val := by
  refine Eq.trans ?_ (FfnRows.tab_in _ (0 : Fin 1) k _ _ rfl rfl)
  have e := ix_6 t
  blk_simp [iblk]
  refine congrArg (V m c main_arg6) ?_
  blk_ext [e]

/-- A unit-stride load of a matrix at an index. -/
theorem ld_at {a b a' b' : ℕ} (x : (⟨2, ![a, b]⟩ : Shape).Idx → EReal) (o q : ℕ)
    (inb : ∀ z, (![o, q] : Fin 2 → ℕ) z + (⟨2, ![a', b']⟩ : Shape).size z ≤ (⟨2, ![a, b]⟩ : Shape).size z) (r : Fin a')
    (k : Fin b') (r' : Fin a) (k' : Fin b) (hr : r'.val = o + r.val) (hk : k'.val = q + k.val) :
    View.ld (Val := fun _ => EReal) (e' := .f32) x (Rect.unit (s := ⟨2, ![a, b]⟩) ![o, q] (⟨2, ![a', b']⟩ : Shape).size inb)
      (ValueIdx.ix2 r k) = x (ValueIdx.ix2 r' k') := by
  refine View.ld_unit_apply_of _ _ _ _ _ _ fun z => ?_
  match z with
  | ⟨0, _⟩ => exact hr
  | ⟨1, _⟩ => exact hk

/-- A point's operands, whatever carried rows are the eight gate rows before the tile. -/
theorem operands (t : Fin cfg0.N) (p : Fin 4 → Vec Ideal S8x1024 .f32)
    (hp : ∀ k r j, p k (ValueIdx.ix2 r j) = if t.val = 0 then (0 : EReal)
      else FfnRows.up (H m c) (A m c) (W m c) (512 * t.val + r.val - 8) (1024 * k.val + j.val)) :
    Operands t.val (H m c) (A m c) (W m c) (C m c) (B m c) (D m c) (Z m c) (hs (iblk m c 0 t)) (row (iblk m c 1 t))
      (wgs (iblk m c 2 t)) (wvs (iblk m c 2 t)) p (taps 0 (iblk m c 3 t)) (taps 1 (iblk m c 3 t)) (taps 2 (iblk m c 3 t))
      (offs (iblk m c 4 t)) (wds (iblk m c 5 t)) (row (iblk m c 6 t)) where
  h r k := (ld_at _ 0 0 _ r k r k (by omega) (by omega)).trans (blk_0 m c t r k)
  a k := (ld_at _ 0 0 _ (0 : Fin 1) k (0 : Fin 1) k rfl (by omega)).trans (blk_1 m c t k)
  wg i k n := (ld_at _ 0 (1024 * i.val) _ k n k ⟨1024 * i.val + n.val, by omega⟩ (by omega) rfl).trans (blk_2 m c t k _)
  wv i k n := ((ld_at _ 0 (4096 + 1024 * i.val) _ k n k ⟨4096 + 1024 * i.val + n.val, by omega⟩ (by omega) rfl).trans
    (blk_2 m c t k _)).trans (congrArg (W m c k.val) (Nat.add_assoc _ _ _))
  p := hp
  c0 i n := (ld_at _ 0 (1024 * i.val) _ (0 : Fin 1) n (0 : Fin 8) ⟨1024 * i.val + n.val, by omega⟩ rfl rfl).trans (blk_3 m c t 0 _)
  c1 i n := (ld_at _ 1 (1024 * i.val) _ (0 : Fin 1) n (1 : Fin 8) ⟨1024 * i.val + n.val, by omega⟩ rfl rfl).trans (blk_3 m c t 1 _)
  c2 i n := (ld_at _ 2 (1024 * i.val) _ (0 : Fin 1) n (2 : Fin 8) ⟨1024 * i.val + n.val, by omega⟩ rfl rfl).trans (blk_3 m c t 2 _)
  b i n := (ld_at _ 0 (1024 * i.val) _ (0 : Fin 1) n (0 : Fin 1) ⟨1024 * i.val + n.val, by omega⟩ rfl rfl).trans (blk_4 m c t _)
  wd i n k := (ld_at _ (1024 * i.val) 0 _ n k ⟨1024 * i.val + n.val, by omega⟩ k rfl (by omega)).trans (blk_5 m c t _ k)
  z k := (ld_at _ 0 0 _ (0 : Fin 1) k (0 : Fin 1) k rfl (by omega)).trans (blk_6 m c t k)

/-- The last eight gate rows of a point, whatever was carried. -/
theorem last_apply (t : Fin cfg0.N) (k : Fin 4) (r : Fin 8) (j : Fin 1024) :
    last (iblk m c 0 t) (iblk m c 1 t) (iblk m c 2 t) k (ValueIdx.ix2 r j)
      = FfnRows.up (H m c) (A m c) (W m c) (512 * t.val + 504 + r.val) (1024 * k.val + j.val) :=
  (operands m c t (fun k y => if t.val = 0 then (0 : EReal)
    else FfnRows.up (H m c) (A m c) (W m c) (512 * t.val + (y 0).val - 8) (1024 * k.val + (y 1).val))
    fun _ _ _ => rfl).tail_apply k r j

/-- The scratch after a point. -/
theorem scratch (t : Fin cfg0.N) (r : Fin 8) (n : Fin 4096) :
    (outsAt0 m c t.val t.isLt).2.2 (ValueIdx.ix2 r n)
      = FfnRows.up (H m c) (A m c) (W m c) (512 * t.val + 504 + r.val) n.val := by
  have hn : n.val = 1024 * (n.val / 1024) + n.val % 1024 := (Nat.div_add_mod _ _).symm
  have hk : n.val / 1024 < 4 := by omega
  have hj : n.val % 1024 < 1024 := Nat.mod_lt _ (by decide)
  refine Eq.trans ?_ ((last_apply m c t ⟨_, hk⟩ r ⟨_, hj⟩).trans (congrArg _ hn.symm))
  by_cases h0 : t.val % 32 = 0
  · refine (congrFun (congrArg (fun o => o.2.2) (outsAt0_A m c t h0)) _).trans ?_
    dsimp only
    exact soutA (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) scM0_0
      (Memref.isWhole_whole _) (iblk m c 0 t) (iblk m c 1 t) (iblk m c 2 t) (iblk m c 3 t) (iblk m c 4 t) (iblk m c 5 t)
      (iblk m c 6 t) ((hcond0_0 t).mpr h0) ⟨_, hk⟩ r ⟨_, hj⟩ n hn
  · refine (congrFun (congrArg (fun o => o.2.2) (outsAt0_B m c t h0)) _).trans ?_
    dsimp only
    exact soutB (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) scM0_0
      (Memref.isWhole_whole _) (iblk m c 0 t) (iblk m c 1 t) (iblk m c 2 t) (iblk m c 3 t) (iblk m c 4 t) (iblk m c 5 t)
      (iblk m c 6 t)
      (outsAt0 m c (t.val - 1) (Nat.lt_of_le_of_lt (Nat.sub_le _ _) t.isLt)).2.2 (fun h => h0 ((hcond0_0 t).mp h)) ⟨_, hk⟩ r ⟨_, hj⟩ n hn

/-- The second output's block of a point. -/
theorem second (t : Fin cfg0.N) (r : Fin 8) (n : Fin 4096) :
    (outsAt0 m c t.val t.isLt).2.1 (ValueIdx.ix2 r n)
      = FfnRows.up (H m c) (A m c) (W m c) (512 * t.val + 504 + r.val) n.val := by
  have hn : n.val = 1024 * (n.val / 1024) + n.val % 1024 := (Nat.div_add_mod _ _).symm
  have hk : n.val / 1024 < 4 := by omega
  have hj : n.val % 1024 < 1024 := Nat.mod_lt _ (by decide)
  refine Eq.trans ?_ ((last_apply m c t ⟨_, hk⟩ r ⟨_, hj⟩).trans (congrArg _ hn.symm))
  by_cases h0 : t.val % 32 = 0
  · refine (congrFun (congrArg (fun o => o.2.1) (outsAt0_A m c t h0)) _).trans ?_
    dsimp only
    exact out8A (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) scM0_0
      (Memref.isWhole_whole _) (iblk m c 0 t) (iblk m c 1 t) (iblk m c 2 t) (iblk m c 3 t) (iblk m c 4 t) (iblk m c 5 t)
      (iblk m c 6 t) ((hcond0_0 t).mpr h0) ⟨_, hk⟩ r ⟨_, hj⟩ n hn
  · refine (congrFun (congrArg (fun o => o.2.1) (outsAt0_B m c t h0)) _).trans ?_
    dsimp only
    exact out8B (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) scM0_0
      (Memref.isWhole_whole _) (iblk m c 0 t) (iblk m c 1 t) (iblk m c 2 t) (iblk m c 3 t) (iblk m c 4 t) (iblk m c 5 t)
      (iblk m c 6 t)
      (outsAt0 m c (t.val - 1) (Nat.lt_of_le_of_lt (Nat.sub_le _ _) t.isLt)).2.2 (fun h => h0 ((hcond0_0 t).mp h)) ⟨_, hk⟩ r ⟨_, hj⟩ n hn

/-- The output block of a point. -/
theorem first (t : Fin cfg0.N) (r : Fin 512) (k : Fin 1024) :
    (outsAt0 m c t.val t.isLt).1 (ValueIdx.ix2 r k)
      = FfnRows.out (H m c) (A m c) (W m c) (C m c) (B m c) (D m c) (Z m c) FfnRows.geluK (512 * t.val + r.val) k.val := by
  have ht := lt32 t
  by_cases h0 : t.val % 32 = 0
  · have hz : t.val = 0 := by omega
    refine (congrFun (congrArg (fun o => o.1) (outsAt0_A m c t h0)) _).trans ?_
    dsimp only
    obtain ⟨p, hp, e⟩ := outA c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) scM0_0
      (Memref.isWhole_whole _) (iblk m c 0 t) (iblk m c 1 t) (iblk m c 2 t) (iblk m c 3 t) (iblk m c 4 t) (iblk m c 5 t)
      (iblk m c 6 t) ((hcond0_0 t).mpr h0)
    refine (congrFun e _).trans ?_
    exact (operands m c t p fun k r j => by rw [if_pos hz]; exact hp k r j).tile_apply r k
  · have hz : t.val ≠ 0 := fun h => h0 (by rw [h])
    refine (congrFun (congrArg (fun o => o.1) (outsAt0_B m c t h0)) _).trans ?_
    dsimp only
    refine (congrFun (outB (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) scM0_0
      (Memref.isWhole_whole _) (iblk m c 0 t) (iblk m c 1 t) (iblk m c 2 t) (iblk m c 3 t) (iblk m c 4 t) (iblk m c 5 t)
      (iblk m c 6 t)
      (outsAt0 m c (t.val - 1) (Nat.lt_of_le_of_lt (Nat.sub_le _ _) t.isLt)).2.2 (fun h => h0 ((hcond0_0 t).mp h))) _).trans ?_
    refine (operands m c t _ fun k r j => ?_).tile_apply r k
    rw [if_neg hz]
    refine (ld_at _ 0 (1024 * k.val) _ r j r ⟨1024 * k.val + j.val, by omega⟩ (by omega) rfl).trans ?_
    refine (scratch m c ⟨t.val - 1, by omega⟩ r _).trans ?_
    congr 1
    show 512 * (t.val - 1) + 504 + r.val = _
    omega

/-- The output array. -/
def outG : FVec Ideal S16384x1024 .f32 := fun i => FfnRows.out (H m c) (A m c) (W m c) (C m c) (B m c) (D m c) (Z m c)
  FfnRows.geluK (i 0).val (i 1).val

/-- The second output array: the last eight gate rows of every tile. -/
def gateG : FVec Ideal S256x4096 .f32 := fun i => FfnRows.up (H m c) (A m c) (W m c)
  (512 * ((i 0).val / 8) + 504 + (i 0).val % 8) (i 1).val

/-- A matrix index from its coordinates. -/
theorem eta2 {a b : ℕ} (i : (⟨2, ![a, b]⟩ : Shape).Idx) : i = ValueIdx.ix2 (i 0) (i 1) := by
  funext z
  match z with
  | ⟨0, _⟩ => rfl
  | ⟨1, _⟩ => rfl

/-- What the kernel leaves in its first output. -/
theorem final_out : (dats m 0 c).arrAt 7 cfg0.N = outG m c := by
  refine (dats m 0 c).arrAt_eq_of_covers 7 _ (by decide +kernel) fun t hf y => ?_
  have e := ix_7 t
  blk_simp
  rw [after0_7]
  refine ((congrArg _ (eta2 (a := 512) (b := 1024) y)).trans (first m c t (y 0) (y 1))).trans ?_
  unfold outG
  congr 1
  · blk_simp [e]
    omega
  · blk_simp [e]

/-- What the kernel leaves in its second output. -/
theorem final_gate : (dats m 0 c).arrAt 8 cfg0.N = gateG m c := by
  refine (dats m 0 c).arrAt_eq_of_covers 8 _ (by decide +kernel) fun t hf y => ?_
  have e := ix_8 t
  blk_simp
  rw [after0_8]
  refine ((congrArg _ (eta2 (a := 8) (b := 4096) y)).trans (second m c t (y 0) (y 1))).trans ?_
  unfold gateG
  have hy : (y 0).val < 8 := (y 0).isLt
  congr 1
  · blk_simp [e]
    omega
  · blk_simp [e]

end Cert.FfnWhole

end
-- ==== Proof.FfnRef.lean ====
/- The feed-forward's reference read index by index: its steps named one by one, then each at an index over the extended reals,
   ending in the rows of FfnRows.lean. -/
module

public import proofs.«01_k».proof.Proof.Gen.FfnRefIdeal.Run
public import proofs.«01_k».proof.Proof.FfnRows
public import Idealize.ShloMosaic.Lib.Pipeline.Value
public import Idealize.ShloMosaic.Lib.ValueIdx
public import Idealize.ShloMosaic.Lib.IdealHost
public import Idealize.ShloMosaic.Lib.KernelVsHost

@[expose] public section

noncomputable section

namespace Cert.FfnRef

open Cert.FfnRefIdeal Cert.FfnRefIdeal.Gen Idealize.ShloMosaic Idealize.ShloMosaic.ValueIdx Idealize.SL.Sem

section Def
variable {F : FTy → Type} [FloatOps F]

/-- The sum of squares of every row. -/
def sqs (x : FVec F S16384x1024 .f32) : FVec F S16384 .f32 :=
  Host.reduceAdd (mulf x x) (constant S_ .f32 0x00000000#32) reducesTo_S16384x1024_S16384_d1 h_S_

/-- The inverse root mean square of every row, as a column. -/
def inv (x : FVec F S16384x1024 .f32) : FVec F S16384x1 .f32 :=
  Host.rsqrt (addf (Host.divf (broadcastInDim S16384x1 ![0] bcast_S16384_S16384x1_0 (sqs x))
      (broadcastInDim S16384x1 ![] bcast_S_S16384x1 (constant S_ .f32 0x44800000#32)))
    (broadcastInDim S16384x1 ![] bcast_S_S16384x1 (constant S_ .f32 0x358637BD#32)))

/-- The rows divided by their root mean square and scaled. -/
def normR (x : FVec F S16384x1024 .f32) (w : FVec F S1x1024 .f32) : FVec F S16384x1024 .f32 :=
  mulf (mulf x (broadcastInDim S16384x1024 ![0, 1] bcast_S16384x1_S16384x1024_0_1 (inv x)))
    (broadcastInDim S16384x1024 ![0, 1] bcast_S1x1024_S16384x1024_0_1 w)

/-- The up projection. -/
def upR (h : FVec F S16384x1024 .f32) (a : FVec F S1x1024 .f32) (w : FVec F S1024x8192 .bf16) : FVec F S16384x8192 .f32 :=
  Host.dotGeneral dot_S16384x1024_S1024x8192_S16384x8192_1_0_0_1_n_n none (normR h a) (extf .f32 w bitsLt_bf16_f32)

/-- The gate with two rows of zeros before it. -/
def padR (u : FVec F S16384x8192 .f32) : FVec F S16386x4096 .f32 :=
  pad S16386x4096 ![2, 0] ![0, 0] ![0, 0] (extractStridedSlice S16384x4096 ![0, 0] u slices_S16384x8192_S16384x4096_0_0)
    (sitofp .f32 (constantI S_ 32 0#32)) pads_S16384x4096_S16386x4096_200_000 h_S_

/-- A row repeated down the rows. -/
def down1 (r : FVec F S1x4096 .f32) : FVec F S16384x4096 .f32 :=
  broadcastInDim S16384x4096 ![0, 1] bcast_S1x4096_S16384x4096_0_1 r

/-- The gate convolved over three rows. -/
def convR (g : FVec F S16386x4096 .f32) (c : FVec F S8x4096 .f32) (b : FVec F S1x4096 .f32) : FVec F S16384x4096 .f32 :=
  addf (addf (addf
      (mulf (extractStridedSlice S16384x4096 ![0, 0] g slices_S16386x4096_S16384x4096_0_0)
        (down1 (extractStridedSlice S1x4096 ![0, 0] c slices_S8x4096_S1x4096_0_0)))
      (mulf (extractStridedSlice S16384x4096 ![1, 0] g slices_S16386x4096_S16384x4096_1_0)
        (down1 (extractStridedSlice S1x4096 ![1, 0] c slices_S8x4096_S1x4096_1_0))))
      (mulf (extractStridedSlice S16384x4096 ![2, 0] g slices_S16386x4096_S16384x4096_2_0)
        (down1 (extractStridedSlice S1x4096 ![2, 0] c slices_S8x4096_S1x4096_2_0))))
    (down1 b)

/-- A number everywhere. -/
def all (b : BitVec 32) : FVec F S16384x4096 .f32 :=
  broadcastInDim S16384x4096 ![] bcast_S_S16384x4096 (constant S_ .f32 b)

/-- Gelu of every entry. -/
def geluV (x : FVec F S16384x4096 .f32) : FVec F S16384x4096 .f32 :=
  mulf x (mulf (all 0x3F000000#32) (addf (all 0x3F800000#32) (Host.tanh (mulf (all 0x3F4C422A#32)
    (addf x (mulf (all 0x3D372713#32) (mulf (mulf x x) x)))))))

/-- The gated value. -/
def actR (u : FVec F S16384x8192 .f32) (c : FVec F S8x4096 .f32) (b : FVec F S1x4096 .f32) : FVec F S16384x4096 .f32 :=
  mulf (geluV (convR (padR u) c b)) (extractStridedSlice S16384x4096 ![0, 4096] u slices_S16384x8192_S16384x4096_0_4096)

/-- The down projection. -/
def downR (x : FVec F S16384x4096 .f32) (d : FVec F S4096x1024 .bf16) : FVec F S16384x1024 .f32 :=
  Host.dotGeneral dot_S16384x4096_S4096x1024_S16384x1024_1_0_0_1_n_n none x (extf .f32 d bitsLt_bf16_f32)

/-- The first result. -/
def outR (h : FVec F S16384x1024 .f32) (a : FVec F S1x1024 .f32) (w : FVec F S1024x8192 .bf16) (c : FVec F S8x4096 .f32)
    (b : FVec F S1x4096 .f32) (d : FVec F S4096x1024 .bf16) (z : FVec F S1x1024 .f32) : FVec F S16384x1024 .f32 :=
  addf h (normR (downR (actR (upR h a w) c b) d) z)

/-- The second result: the gate's last two rows. -/
def gateR (h : FVec F S16384x1024 .f32) (a : FVec F S1x1024 .f32) (w : FVec F S1024x8192 .bf16) : FVec F S2x4096 .f32 :=
  extractStridedSlice S2x4096 ![16384, 0] (padR (upR h a w)) slices_S16386x4096_S2x4096_16384_0

end Def

section Steps
variable {F : FTy → Type} [FloatOps F] (m : (ℓ : Loc nD τ sig) → Buf (Elt F) ℓ) (c : Dev nD)

/-- The reference's first result is `outR` of its arguments. -/
theorem res0_eq : Value.res_out0 m c = outR (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) := rfl

end Steps

/-! ## At an index, over the extended reals -/

/-- The rows' sums drop the columns. -/
theorem redu : S16384x1024.Reduces [1] S16384 := by decide

/-- A row's sum of squares. -/
theorem sqs_apply (x : FVec Ideal S16384x1024 .f32) (t : Fin 16384) :
    sqs x (ix1 t) = ∑ j : Fin 1024, x (ix2 t j) * x (ix2 t j) := by
  unfold sqs
  rw [hostReduceAdd_apply, Ideal.hostReduceAdd_single _ redu]
  refine (congrArg₂ (· + ·) Ideal.ofBits_zero_f32 (Finset.sum_congr rfl fun j _ => ?_)).trans (zero_add _)
  have e : redu.lift (ix1 t) j = ix2 t j := by
    funext z; apply Fin.ext
    match z with
    | ⟨0, _⟩ => rfl
    | ⟨1, _⟩ => rfl
  exact congrArg (fun i => x i * x i) e

/-- A row's inverse root mean square. -/
theorem inv_apply (x : FVec Ideal S16384x1024 .f32) (t : Fin 16384) :
    inv x (ix2 t (0 : Fin 1))
      = Ideal.rsqrt (Ideal.div (∑ j : Fin 1024, x (ix2 t j) * x (ix2 t j)) FfnRows.width + FfnRows.eps) := by
  have e : broadcastInDim S16384x1 ![0] bcast_S16384_S16384x1_0 (sqs x) (ix2 t (0 : Fin 1)) = sqs x (ix1 t) :=
    broadcastInDim_apply _ _ _ _ (ix1 t) fun z => by
      match z with
      | ⟨0, _⟩ => rfl
  rw [← sqs_apply, ← e]
  rfl

/-- A normalised row. -/
theorem normR_apply (x : FVec Ideal S16384x1024 .f32) (w : FVec Ideal S1x1024 .f32) (t : Fin 16384) (X Y : ℕ → EReal)
    (hx : ∀ j : Fin 1024, x (ix2 t j) = X j.val) (hw : ∀ j : Fin 1024, w (ix2 (0 : Fin 1) j) = Y j.val) (k : Fin 1024) :
    normR x w (ix2 t k) = FfnRows.norm X Y k.val := by
  have ei : broadcastInDim S16384x1024 ![0, 1] bcast_S16384x1_S16384x1024_0_1 (inv x) (ix2 t k) = inv x (ix2 t (0 : Fin 1)) :=
    broadcastInDim_apply _ _ _ _ (ix2 t (0 : Fin 1)) fun z => by
      match z with
      | ⟨0, _⟩ => rfl
      | ⟨1, _⟩ => rfl
  have ew : broadcastInDim S16384x1024 ![0, 1] bcast_S1x1024_S16384x1024_0_1 w (ix2 t k) = w (ix2 (0 : Fin 1) k) :=
    broadcastInDim_apply _ _ _ _ (ix2 (0 : Fin 1) k) fun z => by
      match z with
      | ⟨0, _⟩ => rfl
      | ⟨1, _⟩ => rfl
  have es : ∑ j : Fin 1024, x (ix2 t j) * x (ix2 t j) = ∑ j : Fin 1024, X j.val * X j.val :=
    Finset.sum_congr rfl fun j _ => by rw [hx]
  show x (ix2 t k) * _ * _ = _
  rw [ei, ew, inv_apply, es, hx, hw]
  rfl

/-- The up projection's product at an index. -/
theorem dotU_apply (L : FVec Ideal S16384x1024 .f32) (R : FVec Ideal S1024x8192 .f32) (t : Fin 16384) (n : Fin 8192) :
    Host.dotGeneral dot_S16384x1024_S1024x8192_S16384x8192_1_0_0_1_n_n none L R (ix2 t n) = ∑ k : Fin 1024, L (ix2 t k) * R (ix2 k n) := by
  let D := dot_S16384x1024_S1024x8192_S16384x8192_1_0_0_1_n_n
  have hr : D.contr.rank = 1 := rfl
  have hs : D.contr.size ⟨0, by rw [hr]; exact Nat.one_pos⟩ = 1024 := rfl
  refine (Ideal.dotGeneral_apply D none _ L R (ix2 t n)).trans ?_
  rw [← Equiv.sum_comp (contrEquiv1 D 1024 hr hs).symm]
  refine Finset.sum_congr rfl fun k _ => ?_
  have hk := contrEquiv1_symm_val D 1024 hr hs k
  have el : D.lhsIdx (ix2 t n) ((contrEquiv1 D 1024 hr hs).symm k) = ix2 t k := by
    funext z; apply Fin.ext
    match z with
    | ⟨0, _⟩ => rfl
    | ⟨1, _⟩ => exact hk
  have er : D.rhsIdx (ix2 t n) ((contrEquiv1 D 1024 hr hs).symm k) = ix2 k n := by
    funext z; apply Fin.ext
    match z with
    | ⟨0, _⟩ => exact hk
    | ⟨1, _⟩ => rfl
  rw [el, er]

/-- The down projection's product at an index. -/
theorem dotD_apply (L : FVec Ideal S16384x4096 .f32) (R : FVec Ideal S4096x1024 .f32) (t : Fin 16384) (k : Fin 1024) :
    Host.dotGeneral dot_S16384x4096_S4096x1024_S16384x1024_1_0_0_1_n_n none L R (ix2 t k) = ∑ n : Fin 4096, L (ix2 t n) * R (ix2 n k) := by
  let D := dot_S16384x4096_S4096x1024_S16384x1024_1_0_0_1_n_n
  have hr : D.contr.rank = 1 := rfl
  have hs : D.contr.size ⟨0, by rw [hr]; exact Nat.one_pos⟩ = 4096 := rfl
  refine (Ideal.dotGeneral_apply D none _ L R (ix2 t k)).trans ?_
  rw [← Equiv.sum_comp (contrEquiv1 D 4096 hr hs).symm]
  refine Finset.sum_congr rfl fun n _ => ?_
  have hk := contrEquiv1_symm_val D 4096 hr hs n
  have el : D.lhsIdx (ix2 t k) ((contrEquiv1 D 4096 hr hs).symm n) = ix2 t n := by
    funext z; apply Fin.ext
    match z with
    | ⟨0, _⟩ => rfl
    | ⟨1, _⟩ => exact hk
  have er : D.rhsIdx (ix2 t k) ((contrEquiv1 D 4096 hr hs).symm n) = ix2 n k := by
    funext z; apply Fin.ext
    match z with
    | ⟨0, _⟩ => exact hk
    | ⟨1, _⟩ => rfl
  rw [el, er]

section Layer
variable (h : FVec Ideal S16384x1024 .f32) (a : FVec Ideal S1x1024 .f32) (w : FVec Ideal S1024x8192 .bf16) (c : FVec Ideal S8x4096 .f32)
  (b : FVec Ideal S1x4096 .f32) (d : FVec Ideal S4096x1024 .bf16) (z : FVec Ideal S1x1024 .f32)

/-- The up projection at an index. -/
theorem upR_apply (t : Fin 16384) (n : Fin 8192) :
    upR h a w (ix2 t n) = FfnRows.up (FfnRows.tab (a := 16384) (b := 1024) h) (FfnRows.tab (a := 1) (b := 1024) a 0)
      (FfnRows.tab (a := 1024) (b := 8192) w) t.val n.val := by
  unfold upR FfnRows.up
  refine (dotU_apply _ _ t n).trans (Finset.sum_congr rfl fun k _ => congrArg₂ (· * ·) ?_ ?_)
  · exact normR_apply h a t _ _ (fun j => FfnRows.tab_in h t j _ _ rfl rfl) (fun j => FfnRows.tab_in a 0 j _ _ rfl rfl) k
  · exact FfnRows.tab_in (a := 1024) (b := 8192) w k n _ _ rfl rfl

/-- The padded gate `2 - e` rows back. -/
theorem padR_apply (t : ℕ) (e : ℕ) (he : e ≤ 2) (i : Fin 16386) (hi : i.val = t + e) (n : Fin 4096) :
    padR (upR h a w) (ix2 i n) = FfnRows.before (FfnRows.tab (a := 16384) (b := 1024) h) (FfnRows.tab (a := 1) (b := 1024) a 0)
      (FfnRows.tab (a := 1024) (b := 8192) w) (2 - e) t n.val := by
  unfold padR FfnRows.before
  split
  · rename_i hlt
    refine (pad_apply_of_not_inside _ _ _ _ _ _ _ _ (0 : Fin 2) fun hin => ?_).trans ?_
    · have h1 : 2 ≤ i.val := hin.1
      omega
    · show (((0#32 : BitVec 32).toInt : ℝ) : EReal) = 0
      simp
  · rename_i hge
    have hib := i.isLt
    refine (pad_apply_of_inside _ _ _ _ _ _ _ _ (ix2 (⟨i.val - 2, by omega⟩ : Fin 16384) n) fun y => ?_).trans ?_
    · match y with
      | ⟨0, _⟩ => show i.val = 2 + (i.val - 2) * 1; omega
      | ⟨1, _⟩ => show n.val = 0 + n.val * 1; omega
    · refine (extractStridedSlice_apply _ _ _ _ (ix2 (⟨i.val - 2, by omega⟩ : Fin 16384) (⟨n.val, by omega⟩ : Fin 8192)) fun y => ?_).trans ?_
      · match y with
        | ⟨0, _⟩ => exact (Nat.zero_add _).symm
        | ⟨1, _⟩ => exact (Nat.zero_add _).symm
      · refine (upR_apply h a w _ _).trans ?_
        refine congrArg (fun s => FfnRows.up _ _ _ s n.val) ?_
        show i.val - 2 = t - (2 - e)
        omega

/-- A repeated row at an index. -/
theorem down1_apply (r : FVec Ideal S1x4096 .f32) (t : Fin 16384) (n : Fin 4096) : down1 r (ix2 t n) = r (ix2 (0 : Fin 1) n) :=
  broadcastInDim_apply _ _ _ _ (ix2 (0 : Fin 1) n) fun y => by
    match y with
    | ⟨0, _⟩ => rfl
    | ⟨1, _⟩ => rfl

/-- A tap: the padded gate from row `e` on times row `e` of the weights. -/
theorem tap_apply (e : ℕ) (he : e ≤ 2) (hg : S16386x4096.Slices ![e, 0] S16384x4096) (hc : S8x4096.Slices ![e, 0] S1x4096)
    (t : Fin 16384) (n : Fin 4096) :
    mulf (extractStridedSlice S16384x4096 ![e, 0] (padR (upR h a w)) hg) (down1 (extractStridedSlice S1x4096 ![e, 0] c hc)) (ix2 t n)
      = FfnRows.before (FfnRows.tab (a := 16384) (b := 1024) h) (FfnRows.tab (a := 1) (b := 1024) a 0)
        (FfnRows.tab (a := 1024) (b := 8192) w) (2 - e) t.val n.val * FfnRows.tab (a := 8) (b := 4096) c e n.val := by
  refine congrArg₂ (· * ·) ?_ ?_
  · refine (extractStridedSlice_apply _ _ _ _ (ix2 (⟨t.val + e, by omega⟩ : Fin 16386) n) fun y => ?_).trans
      (padR_apply h a w t.val e he _ rfl n)
    match y with
    | ⟨0, _⟩ => exact Nat.add_comm _ _
    | ⟨1, _⟩ => exact (Nat.zero_add _).symm
  · refine (down1_apply _ t n).trans ?_
    refine (extractStridedSlice_apply _ _ _ _ (ix2 (⟨e, by omega⟩ : Fin 8) n) fun y => ?_).trans
      (FfnRows.tab_in (a := 8) (b := 4096) c _ n _ _ rfl rfl)
    match y with
    | ⟨0, _⟩ => rfl
    | ⟨1, _⟩ => exact (Nat.zero_add _).symm

/-- The convolution at an index. -/
theorem convR_apply (t : Fin 16384) (n : Fin 4096) :
    convR (padR (upR h a w)) c b (ix2 t n) = FfnRows.conv (FfnRows.tab (a := 16384) (b := 1024) h)
      (FfnRows.tab (a := 1) (b := 1024) a 0) (FfnRows.tab (a := 1024) (b := 8192) w) (FfnRows.tab (a := 8) (b := 4096) c)
      (FfnRows.tab (a := 1) (b := 4096) b 0) t.val n.val := by
  unfold convR FfnRows.conv
  refine congrArg₂ (· + ·) (congrArg₂ (· + ·) (congrArg₂ (· + ·) (tap_apply h a w c 0 (by omega) _ _ t n)
    (tap_apply h a w c 1 (by omega) _ _ t n)) ((tap_apply h a w c 2 (by omega) _ _ t n).trans ?_)) ?_
  · refine congrArg (· * _) ?_
    unfold FfnRows.before
    exact if_neg (Nat.not_lt_zero _)
  · exact (down1_apply b t n).trans (FfnRows.tab_in (a := 1) (b := 4096) b 0 n _ _ rfl rfl)

/-- Gelu at an index. -/
theorem geluV_apply (x : FVec Ideal S16384x4096 .f32) (i : S16384x4096.Idx) : geluV x i = FfnRows.geluR (x i) := rfl

/-- The gated value at an index. -/
theorem actR_apply (t : Fin 16384) (n : Fin 4096) :
    actR (upR h a w) c b (ix2 t n) = FfnRows.geluR (FfnRows.conv (FfnRows.tab (a := 16384) (b := 1024) h)
      (FfnRows.tab (a := 1) (b := 1024) a 0) (FfnRows.tab (a := 1024) (b := 8192) w) (FfnRows.tab (a := 8) (b := 4096) c)
      (FfnRows.tab (a := 1) (b := 4096) b 0) t.val n.val)
      * FfnRows.up (FfnRows.tab (a := 16384) (b := 1024) h) (FfnRows.tab (a := 1) (b := 1024) a 0)
        (FfnRows.tab (a := 1024) (b := 8192) w) t.val (4096 + n.val) := by
  unfold actR
  refine congrArg₂ (· * ·) ((geluV_apply _ _).trans (congrArg FfnRows.geluR (convR_apply h a w c b t n))) ?_
  refine (extractStridedSlice_apply _ _ _ _ (ix2 t (⟨4096 + n.val, by omega⟩ : Fin 8192)) fun y => ?_).trans (upR_apply h a w _ _)
  match y with
  | ⟨0, _⟩ => exact (Nat.zero_add _).symm
  | ⟨1, _⟩ => rfl

/-- The down projection at an index. -/
theorem downR_apply (t : Fin 16384) (k : Fin 1024) :
    downR (actR (upR h a w) c b) d (ix2 t k) = FfnRows.down (FfnRows.tab (a := 16384) (b := 1024) h)
      (FfnRows.tab (a := 1) (b := 1024) a 0) (FfnRows.tab (a := 1024) (b := 8192) w) (FfnRows.tab (a := 8) (b := 4096) c)
      (FfnRows.tab (a := 1) (b := 4096) b 0) (FfnRows.tab (a := 4096) (b := 1024) d) FfnRows.geluR t.val k.val := by
  unfold downR FfnRows.down
  exact (dotD_apply _ _ t k).trans (Finset.sum_congr rfl fun n _ => congrArg₂ (· * ·) (actR_apply h a w c b t n)
    (FfnRows.tab_in (a := 4096) (b := 1024) d n k _ _ rfl rfl))

/-- The first result at an index. -/
theorem outR_apply (t : Fin 16384) (k : Fin 1024) :
    outR h a w c b d z (ix2 t k) = FfnRows.out (FfnRows.tab (a := 16384) (b := 1024) h)
      (FfnRows.tab (a := 1) (b := 1024) a 0) (FfnRows.tab (a := 1024) (b := 8192) w) (FfnRows.tab (a := 8) (b := 4096) c)
      (FfnRows.tab (a := 1) (b := 4096) b 0) (FfnRows.tab (a := 4096) (b := 1024) d) (FfnRows.tab (a := 1) (b := 1024) z 0)
      FfnRows.geluR t.val k.val := by
  unfold outR FfnRows.out
  exact congrArg₂ (· + ·) (FfnRows.tab_in (a := 16384) (b := 1024) h t k _ _ rfl rfl)
    (normR_apply _ z t _ _ (fun j => downR_apply h a w c b d t j) (fun j => FfnRows.tab_in (a := 1) (b := 1024) z 0 j _ _ rfl rfl) k)

/-- The second result at an index. -/
theorem gateR_apply (i : Fin 2) (n : Fin 4096) :
    gateR h a w (ix2 i n) = FfnRows.up (FfnRows.tab (a := 16384) (b := 1024) h) (FfnRows.tab (a := 1) (b := 1024) a 0)
      (FfnRows.tab (a := 1024) (b := 8192) w) (16382 + i.val) n.val := by
  unfold gateR
  refine (extractStridedSlice_apply _ _ _ _ (ix2 (⟨16384 + i.val, by omega⟩ : Fin 16386) n) fun y => ?_).trans
    ((padR_apply h a w (16384 + i.val) 0 (by omega) _ rfl n).trans ?_)
  · match y with
    | ⟨0, _⟩ => rfl
    | ⟨1, _⟩ => exact (Nat.zero_add _).symm
  · unfold FfnRows.before
    rw [if_neg (by omega), show 16384 + i.val - (2 - 0) = 16382 + i.val by omega]

end Layer

end Cert.FfnRef

end
-- ==== Proof.FfnSame.lean ====
/- The feed-forward's two results: what the kernel leaves at the end of its run, and why the reference leaves the same where the
   first normalisation's weight, the gate's weights, the taps and the offset are finite. -/
module

public import proofs.«01_k».proof.Proof.FfnWhole
public import proofs.«01_k».proof.Proof.FfnRef
public import proofs.«01_k».proof.Proof.Whole
public import proofs.«01_k».proof.Proof.Gen.Pre_finite_in
public import Idealize.ShloMosaic.Lib.Quiescent

@[expose] public section

noncomputable section

namespace Cert.FfnSame

open Cert.FfnIdeal Cert.FfnIdeal.Gen Idealize.ShloMosaic Idealize.SL.Sem

section Kernel
variable (m : (ℓ : Loc nD τ sig) → Buf (Elt Ideal) ℓ) (c : Dev nD)

/-- The kernel's second result: the gate's last two rows. -/
def lastG : FVec Ideal S2x4096 .f32 := extractStridedSlice S2x4096 ![254, 0] (FfnWhole.gateG m c) slices_S256x4096_S2x4096_254_0

/-- The line after the kernel reads the second output array. -/
theorem tail_last : Pipeline.afterTail₀ cfgs (dats m) 0 (V0 m) [hostOps1] c main_v1 = lastG m c := by
  unfold Pipeline.afterTail₀ lastG
  rw [← FfnWhole.final_gate m c]
  show StableHlo.after hostOps1 _ _ = _
  rw [StableHlo.after_cons, StableHlo.after_nil, StableHlo.unary_result]
  refine congrArg (fun x : FVec Ideal S256x4096 .f32 => extractStridedSlice S2x4096 ![254, 0] x slices_S256x4096_S2x4096_254_0) ?_
  exact Pipeline.withArrays_arr spec0 (by decide) c (V0 m c) (fun w => (dats m 0 c).arrAt w cfg0.N) 8

/-- The second result at an index. -/
theorem lastG_apply (i : Fin 2) (n : Fin 4096) :
    lastG m c (ValueIdx.ix2 i n) = FfnRows.up (FfnWhole.H m c) (FfnWhole.A m c) (FfnWhole.W m c) (16382 + i.val) n.val := by
  unfold lastG
  refine (extractStridedSlice_apply _ _ _ _ (ValueIdx.ix2 (⟨254 + i.val, by omega⟩ : Fin 256) n) fun y => ?_).trans ?_
  · match y with
    | ⟨0, _⟩ => rfl
    | ⟨1, _⟩ => exact (Nat.zero_add _).symm
  · show FfnRows.up _ _ _ (512 * ((254 + i.val) / 8) + 504 + (254 + i.val) % 8) n.val = _
    congr 1
    omega

end Kernel

/-! ## The precondition -/

/-- A test of finiteness at an index. -/
theorem finite_of_test {s : Shape} (x : FVec Ideal s .f32) (hb : (⟨0, ![]⟩ : Shape).BroadcastsInDim s (![] : Fin 0 → Fin s.rank))
    (h : cmpf .olt (Host.absf x) (broadcastInDim s ![] hb (constant (⟨0, ![]⟩ : Shape) .f32 0x7F800000#32)) = fun _ => 1#1) (y : s.Idx) :
    x y ≠ ⊤ ∧ x y ≠ ⊥ := by
  have hx : BitVec.ofBool (decide (max (x y) (-(x y)) < Ideal.ofBits .f32 0x7F800000#32)) = 1#1 := congrFun h y
  rw [Whole.ofBits_pinf] at hx
  refine Whole.finite_of_abs _ ?_
  by_contra hn
  rw [decide_eq_false hn] at hx
  exact absurd hx (by decide)

/-- A matrix whose first columns and rows are finite, read there at natural numbers. -/
theorem tab_fin_slice {a b a' b' : ℕ} (x : (⟨2, ![a, b]⟩ : Shape).Idx → EReal)
    (hs : (⟨2, ![a, b]⟩ : Shape).Slices ![0, 0] ⟨2, ![a', b']⟩)
    (h : ∀ y, extractStridedSlice ⟨2, ![a', b']⟩ ![0, 0] x hs y ≠ ⊤ ∧ extractStridedSlice ⟨2, ![a', b']⟩ ![0, 0] x hs y ≠ ⊥)
    (i j : ℕ) (hi : i < a') (hj : j < b') : FfnRows.tab x i j ≠ ⊤ ∧ FfnRows.tab x i j ≠ ⊥ := by
  unfold FfnRows.tab
  split
  · rename_i hin
    have e : extractStridedSlice ⟨2, ![a', b']⟩ ![0, 0] x hs (ValueIdx.ix2 ⟨i, hi⟩ ⟨j, hj⟩)
        = x (ValueIdx.ix2 ⟨i, hin.1⟩ ⟨j, hin.2⟩) :=
      extractStridedSlice_apply _ _ _ _ _ fun y => by
        match y with
        | ⟨0, _⟩ => exact (Nat.zero_add _).symm
        | ⟨1, _⟩ => exact (Nat.zero_add _).symm
    exact e ▸ h _
  · exact ⟨EReal.zero_ne_top, EReal.zero_ne_bot⟩

section Pre
variable (m : (ℓ : Loc nD τ sig) → Buf (Elt Ideal) ℓ) (c : Dev nD)

/-- The gate's weights, the columns the precondition tests. -/
def gateCols (w : FVec Ideal Cert.Pre_finite_in.S1024x8192 .bf16) : FVec Ideal Cert.Pre_finite_in.S1024x4096 .f32 :=
  extractStridedSlice Cert.Pre_finite_in.S1024x4096 ![0, 0] w Cert.Pre_finite_in.Gen.slices_S1024x8192_S1024x4096_0_0

/-- The three taps, the rows the precondition tests. -/
def tapRows (w : FVec Ideal Cert.Pre_finite_in.S8x4096 .f32) : FVec Ideal Cert.Pre_finite_in.S3x4096 .f32 :=
  extractStridedSlice Cert.Pre_finite_in.S3x4096 ![0, 0] w Cert.Pre_finite_in.Gen.slices_S8x4096_S3x4096_0_0

/-- Under the precondition the convolution is finite. -/
theorem conv_fin (hp : Cert.Pre_FfnIdeal_finite_in (hPre_finite_in := Cert.Pre_finite_in.Gen.facts) m) (t n : ℕ) (hn : n < 4096) :
    FfnRows.conv (FfnWhole.H m c) (FfnWhole.A m c) (FfnWhole.W m c) (FfnWhole.C m c) (FfnWhole.B m c) t n ≠ ⊤
      ∧ FfnRows.conv (FfnWhole.H m c) (FfnWhole.A m c) (FfnWhole.W m c) (FfnWhole.C m c) (FfnWhole.B m c) t n ≠ ⊥ := by
  obtain ⟨h1, h2, h3, h4⟩ := hp c
  have f2 := finite_of_test (gateCols (m ((c.tc : Thread nD τ).loc main_arg2))) Cert.Pre_finite_in.Gen.bcast_S_S1024x4096 h2
  have f3 := finite_of_test (tapRows (m ((c.tc : Thread nD τ).loc main_arg3))) Cert.Pre_finite_in.Gen.bcast_S_S3x4096 h3
  exact FfnRows.conv_fin _ _ _ _ _ (fun k _ => FfnRows.tab_fin _ (finite_of_test _ _ h1) 0 k)
    (fun k hk n hn => tab_fin_slice _ Cert.Pre_finite_in.Gen.slices_S1024x8192_S1024x4096_0_0 f2 k n hk hn)
    (fun i hi n hn => tab_fin_slice _ Cert.Pre_finite_in.Gen.slices_S8x4096_S3x4096_0_0 f3 i n hi hn)
    (fun n _ => FfnRows.tab_fin _ (finite_of_test _ _ h4) 0 n) t n hn

/-- The reference's first result is the kernel's. -/
theorem out_eq (hp : Cert.Pre_FfnIdeal_finite_in (hPre_finite_in := Cert.Pre_finite_in.Gen.facts) m) :
    FfnRef.outR (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = FfnWhole.outG m c := by
  funext i
  refine (congrArg _ (FfnWhole.eta2 (a := 16384) (b := 1024) i)).trans ((FfnRef.outR_apply _ _ _ _ _ _ _ (i 0) (i 1)).trans ?_)
  exact (FfnRows.out_eq _ _ _ _ _ _ _ (conv_fin m c hp) (i 0).val (i 1).val).symm

/-- The reference's second result is the kernel's. -/
theorem gate_eq : FfnRef.gateR (m ((c.tc : Thread nD τ).loc main_arg0)) (m ((c.tc : Thread nD τ).loc main_arg1))
      (m ((c.tc : Thread nD τ).loc main_arg2)) = lastG m c := by
  funext i
  refine (congrArg _ (FfnWhole.eta2 (a := 2) (b := 4096) i)).trans ((FfnRef.gateR_apply _ _ _ (i 0) (i 1)).trans ?_)
  exact (lastG_apply m c (i 0) (i 1)).symm.trans (congrArg _ (FfnWhole.eta2 (a := 2) (b := 4096) i).symm)

end Pre

/-- Over the extended reals the feed-forward kernel and its reference leave the same two arrays. -/
theorem same : Cert.algebraic_FfnIdeal_FfnRefIdeal_pre_finite_in (hFfnIdeal := Cert.FfnIdeal.Gen.facts)
    (hFfnRefIdeal := Cert.FfnRefIdeal.Gen.facts) (hPre_finite_in := Cert.Pre_finite_in.Gen.facts) := fun m g m' g' hpre hm =>
  ⟨fun c => FfnWhole.outG m c, fun c => lastG m c,
    (θ_run Cert.FfnIdeal.defs _ _).mono
      (fun _ h c => ⟨((h.1 c).1 7).trans (FfnWhole.final_out m c), ((h.1 c).2 main_v1 (by decide)).trans (tail_last m c), h.2 c⟩)
      (θ_run_and (run_main m g) (unchanged m g)),
    (θ_run Cert.FfnRefIdeal.defs _ _).mono
      (fun _ h c => ⟨(h c).1.trans ((FfnRef.res0_eq m' c).trans (by
          obtain ⟨h0, h1, h2, h3, h4, h5, h6⟩ := hm c
          rw [h0, h1, h2, h3, h4, h5, h6]
          exact out_eq m c hpre)),
        Eq.trans (b := FfnRef.gateR (F := Ideal) (m' ((c.tc : Thread Cert.FfnRefIdeal.nD Cert.FfnRefIdeal.τ).loc Cert.FfnRefIdeal.main_arg0))
          (m' ((c.tc : Thread Cert.FfnRefIdeal.nD Cert.FfnRefIdeal.τ).loc Cert.FfnRefIdeal.main_arg1))
          (m' ((c.tc : Thread Cert.FfnRefIdeal.nD Cert.FfnRefIdeal.τ).loc Cert.FfnRefIdeal.main_arg2))) (h c).2.1 (by
            obtain ⟨h0, h1, h2, -⟩ := hm c
            rw [h0, h1, h2]
            exact gate_eq m c),
        (h c).2.2⟩)
      (Cert.FfnRefIdeal.Value.run m' g')⟩

/-- The reference runs, leaves its arguments unchanged and has no semaphores. -/
theorem ref_frame : Cert.quiescent_FfnRefIdeal (hFfnRefIdeal := Cert.FfnRefIdeal.Gen.facts) := fun m g _ =>
  (θ_run Cert.FfnRefIdeal.defs _ _).mono (fun r h => ⟨fun c => (h c).2.2, sem_eq_zero_of_no_sems (by decide) r.2⟩)
    (Cert.FfnRefIdeal.Value.run m g)

end Cert.FfnSame

end
-- ==== Proof.InprojRows.lean ====
/- The input projection of the layer, row by row and entry by entry over the extended reals: the normalised row times the joined
   weight, its first columns scaled or through the logistic function, the gate's logarithm, and the queries and keys of every
   head rotated. Both programs are read in these terms. -/
module

public import proofs.«01_k».proof.Proof.FfnRows
public import Idealize.ShloMosaic.Lib.Pipeline.Value

@[expose] public section

noncomputable section

namespace Cert.InprojRows

open Idealize.ShloMosaic Cert.FfnRows

/-- One over the square root of the head's width, as both programs have it. -/
def scale : EReal := Ideal.ofBits .f32 0x3DB504F3#32
/-- One sixteenth. -/
def sixteenth : EReal := Ideal.ofBits .f32 0x3D800000#32
/-- Sixteen. -/
def sixteen : EReal := Ideal.ofBits .f32 0x41800000#32

/-- One sixteenth is one sixteenth. -/
theorem sixteenth_eq : sixteenth = ((1 / 16 : ℝ) : EReal) := by
  unfold sixteenth
  rw [ofBits_normal _ 123 0 (by decide) (by decide) (by decide) (by decide) (by decide)]
  norm_num

/-- Sixteen is sixteen. -/
theorem sixteen_eq : sixteen = ((16 : ℝ) : EReal) := by
  unfold sixteen
  rw [ofBits_normal _ 131 0 (by decide) (by decide) (by decide) (by decide) (by decide)]
  norm_num

/-- Division by sixteen. -/
theorem div_sixteen (x : EReal) : Ideal.div x sixteen = x * sixteenth := by
  unfold Ideal.div
  rw [sixteen_eq, sixteenth_eq, if_neg (by exact_mod_cast (by norm_num : (16 : ℝ) ≠ 0)), ← EReal.coe_inv]
  norm_num

/-- The logistic function written out. -/
theorem logistic_eq (x : EReal) : Ideal.div one (one + Ideal.exp (-x)) = Ideal.logistic x := by
  unfold Ideal.logistic
  rw [one_eq]
  rfl

/-! ## The logarithm of the logistic function, written twice -/

/-- As the kernel computes it. -/
def lsK (x : EReal) : EReal := min x 0 - Ideal.log1p (Ideal.exp (0 - max x (-x)))

/-- As the reference computes it, from the softplus of the negated number. -/
def lsR (x : EReal) : EReal := -(max (-x) 0 + Ideal.log1p (Ideal.exp (-(max (-x - 0) (-(-x - 0))))))

/-- The logarithm's correction is finite. -/
theorem corr_fin (x : EReal) : Ideal.log1p (Ideal.exp (0 - max x (-x))) ≠ ⊤ ∧ Ideal.log1p (Ideal.exp (0 - max x (-x))) ≠ ⊥ := by
  have key : ∀ r : ℝ, 0 ≤ r → Ideal.log1p (r : EReal) ≠ ⊤ ∧ Ideal.log1p (r : EReal) ≠ ⊥ := fun r hr => by
    unfold Ideal.log1p
    rw [show (1 : EReal) + (r : EReal) = ((1 + r : ℝ) : EReal) by rw [EReal.coe_add]; rfl]
    show (if 1 + r ≤ 0 then (⊥ : EReal) else (Real.log (1 + r) : EReal)) ≠ ⊤
      ∧ (if 1 + r ≤ 0 then (⊥ : EReal) else (Real.log (1 + r) : EReal)) ≠ ⊥
    rw [if_neg (by linarith)]
    exact ⟨EReal.coe_ne_top _, EReal.coe_ne_bot _⟩
  induction x with
  | bot =>
    rw [show (0 : EReal) - max ⊥ (-⊥) = ⊥ by simp]
    exact key 0 le_rfl
  | top =>
    rw [show (0 : EReal) - max ⊤ (-⊤) = ⊥ by simp]
    exact key 0 le_rfl
  | coe r =>
    rw [show (0 : EReal) - max (r : EReal) (-(r : EReal)) = ((0 - max r (-r) : ℝ) : EReal) by
      rw [EReal.coe_sub, EReal.coe_strictMono.monotone.map_max, EReal.coe_neg]; rfl]
    exact key _ (Real.exp_pos _).le

/-- The two are the same. -/
theorem ls_eq (x : EReal) : lsR x = lsK x := by
  unfold lsR lsK
  have h := corr_fin x
  rw [show max (-x - 0) (-(-x - 0)) = max x (-x) by rw [sub_zero, neg_neg, max_comm],
    show -(max x (-x)) = 0 - max x (-x) by rw [zero_sub]]
  rw [EReal.neg_add (.inr h.1) (.inr h.2)]
  congr 1
  rcases le_total x 0 with hx | hx
  · rw [min_eq_left hx, max_eq_left (EReal.neg_nonneg.2 hx), neg_neg]
  · rw [min_eq_right hx, max_eq_right (by rw [EReal.neg_le, neg_zero]; exact hx), neg_zero]

/-! ## The rotation, written twice -/

/-- A head rotated: lanes 0 to 15 and 16 to 31 as pairs, the others kept. -/
def rope (y C S : ℕ → EReal) (l : ℕ) : EReal :=
  if l < 16 then y l * C l - y (l + 16) * S l
  else if l < 32 then y l * C (l - 16) + y (l - 16) * S (l - 16)
  else y l

/-- The factors of every lane: the cosines twice, then ones. -/
def wideC (C : ℕ → EReal) (l : ℕ) : EReal := if l < 16 then C l else if l < 32 then C (l - 16) else one

/-- The factors of every lane's partner: the sines negated, the sines, then zeros. -/
def wideS (S : ℕ → EReal) (l : ℕ) : EReal := if l < 16 then -S l else if l < 32 then S (l - 16) else 0 * one

/-- The rotation by full-width factors and lanes turned. -/
theorem rope_wide (y C S : ℕ → EReal) (l : ℕ) (hl : l < 128) :
    y l * wideC C l + (if l < 16 then y (l + 16) else y ((l + 112) % 128)) * wideS S l = rope y C S l := by
  unfold rope wideC wideS
  by_cases h1 : l < 16
  · rw [if_pos h1, if_pos h1, if_pos h1, if_pos h1, mul_neg, sub_eq_add_neg]
  · rw [if_neg h1, if_neg h1, if_neg h1, if_neg h1]
    by_cases h2 : l < 32
    · rw [if_pos h2, if_pos h2, if_pos h2, show (l + 112) % 128 = l - 16 by omega]
    · rw [if_neg h2, if_neg h2, if_neg h2, zero_mul, mul_zero, add_zero, one_eq]
      exact mul_one _

/-! ## Joined matrices -/

/-- Matrices joined along the columns, read in piece `k`. -/
theorem joined {α : Type} {a b b₁ : ℕ} (xs : List ((s : Shape) × (s.Idx → α)))
    (h : Shape.Concatenates (xs.map (·.1)) ⟨2, ![a, b]⟩ (1 : Fin 2)) (k : ℕ) (hk : k < xs.length)
    (x₁ : (⟨2, ![a, b₁]⟩ : Shape).Idx → α) (hx : xs[k] = ⟨⟨2, ![a, b₁]⟩, x₁⟩) (pre : ℕ)
    (hpre : (((xs.take k).map (·.1)).map fun s => if h : s.rank = (⟨2, ![a, b]⟩ : Shape).rank then
      s.size ((1 : Fin (⟨2, ![a, b]⟩ : Shape).rank).cast h.symm) else 0).sum = pre) (r : Fin a) (n : Fin b) (l : Fin b₁)
    (hl : pre + l.val = n.val) :
    concatenate ⟨2, ![a, b]⟩ (1 : Fin 2) xs h (ValueIdx.ix2 r n) = x₁ (ValueIdx.ix2 r l) := by
  refine concatenate_apply_piece (t := ⟨2, ![a, b]⟩) (1 : Fin 2) xs h (ValueIdx.ix2 r n) k hk ⟨2, ![a, b₁]⟩ x₁ hx rfl pre hpre
    (ValueIdx.ix2 r l) (fun z hz => ?_) hl
  match z with
  | ⟨0, _⟩ => rfl
  | ⟨1, _⟩ => exact absurd rfl hz

/-! ## The rows -/

section Rows
variable (H : ℕ → ℕ → EReal) (A : ℕ → EReal) (W L G : ℕ → ℕ → EReal) (B : ℕ → EReal) (C S : ℕ → ℕ → EReal)

/-- The first output: scaled, plain, or through the logistic function. -/
def zrow (t n : ℕ) : EReal :=
  if n < 512 then up H A W t n * scale else if n < 3072 then up H A W t n else Ideal.logistic (up H A W t n)

/-- The gate's two products and its offset. -/
def gate (t n : ℕ) : EReal := (∑ j : Fin 128, (∑ k : Fin 1024, norm (H t) A k.val * L k.val j.val) * G j.val n) + B n

/-- The second output. -/
def decay (t n : ℕ) : EReal := lsK (gate H A L G B t n) * sixteenth

/-- Part `p` of group `g` at column `n`: queries rotated and scaled, keys rotated, values. -/
def part (p g t n : ℕ) : EReal :=
  let y := fun l => up H A W t (5120 + 512 * (3 * p + g) + (128 * (n / 128) + l))
  match p with
  | 0 => rope y (C t) (S t) (n % 128) * scale
  | 1 => rope y (C t) (S t) (n % 128)
  | _ => y (n % 128)

/-- Queries, keys and values of group `g` beside each other. -/
def qkv (g t n : ℕ) : EReal := part H A W C S (n / 512) g t (n % 512)

end Rows

end Cert.InprojRows

end
-- ==== Proof.InprojTile.lean ====
/- The input projection of one 512-row tile as the kernel computes it, stated once: the product `prod` with one 512-column block
   of the weight, the rotation `turned` of its four heads, the scaling `scaled`, the gate `decay`, and the rearrangement of rows
   into streams through the scratch: `strips` stores a product head by head, `gather` reads every `d`-th row of it. -/
module

public import proofs.«01_k».proof.Proof.Gen.InprojIdeal
public import proofs.«01_k».proof.Proof.Gen.InprojIdeal.Skeleton
public import proofs.«01_k».proof.Proof.FfnTile
public import proofs.«01_k».proof.Proof.InprojRows
public import Idealize.ShloMosaic.Lib.Pipeline.ValueKit.Tiles

@[expose] public section

noncomputable section

namespace Cert.InprojTile

open Idealize.ShloMosaic Idealize.SL.Sem Cert.InprojIdeal Cert.InprojIdeal.Gen
open Idealize.ShloMosaic.ValueIdx

section Def

variable {F : FTy → Type} [FloatOps F] [Named F]

/-- The states as loaded. -/
def hs (x0 : Vec F S512x1024 .f32) : Vec F S512x1024 .f32 :=
  View.ld x0 (Rect.unit ![0, 0] S512x1024.size inb_S512x1024_S512x1024_0_0)

/-- The norm's weight as loaded. -/
def row (x : Vec F S1x1024 .f32) : Vec F S1x1024 .f32 :=
  View.ld x (Rect.unit ![0, 0] S1x1024.size inb_S1x1024_S1x1024_0_0)

/-- Block `c` of 512 columns of the weight. -/
def ws (x : Vec F S1024x9728 .bf16) (c : Fin 19) : Vec F S1024x512 .bf16 :=
  View.ld x (Rect.unit ![0, 512 * c.val] S1024x512.size (by intro a; have := c.isLt; fin_cases a <;> simp <;> omega))

/-- The rotation's factors as loaded. -/
def turns (x : Vec F S512x128 .f32) : FVec F S512x128 .f32 :=
  shapeCast S512x128 (View.ld x (Rect.unit ![0, 0] S512x128.size inb_S512x128_S512x128_0_0)) shapeCasts_S512x128_S512x128

/-- Rows times one block of the weight. -/
def prod (x : FVec F S512x1024 .bf16) (w : FVec F S1024x512 .bf16) : FVec F S512x512 .f32 :=
  matmul dot_S512x1024_S1024x512_S512x512_1_0_0_1_n_n none x w (constant S512x512 .f32 0x00000000#32)

/-- One head rotated: lanes 0 to 15 paired with lanes 16 to 31. -/
def turn (cs sn a : FVec F S512x128 .f32) : FVec F S512x128 .f32 :=
  addf (mulf a cs) (mulf (select (cmpi .slt (iota .tc S512x128 32 [1] iota_S512x128_d1_w32) (broadcast S512x128 16#32))
    (dynamicRotate 1 112#32 none a rotates_S512x128_d1) (dynamicRotate 1 16#32 none a rotates_S512x128_d1)) sn)

/-- All four heads rotated. -/
def turned (cs sn : FVec F S512x128 .f32) (a : FVec F S512x512 .f32) : FVec F S512x512 .f32 :=
  concatenate S512x512 1
    [⟨S512x128, turn cs sn (extractStridedSlice S512x128 ![0, 0] a slices_S512x512_o0_0_S512x128)⟩,
     ⟨S512x128, turn cs sn (extractStridedSlice S512x128 ![0, 128] a slices_S512x512_o0_128_S512x128)⟩,
     ⟨S512x128, turn cs sn (extractStridedSlice S512x128 ![0, 256] a slices_S512x512_o0_256_S512x128)⟩,
     ⟨S512x128, turn cs sn (extractStridedSlice S512x128 ![0, 384] a slices_S512x512_o0_384_S512x128)⟩]
    concatenates_S512x128_S512x128_S512x128_S512x128_S512x512_d1

/-- Scaled by one over the square root of the head's width. -/
def scaled (a : FVec F S512x512 .f32) : FVec F S512x512 .f32 :=
  mulf a (broadcast S512x512 (Scalar.ofBits .f32 0x3DB504F3#32))

/-- Queries, keys and values of a group from their product: queries rotated and scaled, keys rotated. -/
def acc (cs sn : FVec F S512x128 .f32) (p : ℕ) (a : FVec F S512x512 .f32) : FVec F S512x512 .f32 :=
  match p with
  | 0 => scaled (turned cs sn a)
  | 1 => turned cs sn a
  | _ => a

/-- One head stored to the scratch. -/
def strip (o : ℕ) (h : S512x512.Slices ![0, o] S512x128) (a : FVec F S512x512 .f32) : FVec F S1x512x128 .f32 :=
  shapeCast S1x512x128 (extractStridedSlice S512x128 ![0, o] a h) shapeCasts_S512x128_S1x512x128

/-- The four heads stored to the scratch. -/
def strips (a : FVec F S512x512 .f32) (L : List (View.Piece (Elt F) S4x512x128 .f32)) :
    List (View.Piece (Elt F) S4x512x128 .f32) :=
  ⟨Rect.unit ![3, 0, 0] S1x512x128.size inb_S4x512x128_S1x512x128_3_0_0, strip 384 slices_S512x512_o0_384_S512x128 a⟩ ::
  ⟨Rect.unit ![2, 0, 0] S1x512x128.size inb_S4x512x128_S1x512x128_2_0_0, strip 256 slices_S512x512_o0_256_S512x128 a⟩ ::
  ⟨Rect.unit ![1, 0, 0] S1x512x128.size inb_S4x512x128_S1x512x128_1_0_0, strip 128 slices_S512x512_o0_128_S512x128 a⟩ ::
  ⟨Rect.unit ![0, 0, 0] S1x512x128.size inb_S4x512x128_S1x512x128_0_0_0, strip 0 slices_S512x512_o0_0_S512x128 a⟩ :: L

/-- Every `d`-th row of a head, from row `r` on. -/
def every (d b r j : ℕ) (hj : j < 4) (hr : r + d * (b - 1) < 512) : LoadRect S4x512x128 :=
  ⟨![j, r, 0], ![1, b, 128], ![1, d, 1], by
    intro a; refine Or.inr ?_
    fin_cases a
    · show j + 1 * (1 - 1) < 4; omega
    · exact hr
    · show 0 + 1 * (128 - 1) < 128; omega⟩

/-- Stream `r` of `b` rows read from the scratch: every `d`-th row of all four heads, beside each other. -/
def gather (v : Memref sig .tc .vmem S4x512x128 .f32) (L : List (View.Piece (Elt F) S4x512x128 .f32)) (d b r : ℕ)
    (hr : r + d * (b - 1) < 512) (h1 : (⟨3, ![1, b, 128]⟩ : Shape).ShapeCasts ⟨2, ![b, 128]⟩)
    (hc : Shape.Concatenates [⟨2, ![b, 128]⟩, ⟨2, ![b, 128]⟩, ⟨2, ![b, 128]⟩, ⟨2, ![b, 128]⟩] ⟨2, ![b, 512]⟩ 1)
    (h2 : (⟨2, ![b, 512]⟩ : Shape).ShapeCasts ⟨3, ![1, b, 512]⟩) : FVec F ⟨3, ![1, b, 512]⟩ .bf16 :=
  shapeCast ⟨3, ![1, b, 512]⟩ (truncf .bf16 (concatenate ⟨2, ![b, 512]⟩ 1
    [⟨⟨2, ![b, 128]⟩, shapeCast ⟨2, ![b, 128]⟩ (v.view.readCov L (every d b r 0 (by omega) hr)) h1⟩,
     ⟨⟨2, ![b, 128]⟩, shapeCast ⟨2, ![b, 128]⟩ (v.view.readCov L (every d b r 1 (by omega) hr)) h1⟩,
     ⟨⟨2, ![b, 128]⟩, shapeCast ⟨2, ![b, 128]⟩ (v.view.readCov L (every d b r 2 (by omega) hr)) h1⟩,
     ⟨⟨2, ![b, 128]⟩, shapeCast ⟨2, ![b, 128]⟩ (v.view.readCov L (every d b r 3 (by omega) hr)) h1⟩] hc) bitsLt_bf16_f32) h2

/-- Four streams stored, 128 rows each, at the columns of part `p`. -/
def four (v : Memref sig .tc .vmem S4x512x128 .f32) (L : List (View.Piece (Elt F) S4x512x128 .f32)) (p : Fin 3) :
    List (View.Piece (Elt F) S4x128x1536 .bf16) :=
  List.ofFn fun k : Fin 4 => ⟨Rect.unit ![3 - k.val, 0, 512 * p.val] S1x128x512.size
      (by intro a; have := p.isLt; have := k.isLt; fin_cases a <;> simp <;> omega),
    gather v L 4 128 (3 - k.val) (by omega) shapeCasts_S1x128x128_S128x128
      concatenates_S128x128_S128x128_S128x128_S128x128_S128x512_d1 shapeCasts_S128x512_S1x128x512⟩

/-- Sixteen streams stored, 32 rows each, at the columns of part `p`. -/
def sixteen (v : Memref sig .tc .vmem S4x512x128 .f32) (L : List (View.Piece (Elt F) S4x512x128 .f32)) (p : Fin 3) :
    List (View.Piece (Elt F) S16x32x1536 .bf16) :=
  List.ofFn fun k : Fin 16 => ⟨Rect.unit ![15 - k.val, 0, 512 * p.val] S1x32x512.size
      (by intro a; have := p.isLt; have := k.isLt; fin_cases a <;> simp <;> omega),
    gather v L 16 32 (15 - k.val) (by omega) shapeCasts_S1x32x128_S32x128
      concatenates_S32x128_S32x128_S32x128_S32x128_S32x512_d1 shapeCasts_S32x512_S1x32x512⟩

/-- One stream stored at the columns of part `p`. -/
def whole (p : Fin 3) (a : FVec F S512x512 .f32) : View.Piece (Elt F) S1x512x1536 .bf16 :=
  ⟨Rect.unit ![0, 0, 512 * p.val] S1x512x512.size (by intro a; have := p.isLt; fin_cases a <;> simp <;> omega),
    shapeCast S1x512x512 (truncf .bf16 a bitsLt_bf16_f32) shapeCasts_S512x512_S1x512x512⟩

/-- The scratch after `n` of the six strided groups, given their accumulators. -/
def hist (q : ℕ → FVec F S512x512 .f32) : ℕ → List (View.Piece (Elt F) S4x512x128 .f32)
  | 0 => []
  | n + 1 => strips (q n) (hist q n)

/-- Block `c` of the first output: scaled, plain or through the logistic function. -/
def zOf (c : ℕ) (a : FVec F S512x512 .f32) : FVec F S512x512 .f32 :=
  if c = 0 then scaled a else if c < 6 then a else logistic a

/-- The first output's pieces. -/
def zs (xn : FVec F S512x1024 .bf16) (w : Fin 19 → FVec F S1024x512 .bf16) : List (View.Piece (Elt F) S512x5120 .bf16) :=
  List.ofFn fun k : Fin 10 => ⟨Rect.unit ![0, 512 * (9 - k.val)] S512x512.size
      (by intro a; have := k.isLt; fin_cases a <;> simp <;> omega),
    truncf .bf16 (zOf (9 - k.val) (prod xn (w ⟨9 - k.val, by omega⟩))) bitsLt_bf16_f32⟩

/-- The gate: the logarithm of the logistic function, over sixteen. -/
def decay (xn : FVec F S512x1024 .bf16) (wl : FVec F S1024x128 .bf16) (wu : FVec F S128x512 .bf16) (b : FVec F S1x512 .f32) :
    FVec F S512x512 .f32 :=
  let lg := addf (matmul dot_S512x128_S128x512_S512x512_1_0_0_1_n_n none (truncf .bf16 (matmul dot_S512x1024_S1024x128_S512x128_1_0_0_1_n_n none
    xn wl (constant S512x128 .f32 0x00000000#32)) bitsLt_bf16_f32) wu (constant S512x512 .f32 0x00000000#32))
    (broadcastTo S512x512 b broadcasts_S1x512_S512x512)
  mulf (subf (minimumf lg (broadcast S512x512 (Scalar.ofBits .f32 0x00000000#32)))
    (log1p (exp (subf (broadcast S512x512 (Scalar.ofBits .f32 0x00000000#32)) (absf lg))))) (broadcast S512x512 (Scalar.ofBits .f32 0x3D800000#32))

end Def

/-! ## At an index, over the extended reals -/

/-- A matrix loaded from row `o` and column `q` on, at an index. -/
theorem ld_at {a b a' b' : ℕ} (x : (⟨2, ![a, b]⟩ : Shape).Idx → EReal) (o q : ℕ)
    (inb : ∀ z, (![o, q] : Fin 2 → ℕ) z + (⟨2, ![a', b']⟩ : Shape).size z ≤ (⟨2, ![a, b]⟩ : Shape).size z) (r : Fin a')
    (k : Fin b') (r' : Fin a) (k' : Fin b) (hr : r'.val = o + r.val) (hk : k'.val = q + k.val) :
    View.ld (Val := fun _ => EReal) (e' := .f32) x (Rect.unit (s := ⟨2, ![a, b]⟩) ![o, q] (⟨2, ![a', b']⟩ : Shape).size inb)
      (ix2 r k) = x (ix2 r' k') :=
  View.ld_unit_apply_of _ _ _ _ _ _ fun z => by
    match z with
    | ⟨0, _⟩ => exact hr
    | ⟨1, _⟩ => exact hk

/-- A product at an index. -/
theorem prod_apply (x : FVec Ideal S512x1024 .bf16) (w : FVec Ideal S1024x512 .bf16) (r n : Fin 512) :
    prod x w (ix2 r n) = ∑ k : Fin 1024, x (ix2 r k) * w (ix2 k n) := by
  unfold prod
  refine (Ideal.matmul_plain_apply none _ _ (constant S512x512 .f32 0x00000000#32) r n).trans ?_
  rw [constant_apply, Ideal.ofBits_zero_f32, zero_add]

/-- Lanes turned by `d`, at an index. -/
theorem rotate_apply (d : BitVec 32) (a : FVec Ideal S512x128 .f32) (h : Shape.Rotates S512x128 (1 : Fin 2) none) (r : Fin 512)
    (l q : Fin 128) (hq : q.val = (l.val + 128 - d.toNat % 128) % 128) : dynamicRotate 1 d none a h (ix2 r l) = a (ix2 r q) := by
  refine dynamicRotate_apply _ _ _ _ _ _ fun b => ?_
  match b with
  | ⟨0, _⟩ => rfl
  | ⟨1, _⟩ => exact hq

/-- A rotated head at an index. -/
theorem turn_apply (cs sn a : FVec Ideal S512x128 .f32) (Y C S : ℕ → EReal) (r : Fin 512)
    (ha : ∀ l : Fin 128, a (ix2 r l) = Y l.val) (hc : ∀ l : Fin 128, cs (ix2 r l) = InprojRows.wideC C l.val)
    (hs : ∀ l : Fin 128, sn (ix2 r l) = InprojRows.wideS S l.val) (l : Fin 128) :
    turn cs sn a (ix2 r l) = InprojRows.rope Y C S l.val := by
  have hl := l.isLt
  rw [← InprojRows.rope_wide Y C S l.val hl]
  unfold turn
  rw [addf_apply, mulf_apply, mulf_apply, ha, hc, hs]
  refine congrArg (fun z => Y l.val * InprojRows.wideC C l.val + z * InprojRows.wideS S l.val) ?_
  show Scalar.select (IntOp.cmpi .slt (iota .tc S512x128 32 [1] iota_S512x128_d1_w32 (ix2 r l)) (BitVec.ofNat 32 16))
    (dynamicRotate 1 112#32 none a rotates_S512x128_d1 (ix2 r l)) (dynamicRotate 1 16#32 none a rotates_S512x128_d1 (ix2 r l)) = _
  rw [iota_single_apply]
  refine (congrArg (fun z => Scalar.select z _ _) (WordCmp.cmpi_slt_ofNat (w := 32) (a := l.val) (b := 16) (by omega) (by omega))).trans ?_
  rw [FfnTile.select_decide]
  by_cases h : l.val < 16
  · rw [if_pos h, if_pos h]
    exact (rotate_apply 112#32 a _ r l ⟨l.val + 16, by omega⟩ (by show l.val + 16 = (l.val + 128 - 112) % 128; omega)).trans (ha _)
  · rw [if_neg h, if_neg h]
    exact (rotate_apply 16#32 a _ r l ⟨(l.val + 112) % 128, by omega⟩
      (by show (l.val + 112) % 128 = (l.val + 128 - 16) % 128; omega)).trans (ha _)

/-- Columns from `o` on, at an index. -/
theorem cut_apply (o : ℕ) (h : S512x512.Slices ![0, o] S512x128) (a : FVec Ideal S512x512 .f32) (r : Fin 512) (l : Fin 128)
    (q : Fin 512) (hq : q.val = o + l.val) : extractStridedSlice S512x128 ![0, o] a h (ix2 r l) = a (ix2 r q) := by
  refine extractStridedSlice_apply _ _ _ _ (ix2 r q) fun z => ?_
  match z with
  | ⟨0, _⟩ => show r.val = 0 + r.val; omega
  | ⟨1, _⟩ => exact hq

/-- Four heads beside each other, at an index. -/
theorem heads_joined {b : ℕ} {α : Type} (x : ℕ → (⟨2, ![b, 128]⟩ : Shape).Idx → α)
    (h : Shape.Concatenates [⟨2, ![b, 128]⟩, ⟨2, ![b, 128]⟩, ⟨2, ![b, 128]⟩, ⟨2, ![b, 128]⟩] ⟨2, ![b, 512]⟩ (1 : Fin 2))
    (r : Fin b) (n : Fin 512) :
    concatenate ⟨2, ![b, 512]⟩ (1 : Fin 2) [⟨⟨2, ![b, 128]⟩, x 0⟩, ⟨⟨2, ![b, 128]⟩, x 1⟩, ⟨⟨2, ![b, 128]⟩, x 2⟩, ⟨⟨2, ![b, 128]⟩, x 3⟩] h
      (ix2 r n) = x (n.val / 128) (ix2 r (⟨n.val % 128, Nat.mod_lt _ (by decide)⟩ : Fin 128)) := by
  have hn := n.isLt
  rcases (by omega : n.val / 128 = 0 ∨ n.val / 128 = 1 ∨ n.val / 128 = 2 ∨ n.val / 128 = 3) with e | e | e | e <;> rw [e]
  · exact InprojRows.joined _ _ 0 (by show 0 < 4; decide) (x 0) rfl 0 rfl r n _ (by show 0 + n.val % 128 = n.val; omega)
  · exact InprojRows.joined _ _ 1 (by show 1 < 4; decide) (x 1) rfl 128 rfl r n _ (by show 128 + n.val % 128 = n.val; omega)
  · exact InprojRows.joined _ _ 2 (by show 2 < 4; decide) (x 2) rfl 256 rfl r n _ (by show 256 + n.val % 128 = n.val; omega)
  · exact InprojRows.joined _ _ 3 (by show 3 < 4; decide) (x 3) rfl 384 rfl r n _ (by show 384 + n.val % 128 = n.val; omega)

/-- A head's columns fit. -/
theorem head_fits (j : ℕ) : S512x512.Slices ![0, 128 * (j % 4)] S512x128 :=
  ⟨rfl, fun z => by
    match z with
    | ⟨0, _⟩ => show 0 + 512 ≤ 512; omega
    | ⟨1, _⟩ => show 128 * (j % 4) + 128 ≤ 512; omega⟩

/-- Four rotated heads at an index. -/
theorem turned_apply (cs sn : FVec Ideal S512x128 .f32) (a : FVec Ideal S512x512 .f32) (U C S : ℕ → EReal) (r : Fin 512)
    (ha : ∀ n : Fin 512, a (ix2 r n) = U n.val) (hc : ∀ l : Fin 128, cs (ix2 r l) = InprojRows.wideC C l.val)
    (hs : ∀ l : Fin 128, sn (ix2 r l) = InprojRows.wideS S l.val) (n : Fin 512) :
    turned cs sn a (ix2 r n) = InprojRows.rope (fun l => U (128 * (n.val / 128) + l)) C S (n.val % 128) := by
  have hn := n.isLt
  refine (heads_joined (fun j => turn cs sn (extractStridedSlice S512x128 ![0, 128 * (j % 4)] a (head_fits j)))
    concatenates_S512x128_S512x128_S512x128_S512x128_S512x512_d1 r n).trans ?_
  refine turn_apply cs sn _ _ C S r (fun l => ?_) hc hs _
  refine (cut_apply _ _ a r l ⟨128 * (n.val / 128) + l.val, by omega⟩ ?_).trans (ha _)
  show 128 * (n.val / 128) + l.val = 128 * (n.val / 128 % 4) + l.val
  omega

/-- A scaled product at an index. -/
theorem scaled_apply (a : FVec Ideal S512x512 .f32) (i : S512x512.Idx) : scaled a i = a i * InprojRows.scale := rfl

/-- Queries, keys or values of a group at an index. -/
theorem acc_apply (cs sn : FVec Ideal S512x128 .f32) (a : FVec Ideal S512x512 .f32) (H : ℕ → ℕ → EReal) (A : ℕ → EReal)
    (W C S : ℕ → ℕ → EReal) (t p g : ℕ) (r : Fin 512)
    (ha : ∀ n : Fin 512, a (ix2 r n) = FfnRows.up H A W t (5120 + 512 * (3 * p + g) + n.val))
    (hc : ∀ l : Fin 128, cs (ix2 r l) = InprojRows.wideC (C t) l.val)
    (hs : ∀ l : Fin 128, sn (ix2 r l) = InprojRows.wideS (S t) l.val) (n : Fin 512) :
    acc cs sn p a (ix2 r n) = InprojRows.part H A W C S p g t n.val := by
  have hT := turned_apply cs sn a (fun n => FfnRows.up H A W t (5120 + 512 * (3 * p + g) + n)) (C t) (S t) r ha hc hs n
  match p with
  | 0 => exact (scaled_apply _ _).trans (congrArg (· * InprojRows.scale) hT)
  | 1 => exact hT
  | p + 2 =>
    refine (ha n).trans ?_
    show _ = FfnRows.up H A W t (5120 + 512 * (3 * (p + 2) + g) + (128 * (n.val / 128) + n.val % 128))
    rw [Nat.div_add_mod]

/-- The first output's block at an index. -/
theorem zOf_apply (c : ℕ) (a : FVec Ideal S512x512 .f32) (H : ℕ → ℕ → EReal) (A : ℕ → EReal) (W : ℕ → ℕ → EReal) (t : ℕ)
    (r n : Fin 512) (ha : a (ix2 r n) = FfnRows.up H A W t (512 * c + n.val)) :
    zOf c a (ix2 r n) = InprojRows.zrow H A W t (512 * c + n.val) := by
  have hn := n.isLt
  unfold zOf InprojRows.zrow
  by_cases h0 : c = 0
  · rw [if_pos h0, if_pos (show 512 * c + n.val < 512 by omega), scaled_apply, ha]
  · rw [if_neg h0, if_neg (show ¬ 512 * c + n.val < 512 by omega)]
    by_cases h6 : c < 6
    · rw [if_pos h6, if_pos (show 512 * c + n.val < 3072 by omega), ha]
    · rw [if_neg h6, if_neg (show ¬ 512 * c + n.val < 3072 by omega)]
      exact congrArg Ideal.logistic ha

/-- The gate at an index. -/
theorem decay_apply (xn : FVec Ideal S512x1024 .bf16) (wl : FVec Ideal S1024x128 .bf16) (wu : FVec Ideal S128x512 .bf16)
    (b : FVec Ideal S1x512 .f32) (H : ℕ → ℕ → EReal) (A : ℕ → EReal) (L G : ℕ → ℕ → EReal) (B : ℕ → EReal) (t : ℕ) (r : Fin 512)
    (hx : ∀ k, xn (ix2 r k) = FfnRows.norm (H t) A k.val) (hl : ∀ k n, wl (ix2 k n) = L k.val n.val)
    (hg : ∀ k n, wu (ix2 k n) = G k.val n.val) (hb : ∀ n, b (ix2 0 n) = B n.val) (n : Fin 512) :
    decay xn wl wu b (ix2 r n) = InprojRows.decay H A L G B t n.val := by
  have e : addf (matmul dot_S512x128_S128x512_S512x512_1_0_0_1_n_n none (truncf .bf16 (matmul dot_S512x1024_S1024x128_S512x128_1_0_0_1_n_n none
      xn wl (constant S512x128 .f32 0x00000000#32)) bitsLt_bf16_f32) wu (constant S512x512 .f32 0x00000000#32))
      (broadcastTo S512x512 b broadcasts_S1x512_S512x512) (ix2 r n) = InprojRows.gate H A L G B t n.val := by
    rw [addf_apply, broadcastTo_1b_ab_apply, hb]
    refine congrArg (· + B n.val) ?_
    refine (Ideal.matmul_plain_apply none _ _ (constant S512x512 .f32 0x00000000#32) r n).trans ?_
    rw [constant_apply, Ideal.ofBits_zero_f32, zero_add]
    refine Finset.sum_congr rfl fun j _ => ?_
    rw [hg, truncf_apply]
    refine congrArg (· * G j.val n.val) ?_
    refine (Ideal.matmul_plain_apply none _ _ (constant S512x128 .f32 0x00000000#32) r j).trans ?_
    rw [constant_apply, Ideal.ofBits_zero_f32, zero_add]
    exact Finset.sum_congr rfl fun k _ => by rw [hx, hl]
  unfold InprojRows.decay
  rw [← e]
  unfold InprojRows.lsK
  rw [← Ideal.ofBits_zero_f32]
  rfl

/-! ## The scratch -/

/-- A strip read where it was stored. -/
theorem strip_hit (j o : ℕ) (h : S512x512.Slices ![0, o] S512x128)
    (inb : ∀ a, (![j, 0, 0] : Fin 3 → ℕ) a + S1x512x128.size a ≤ S4x512x128.size a) (a : FVec Ideal S512x512 .f32)
    (L : List (View.Piece (Elt Ideal) S4x512x128 .f32)) (i : Fin 4) (hi : i.val = j) (q : Fin 512) (l : Fin 128) (n : Fin 512)
    (hn : n.val = o + l.val) :
    View.canon ((⟨Rect.unit ![j, 0, 0] S1x512x128.size inb, strip o h a⟩ : View.Piece (Elt Ideal) S4x512x128 .f32) :: L) (ix3 i q l)
      = a (ix2 q n) := by
  have e : (ix3 i q l : S4x512x128.Idx) = (Rect.unit (s := S4x512x128) ![j, 0, 0] S1x512x128.size inb).emb (ix3 (0 : Fin 1) q l) := by
    funext z; apply Fin.ext
    match z with
    | ⟨0, _⟩ => show i.val = j + 1 * 0; omega
    | ⟨1, _⟩ => show q.val = 0 + 1 * q.val; omega
    | ⟨2, _⟩ => show l.val = 0 + 1 * l.val; omega
  rw [e, View.canon_cons_emb]
  unfold strip
  exact (shapeCast_ab_1ab_apply _ _ (0 : Fin 1) q l).trans (cut_apply o h a q l n hn)

/-- A strip passed over. -/
theorem strip_miss (j : ℕ) (inb : ∀ a, (![j, 0, 0] : Fin 3 → ℕ) a + S1x512x128.size a ≤ S4x512x128.size a)
    (w : FVec Ideal S1x512x128 .f32) (L : List (View.Piece (Elt Ideal) S4x512x128 .f32)) (i : Fin 4) (hi : i.val ≠ j) (q : Fin 512)
    (l : Fin 128) :
    View.canon ((⟨Rect.unit ![j, 0, 0] S1x512x128.size inb, w⟩ : View.Piece (Elt Ideal) S4x512x128 .f32) :: L) (ix3 i q l)
      = View.canon L (ix3 i q l) := by
  refine View.canon_cons_of_not_mem _ L fun hm => ?_
  have h : j ≤ i.val ∧ i.val < j + 1 := (Rect.mem_set_unit (s := S4x512x128) (off := ![j, 0, 0]) (size := S1x512x128.size) (inb := inb)).1 hm (0 : Fin 3)
  omega

/-- What the scratch holds after the four stores. -/
theorem strips_apply (a : FVec Ideal S512x512 .f32) (L : List (View.Piece (Elt Ideal) S4x512x128 .f32)) (j : Fin 4) (q : Fin 512)
    (l : Fin 128) (n : Fin 512) (hn : n.val = 128 * j.val + l.val) : View.canon (strips a L) (ix3 j q l) = a (ix2 q n) := by
  unfold strips
  by_cases h3 : j.val = 3
  · exact strip_hit 3 384 _ _ a _ j h3 q l n (by omega)
  refine (strip_miss 3 _ _ _ j h3 q l).trans ?_
  by_cases h2 : j.val = 2
  · exact strip_hit 2 256 _ _ a _ j h2 q l n (by omega)
  refine (strip_miss 2 _ _ _ j h2 q l).trans ?_
  by_cases h1 : j.val = 1
  · exact strip_hit 1 128 _ _ a _ j h1 q l n (by omega)
  refine (strip_miss 1 _ _ _ j h1 q l).trans ?_
  exact strip_hit 0 0 _ _ a _ j (by omega) q l n (by omega)

/-- One head's rows read from the scratch. -/
theorem read_apply (v : Memref sig .tc .vmem S4x512x128 .f32) (a : FVec Ideal S512x512 .f32)
    (L : List (View.Piece (Elt Ideal) S4x512x128 .f32)) (d b r j : ℕ) (hj : j < 4) (hr : r + d * (b - 1) < 512) (t : Fin b)
    (l : Fin 128) (q n : Fin 512) (hq : q.val = r + d * t.val) (hn : n.val = 128 * j + l.val) :
    v.view.readCov (strips a L) (every d b r j hj hr) (ix3 (0 : Fin 1) t l) = a (ix2 q n) := by
  rw [View.readCov_eq_canon']
  refine (congrArg (View.canon (strips a L)) ?_).trans (strips_apply a L ⟨j, hj⟩ q l n hn)
  funext z; apply Fin.ext
  match z with
  | ⟨0, _⟩ => show j + 1 * 0 = j; omega
  | ⟨1, _⟩ => exact hq.symm
  | ⟨2, _⟩ => show 0 + 1 * l.val = l.val; omega

/-- A stream at an index. -/
theorem gather_apply (v : Memref sig .tc .vmem S4x512x128 .f32) (a : FVec Ideal S512x512 .f32)
    (L : List (View.Piece (Elt Ideal) S4x512x128 .f32)) (d b r : ℕ) (hr : r + d * (b - 1) < 512)
    (h1 : (⟨3, ![1, b, 128]⟩ : Shape).ShapeCasts ⟨2, ![b, 128]⟩)
    (hc : Shape.Concatenates [⟨2, ![b, 128]⟩, ⟨2, ![b, 128]⟩, ⟨2, ![b, 128]⟩, ⟨2, ![b, 128]⟩] ⟨2, ![b, 512]⟩ 1)
    (h2 : (⟨2, ![b, 512]⟩ : Shape).ShapeCasts ⟨3, ![1, b, 512]⟩) (u : Fin 1) (t : Fin b) (n : Fin 512) (q : Fin 512)
    (hq : q.val = r + d * t.val) : gather v (strips a L) d b r hr h1 hc h2 (ix3 u t n) = a (ix2 q n) := by
  have hn := n.isLt
  unfold gather
  rw [shapeCast_ab_1ab_apply, truncf_apply]
  refine (heads_joined (fun j => shapeCast ⟨2, ![b, 128]⟩ (v.view.readCov (strips a L)
    (every d b r (j % 4) (Nat.mod_lt _ (by decide)) hr)) h1) hc t n).trans ?_
  refine (shapeCast_1ab_ab_apply _ _ t _).trans ?_
  refine read_apply v a L d b r _ _ hr t _ q n hq ?_
  show n.val = 128 * (n.val / 128 % 4) + n.val % 128
  omega

/-- The four streams' pieces are the rows dealt out. -/
theorem four_agree (v : Memref sig .tc .vmem S4x512x128 .f32) (a : FVec Ideal S512x512 .f32)
    (L : List (View.Piece (Elt Ideal) S4x512x128 .f32)) (P : Fin 3) (G : ℕ → ℕ → EReal)
    (ha : ∀ r n : Fin 512, a (ix2 r n) = G r.val (512 * P.val + n.val)) (p : View.Piece (Elt Ideal) S4x128x1536 .bf16)
    (hp : p ∈ four v (strips a L) P) (x : p.1.shape.Idx) :
    p.2 x = G (4 * (p.1.emb x 1).val + (p.1.emb x 0).val) (p.1.emb x 2).val := by
  obtain ⟨k, rfl⟩ := (List.mem_ofFn' _ _).1 hp
  have hk := k.isLt
  have h0 : (x 0).val < 1 := (x 0).isLt
  have h1 : (x 1).val < 128 := (x 1).isLt
  have h2 : (x 2).val < 512 := (x 2).isLt
  have e : x = ix3 (⟨(x 0).val, h0⟩ : Fin 1) (⟨(x 1).val, h1⟩ : Fin 128) (⟨(x 2).val, h2⟩ : Fin 512) := by
    funext z
    match z with
    | ⟨0, _⟩ => rfl
    | ⟨1, _⟩ => rfl
    | ⟨2, _⟩ => rfl
  refine (congrArg _ e).trans ((gather_apply v a L 4 128 (3 - k.val) _ _ _ _ _ _ _
    (⟨3 - k.val + 4 * (x 1).val, by omega⟩ : Fin 512) rfl).trans ((ha _ _).trans ?_))
  congr 1
  · show 3 - k.val + 4 * (x 1).val = 4 * (0 + 1 * (x 1).val) + (3 - k.val + 1 * (x 0).val)
    omega
  · show 512 * P.val + (x 2).val = 512 * P.val + 1 * (x 2).val
    omega

/-- The sixteen streams' pieces are the rows dealt out. -/
theorem sixteen_agree (v : Memref sig .tc .vmem S4x512x128 .f32) (a : FVec Ideal S512x512 .f32)
    (L : List (View.Piece (Elt Ideal) S4x512x128 .f32)) (P : Fin 3) (G : ℕ → ℕ → EReal)
    (ha : ∀ r n : Fin 512, a (ix2 r n) = G r.val (512 * P.val + n.val)) (p : View.Piece (Elt Ideal) S16x32x1536 .bf16)
    (hp : p ∈ sixteen v (strips a L) P) (x : p.1.shape.Idx) :
    p.2 x = G (16 * (p.1.emb x 1).val + (p.1.emb x 0).val) (p.1.emb x 2).val := by
  obtain ⟨k, rfl⟩ := (List.mem_ofFn' _ _).1 hp
  have hk := k.isLt
  have h0 : (x 0).val < 1 := (x 0).isLt
  have h1 : (x 1).val < 32 := (x 1).isLt
  have h2 : (x 2).val < 512 := (x 2).isLt
  have e : x = ix3 (⟨(x 0).val, h0⟩ : Fin 1) (⟨(x 1).val, h1⟩ : Fin 32) (⟨(x 2).val, h2⟩ : Fin 512) := by
    funext z
    match z with
    | ⟨0, _⟩ => rfl
    | ⟨1, _⟩ => rfl
    | ⟨2, _⟩ => rfl
  refine (congrArg _ e).trans ((gather_apply v a L 16 32 (15 - k.val) _ _ _ _ _ _ _
    (⟨15 - k.val + 16 * (x 1).val, by omega⟩ : Fin 512) rfl).trans ((ha _ _).trans ?_))
  congr 1
  · show 15 - k.val + 16 * (x 1).val = 16 * (0 + 1 * (x 1).val) + (15 - k.val + 1 * (x 0).val)
    omega
  · show 512 * P.val + (x 2).val = 512 * P.val + 1 * (x 2).val
    omega

/-- The one stream's piece. -/
theorem whole_agree (a : FVec Ideal S512x512 .f32) (P : Fin 3) (G : ℕ → ℕ → EReal)
    (ha : ∀ r n : Fin 512, a (ix2 r n) = G r.val (512 * P.val + n.val)) (x : (whole P a).1.shape.Idx) :
    (whole P a).2 x = G ((whole P a).1.emb x 1).val ((whole P a).1.emb x 2).val := by
  have h0 : (x 0).val < 1 := (x 0).isLt
  have h1 : (x 1).val < 512 := (x 1).isLt
  have h2 : (x 2).val < 512 := (x 2).isLt
  have e : x = ix3 (⟨(x 0).val, h0⟩ : Fin 1) (⟨(x 1).val, h1⟩ : Fin 512) (⟨(x 2).val, h2⟩ : Fin 512) := by
    funext z
    match z with
    | ⟨0, _⟩ => rfl
    | ⟨1, _⟩ => rfl
    | ⟨2, _⟩ => rfl
  refine (congrArg _ e).trans ((shapeCast_ab_1ab_apply _ _ _ _ _).trans ((ha _ _).trans ?_))
  congr 1
  · show (x 1).val = 0 + 1 * (x 1).val
    omega
  · show 512 * P.val + (x 2).val = 512 * P.val + 1 * (x 2).val
    omega

/-- The first output's pieces. -/
theorem zs_agree (xn : FVec Ideal S512x1024 .bf16) (w : Fin 19 → FVec Ideal S1024x512 .bf16) (H : ℕ → ℕ → EReal) (A : ℕ → EReal)
    (W : ℕ → ℕ → EReal) (t : ℕ → ℕ)
    (ha : ∀ (c : Fin 19) (r n : Fin 512), prod xn (w c) (ix2 r n) = FfnRows.up H A W (t r.val) (512 * c.val + n.val))
    (p : View.Piece (Elt Ideal) S512x5120 .bf16) (hp : p ∈ zs xn w) (x : p.1.shape.Idx) :
    p.2 x = InprojRows.zrow H A W (t (p.1.emb x 0).val) (p.1.emb x 1).val := by
  obtain ⟨k, rfl⟩ := (List.mem_ofFn' _ _).1 hp
  have hk := k.isLt
  have h0 : (x 0).val < 512 := (x 0).isLt
  have h1 : (x 1).val < 512 := (x 1).isLt
  have e : x = ix2 (⟨(x 0).val, h0⟩ : Fin 512) (⟨(x 1).val, h1⟩ : Fin 512) := by
    funext z
    match z with
    | ⟨0, _⟩ => rfl
    | ⟨1, _⟩ => rfl
  refine (congrArg _ e).trans ((zOf_apply (9 - k.val) _ H A W (t (x 0).val) _ _ (ha ⟨9 - k.val, by omega⟩ _ _)).trans ?_)
  congr 1
  · refine congrArg t ?_
    show (x 0).val = 0 + 1 * (x 0).val
    omega
  · show 512 * (9 - k.val) + (x 1).val = 512 * (9 - k.val) + 1 * (x 1).val
    omega

end Cert.InprojTile

end
-- ==== Proof.InprojPoint.lean ====
/- What one grid point of the input projection leaves in its five outputs. -/
module

public import proofs.«01_k».proof.Proof.Gen.InprojIdeal.Frame
public import proofs.«01_k».proof.Proof.InprojTile
public import Idealize.ShloMosaic.Lib.Pipeline.ValueKit.Tiles

@[expose] public section

set_option maxRecDepth 16384

noncomputable section

namespace Cert.InprojPoint

open Cert.InprojIdeal Cert.InprojIdeal.Gen Cert.InprojTile Idealize.ShloMosaic Idealize.SL.Sem
open Idealize.ShloMosaic.ValueIdx

section Def

variable {F : FTy → Type} [FloatOps F] [Named F]

/-- The accumulator of part `p` of group `g`. -/
def accOf (x0 : Vec F S512x1024 .f32) (x1 : Vec F S1x1024 .f32) (x2 : Vec F S1024x9728 .bf16) (x6 x7 : Vec F S512x128 .f32)
    (p g : Fin 3) : FVec F S512x512 .f32 :=
  acc (turns x6) (turns x7) p.val (prod (FfnTile.rows (hs x0) (row x1)) (ws x2 ⟨10 + 3 * p.val + g.val, by omega⟩))

/-- The accumulator the scratch holds at step `n` of the six. -/
def held (q : Fin 3 → Fin 3 → FVec F S512x512 .f32) (n : ℕ) : FVec F S512x512 .f32 :=
  q ⟨n / 2 % 3, by omega⟩ ⟨1 + n % 2, by omega⟩

end Def

section Point

variable {F : FTy → Type} [FloatOps F] [Named F]
variable (c : Dev nD) (i : grid0.Coords)
  (arg1 : Memref sig .tc .vmem S512x1024 .f32) (harg1 : arg1.IsWhole) (arg2 : Memref sig .tc .vmem S1x1024 .f32)
  (harg2 : arg2.IsWhole) (arg3 : Memref sig .tc .vmem S1024x9728 .bf16) (harg3 : arg3.IsWhole)
  (arg4 : Memref sig .tc .vmem S1024x128 .bf16) (harg4 : arg4.IsWhole) (arg5 : Memref sig .tc .vmem S128x512 .bf16)
  (harg5 : arg5.IsWhole) (arg6 : Memref sig .tc .vmem S1x512 .f32) (harg6 : arg6.IsWhole)
  (arg7 : Memref sig .tc .vmem S512x128 .f32) (harg7 : arg7.IsWhole) (arg8 : Memref sig .tc .vmem S512x128 .f32)
  (harg8 : arg8.IsWhole) (arg9 : Memref sig .tc .vmem S512x5120 .bf16) (harg9 : arg9.IsWhole)
  (arg10 : Memref sig .tc .vmem S512x512 .f32) (harg10 : arg10.IsWhole)
  (arg11 : Memref sig .tc .vmem S1x512x1536 .bf16) (harg11 : arg11.IsWhole)
  (arg12 : Memref sig .tc .vmem S4x128x1536 .bf16) (harg12 : arg12.IsWhole)
  (arg13 : Memref sig .tc .vmem S16x32x1536 .bf16) (harg13 : arg13.IsWhole)
  (arg14 : Memref sig .tc .vmem S4x512x128 .f32) (harg14 : arg14.IsWhole)
  (x0 : Vec F S512x1024 .f32) (x1 : Vec F S1x1024 .f32) (x2 : Vec F S1024x9728 .bf16) (x3 : Vec F S1024x128 .bf16)
  (x4 : Vec F S128x512 .bf16) (x5 : Vec F S1x512 .f32) (x6 x7 : Vec F S512x128 .f32)

/-- The second output's piece. -/
theorem pieces9 :
    (kernelRun0_A c i arg1 harg1 arg2 harg2 arg3 harg3 arg4 harg4 arg5 harg5 arg6 harg6 arg7 harg7 arg8 harg8 arg9 harg9
      arg10 harg10 arg11 harg11 arg12 harg12 arg13 harg13 arg14 harg14 x0 x1 x2 x3 x4 x5 x6 x7).2.1
      = [⟨Rect.unit ![0, 0] S512x512.size inb_S512x512_S512x512_0_0,
          decay (FfnTile.rows (hs (arg1.view.read (Elt F) (harg1.unread x0))) (row (arg2.view.read (Elt F) (harg2.unread x1))))
            (View.ld (arg4.view.read (Elt F) (harg4.unread x3)) (Rect.unit ![0, 0] S1024x128.size inb_S1024x128_S1024x128_0_0))
            (View.ld (arg5.view.read (Elt F) (harg5.unread x4)) (Rect.unit ![0, 0] S128x512.size inb_S128x512_S128x512_0_0))
            (View.ld (arg6.view.read (Elt F) (harg6.unread x5)) (Rect.unit ![0, 0] S1x512.size inb_S1x512_S1x512_0_0))⟩] := rfl

/-- The first output's pieces. -/
theorem pieces8 :
    (kernelRun0_A c i arg1 harg1 arg2 harg2 arg3 harg3 arg4 harg4 arg5 harg5 arg6 harg6 arg7 harg7 arg8 harg8 arg9 harg9
      arg10 harg10 arg11 harg11 arg12 harg12 arg13 harg13 arg14 harg14 x0 x1 x2 x3 x4 x5 x6 x7).1
      = zs (FfnTile.rows (hs (arg1.view.read (Elt F) (harg1.unread x0))) (row (arg2.view.read (Elt F) (harg2.unread x1))))
          (ws (arg3.view.read (Elt F) (harg3.unread x2))) := rfl

/-- The third output's pieces. -/
theorem pieces10 :
    (kernelRun0_A c i arg1 harg1 arg2 harg2 arg3 harg3 arg4 harg4 arg5 harg5 arg6 harg6 arg7 harg7 arg8 harg8 arg9 harg9
      arg10 harg10 arg11 harg11 arg12 harg12 arg13 harg13 arg14 harg14 x0 x1 x2 x3 x4 x5 x6 x7).2.2.1
      = (let q := accOf (arg1.view.read (Elt F) (harg1.unread x0)) (arg2.view.read (Elt F) (harg2.unread x1))
          (arg3.view.read (Elt F) (harg3.unread x2)) (arg7.view.read (Elt F) (harg7.unread x6)) (arg8.view.read (Elt F) (harg8.unread x7))
        [whole 2 (q 2 0), whole 1 (q 1 0), whole 0 (q 0 0)]) := rfl

/-- The fourth output's pieces. -/
theorem pieces11 :
    (kernelRun0_A c i arg1 harg1 arg2 harg2 arg3 harg3 arg4 harg4 arg5 harg5 arg6 harg6 arg7 harg7 arg8 harg8 arg9 harg9
      arg10 harg10 arg11 harg11 arg12 harg12 arg13 harg13 arg14 harg14 x0 x1 x2 x3 x4 x5 x6 x7).2.2.2.1
      = (let q := accOf (arg1.view.read (Elt F) (harg1.unread x0)) (arg2.view.read (Elt F) (harg2.unread x1))
          (arg3.view.read (Elt F) (harg3.unread x2)) (arg7.view.read (Elt F) (harg7.unread x6)) (arg8.view.read (Elt F) (harg8.unread x7))
        four arg14 (hist (held q) 5) 2 ++ (four arg14 (hist (held q) 3) 1 ++ four arg14 (hist (held q) 1) 0)) := by
  sl_kernel_rfl

/-- The fifth output's pieces. -/
theorem pieces12 :
    (kernelRun0_A c i arg1 harg1 arg2 harg2 arg3 harg3 arg4 harg4 arg5 harg5 arg6 harg6 arg7 harg7 arg8 harg8 arg9 harg9
      arg10 harg10 arg11 harg11 arg12 harg12 arg13 harg13 arg14 harg14 x0 x1 x2 x3 x4 x5 x6 x7).2.2.2.2.1
      = (let q := accOf (arg1.view.read (Elt F) (harg1.unread x0)) (arg2.view.read (Elt F) (harg2.unread x1))
          (arg3.view.read (Elt F) (harg3.unread x2)) (arg7.view.read (Elt F) (harg7.unread x6)) (arg8.view.read (Elt F) (harg8.unread x7))
        sixteen arg14 (hist (held q) 6) 2 ++ (sixteen arg14 (hist (held q) 4) 1 ++ sixteen arg14 (hist (held q) 2) 0)) := by
  sl_kernel_rfl

end Point

/-! ## In the layer's own terms -/

/-- What a point's operands are: rows `512 T + r` of the states and of the rotation's factors, and the weights. -/
structure Operands (T : ℕ) (H : ℕ → ℕ → EReal) (A : ℕ → EReal) (W L G : ℕ → ℕ → EReal) (B : ℕ → EReal) (C S : ℕ → ℕ → EReal)
    (x0 : Vec Ideal S512x1024 .f32) (x1 : Vec Ideal S1x1024 .f32) (x2 : Vec Ideal S1024x9728 .bf16) (x3 : Vec Ideal S1024x128 .bf16)
    (x4 : Vec Ideal S128x512 .bf16) (x5 : Vec Ideal S1x512 .f32) (x6 x7 : Vec Ideal S512x128 .f32) : Prop where
  /-- The states. -/
  h : ∀ (r : Fin 512) (k : Fin 1024), x0 (ix2 r k) = H (512 * T + r.val) k.val
  /-- The normalisation's weight. -/
  a : ∀ k : Fin 1024, x1 (ix2 (0 : Fin 1) k) = A k.val
  /-- The joined weight. -/
  w : ∀ (k : Fin 1024) (n : Fin 9728), x2 (ix2 k n) = W k.val n.val
  /-- The gate's first weight. -/
  l : ∀ (k : Fin 1024) (n : Fin 128), x3 (ix2 k n) = L k.val n.val
  /-- The gate's second weight. -/
  g : ∀ (k : Fin 128) (n : Fin 512), x4 (ix2 k n) = G k.val n.val
  /-- The gate's offset. -/
  b : ∀ n : Fin 512, x5 (ix2 (0 : Fin 1) n) = B n.val
  /-- The rotation's first factors. -/
  co : ∀ (r : Fin 512) (l : Fin 128), x6 (ix2 r l) = InprojRows.wideC (C (512 * T + r.val)) l.val
  /-- The rotation's second factors. -/
  si : ∀ (r : Fin 512) (l : Fin 128), x7 (ix2 r l) = InprojRows.wideS (S (512 * T + r.val)) l.val

namespace Operands

variable {T : ℕ} {H : ℕ → ℕ → EReal} {A : ℕ → EReal} {W L G : ℕ → ℕ → EReal} {B : ℕ → EReal} {C S : ℕ → ℕ → EReal}
  {x0 : Vec Ideal S512x1024 .f32} {x1 : Vec Ideal S1x1024 .f32} {x2 : Vec Ideal S1024x9728 .bf16} {x3 : Vec Ideal S1024x128 .bf16}
  {x4 : Vec Ideal S128x512 .bf16} {x5 : Vec Ideal S1x512 .f32} {x6 x7 : Vec Ideal S512x128 .f32}

/-- The normalised rows. -/
theorem rows_apply (o : Operands T H A W L G B C S x0 x1 x2 x3 x4 x5 x6 x7) (r : Fin 512) (k : Fin 1024) :
    FfnTile.rows (hs x0) (row x1) (ix2 r k) = FfnRows.norm (H (512 * T + r.val)) A k.val := by
  unfold FfnTile.rows
  rw [truncf_apply]
  exact FfnTile.normed_apply (hs x0) (row x1) _ _ r
    (fun k => (ld_at _ 0 0 _ r k r k (by omega) (by omega)).trans (o.h r k))
    (fun k => (ld_at _ 0 0 _ (0 : Fin 1) k (0 : Fin 1) k rfl (by omega)).trans (o.a k)) k

/-- A product with one block of the weight. -/
theorem prod_apply (o : Operands T H A W L G B C S x0 x1 x2 x3 x4 x5 x6 x7) (j : Fin 19) (r n : Fin 512) :
    prod (FfnTile.rows (hs x0) (row x1)) (ws x2 j) (ix2 r n) = FfnRows.up H A W (512 * T + r.val) (512 * j.val + n.val) := by
  rw [InprojTile.prod_apply]
  refine Finset.sum_congr rfl fun k _ => ?_
  rw [o.rows_apply]
  refine congrArg _ ?_
  exact (ld_at _ 0 (512 * j.val) _ k n k (⟨512 * j.val + n.val, by omega⟩ : Fin 9728) (by omega) rfl).trans (o.w k _)

/-- Queries, keys or values of a group. -/
theorem acc_apply (o : Operands T H A W L G B C S x0 x1 x2 x3 x4 x5 x6 x7) (p g : Fin 3) (r n : Fin 512) :
    accOf x0 x1 x2 x6 x7 p g (ix2 r n) = InprojRows.part H A W C S p.val g.val (512 * T + r.val) n.val := by
  unfold accOf
  refine InprojTile.acc_apply _ _ _ H A W C S (512 * T + r.val) p.val g.val r (fun n => ?_) (fun l => ?_) (fun l => ?_) n
  · refine (o.prod_apply _ r n).trans ?_
    congr 1
    show 512 * (10 + 3 * p.val + g.val) + n.val = 5120 + 512 * (3 * p.val + g.val) + n.val
    omega
  · unfold turns
    exact ((shapeCast_apply _ _ (ix2 r l) (ix2 r l) rfl).trans (ld_at _ 0 0 _ r l r l (by omega) (by omega))).trans (o.co r l)
  · unfold turns
    exact ((shapeCast_apply _ _ (ix2 r l) (ix2 r l) rfl).trans (ld_at _ 0 0 _ r l r l (by omega) (by omega))).trans (o.si r l)

/-- The same, as a column of all three beside each other. -/
theorem qkv_apply (o : Operands T H A W L G B C S x0 x1 x2 x3 x4 x5 x6 x7) (p g : Fin 3) (r n : Fin 512) :
    accOf x0 x1 x2 x6 x7 p g (ix2 r n) = InprojRows.qkv H A W C S g.val (512 * T + r.val) (512 * p.val + n.val) := by
  rw [o.acc_apply]
  unfold InprojRows.qkv
  rw [show (512 * p.val + n.val) / 512 = p.val by omega, show (512 * p.val + n.val) % 512 = n.val by omega]

/-- The gate. -/
theorem decay_apply (o : Operands T H A W L G B C S x0 x1 x2 x3 x4 x5 x6 x7) (r n : Fin 512) :
    decay (FfnTile.rows (hs x0) (row x1)) (View.ld x3 (Rect.unit ![0, 0] S1024x128.size inb_S1024x128_S1024x128_0_0))
      (View.ld x4 (Rect.unit ![0, 0] S128x512.size inb_S128x512_S128x512_0_0))
      (View.ld x5 (Rect.unit ![0, 0] S1x512.size inb_S1x512_S1x512_0_0)) (ix2 r n)
      = InprojRows.decay H A L G B (512 * T + r.val) n.val :=
  InprojTile.decay_apply _ _ _ _ H A L G B (512 * T + r.val) r (o.rows_apply r)
    (fun k n => (ld_at _ 0 0 _ k n k n (by omega) (by omega)).trans (o.l k n))
    (fun k n => (ld_at _ 0 0 _ k n k n (by omega) (by omega)).trans (o.g k n))
    (fun n => (ld_at _ 0 0 _ (0 : Fin 1) n (0 : Fin 1) n rfl (by omega)).trans (o.b n)) n

end Operands

/-- Pieces that agree with one array, read where they cover. -/
theorem read_of_pieces {S : Shape} {e : EltTy} (v : View sig .tc .vmem S e) (f : v.ty.Contents (Elt Ideal))
    (L L' : List (View.Piece (Elt Ideal) S e)) (hL : L = L') (hc : ∀ y, ∃ p ∈ L, y ∈ p.1.set) (G : S.Idx → Elt Ideal e)
    (hG : ∀ p ∈ L', ∀ x : p.1.shape.Idx, p.2 x = G (p.1.emb x)) (y : S.Idx) :
    v.read (Elt Ideal) (v.writes (Elt Ideal) f L) y = G y := by
  subst hL
  rw [View.read_writes_eq_canon _ _ _ hc]
  exact View.canon_apply_of_pieces G L hG y (hc y)

/-- The third output's pieces agree with the rows. -/
theorem agree10 (q : Fin 3 → Fin 3 → FVec Ideal S512x512 .f32) (G : ℕ → ℕ → EReal)
    (hq : ∀ (P : Fin 3) (r n : Fin 512), q P 0 (ix2 r n) = G r.val (512 * P.val + n.val))
    (p : View.Piece (Elt Ideal) S1x512x1536 .bf16) (hp : p ∈ [whole 2 (q 2 0), whole 1 (q 1 0), whole 0 (q 0 0)])
    (x : p.1.shape.Idx) : p.2 x = G (p.1.emb x 1).val (p.1.emb x 2).val := by
  rcases List.mem_cons.1 hp with rfl | hp
  · exact whole_agree _ 2 G (hq 2) x
  rcases List.mem_cons.1 hp with rfl | hp
  · exact whole_agree _ 1 G (hq 1) x
  · obtain rfl := List.mem_singleton.1 hp
    exact whole_agree _ 0 G (hq 0) x

/-- The fourth output's pieces agree with the rows dealt to four streams. -/
theorem agree11 (v : Memref sig .tc .vmem S4x512x128 .f32) (q : Fin 3 → Fin 3 → FVec Ideal S512x512 .f32) (G : ℕ → ℕ → EReal)
    (hq : ∀ (P : Fin 3) (r n : Fin 512), q P 1 (ix2 r n) = G r.val (512 * P.val + n.val))
    (p : View.Piece (Elt Ideal) S4x128x1536 .bf16)
    (hp : p ∈ four v (hist (held q) 5) 2 ++ (four v (hist (held q) 3) 1 ++ four v (hist (held q) 1) 0))
    (x : p.1.shape.Idx) : p.2 x = G (4 * (p.1.emb x 1).val + (p.1.emb x 0).val) (p.1.emb x 2).val := by
  rcases List.mem_append.1 hp with hp | hp
  · exact four_agree v (held q 4) (hist (held q) 4) 2 G (hq 2) p hp x
  rcases List.mem_append.1 hp with hp | hp
  · exact four_agree v (held q 2) (hist (held q) 2) 1 G (hq 1) p hp x
  · exact four_agree v (held q 0) (hist (held q) 0) 0 G (hq 0) p hp x

/-- The fifth output's pieces agree with the rows dealt to sixteen streams. -/
theorem agree12 (v : Memref sig .tc .vmem S4x512x128 .f32) (q : Fin 3 → Fin 3 → FVec Ideal S512x512 .f32) (G : ℕ → ℕ → EReal)
    (hq : ∀ (P : Fin 3) (r n : Fin 512), q P 2 (ix2 r n) = G r.val (512 * P.val + n.val))
    (p : View.Piece (Elt Ideal) S16x32x1536 .bf16)
    (hp : p ∈ sixteen v (hist (held q) 6) 2 ++ (sixteen v (hist (held q) 4) 1 ++ sixteen v (hist (held q) 2) 0))
    (x : p.1.shape.Idx) : p.2 x = G (16 * (p.1.emb x 1).val + (p.1.emb x 0).val) (p.1.emb x 2).val := by
  rcases List.mem_append.1 hp with hp | hp
  · exact sixteen_agree v (held q 5) (hist (held q) 5) 2 G (hq 2) p hp x
  rcases List.mem_append.1 hp with hp | hp
  · exact sixteen_agree v (held q 3) (hist (held q) 3) 1 G (hq 1) p hp x
  · exact sixteen_agree v (held q 1) (hist (held q) 1) 0 G (hq 0) p hp x

section Outs

variable (c : Dev nD) (i : grid0.Coords)
  (arg1 : Memref sig .tc .vmem S512x1024 .f32) (harg1 : arg1.IsWhole) (arg2 : Memref sig .tc .vmem S1x1024 .f32)
  (harg2 : arg2.IsWhole) (arg3 : Memref sig .tc .vmem S1024x9728 .bf16) (harg3 : arg3.IsWhole)
  (arg4 : Memref sig .tc .vmem S1024x128 .bf16) (harg4 : arg4.IsWhole) (arg5 : Memref sig .tc .vmem S128x512 .bf16)
  (harg5 : arg5.IsWhole) (arg6 : Memref sig .tc .vmem S1x512 .f32) (harg6 : arg6.IsWhole)
  (arg7 : Memref sig .tc .vmem S512x128 .f32) (harg7 : arg7.IsWhole) (arg8 : Memref sig .tc .vmem S512x128 .f32)
  (harg8 : arg8.IsWhole) (arg9 : Memref sig .tc .vmem S512x5120 .bf16) (harg9 : arg9.IsWhole)
  (arg10 : Memref sig .tc .vmem S512x512 .f32) (harg10 : arg10.IsWhole)
  (arg11 : Memref sig .tc .vmem S1x512x1536 .bf16) (harg11 : arg11.IsWhole)
  (arg12 : Memref sig .tc .vmem S4x128x1536 .bf16) (harg12 : arg12.IsWhole)
  (arg13 : Memref sig .tc .vmem S16x32x1536 .bf16) (harg13 : arg13.IsWhole)
  (arg14 : Memref sig .tc .vmem S4x512x128 .f32) (harg14 : arg14.IsWhole)
  (x0 : Vec Ideal S512x1024 .f32) (x1 : Vec Ideal S1x1024 .f32) (x2 : Vec Ideal S1024x9728 .bf16) (x3 : Vec Ideal S1024x128 .bf16)
  (x4 : Vec Ideal S128x512 .bf16) (x5 : Vec Ideal S1x512 .f32) (x6 x7 : Vec Ideal S512x128 .f32)
  {T : ℕ} {H : ℕ → ℕ → EReal} {A : ℕ → EReal} {W L G : ℕ → ℕ → EReal} {B : ℕ → EReal} {C S : ℕ → ℕ → EReal}
  (o : Operands T H A W L G B C S x0 x1 x2 x3 x4 x5 x6 x7)

include o

/-- The first output at an index. -/
theorem out8 (r : Fin 512) (n : Fin 5120) :
    out0_A_8 c i arg1 harg1 arg2 harg2 arg3 harg3 arg4 harg4 arg5 harg5 arg6 harg6 arg7 harg7 arg8 harg8 arg9 harg9
      arg10 harg10 arg11 harg11 arg12 harg12 arg13 harg13 arg14 harg14 x0 x1 x2 x3 x4 x5 x6 x7 (ix2 r n)
      = InprojRows.zrow H A W (512 * T + r.val) n.val := by
  unfold out0_A_8
  refine read_of_pieces _ _ _ _ (pieces8 (F := Ideal) c i arg1 harg1 arg2 harg2 arg3 harg3 arg4 harg4 arg5 harg5 arg6 harg6 arg7 harg7 arg8 harg8 arg9 harg9
      arg10 harg10 arg11 harg11 arg12 harg12 arg13 harg13 arg14 harg14 x0 x1 x2 x3 x4 x5 x6 x7)
    (cover0_A_8 (F := Ideal) c i arg1 harg1 arg2 harg2 arg3 harg3 arg4 harg4 arg5 harg5 arg6 harg6 arg7 harg7 arg8 harg8 arg9 harg9
      arg10 harg10 arg11 harg11 arg12 harg12 arg13 harg13 arg14 harg14 x0 x1 x2 x3 x4 x5 x6 x7)
    (fun y : S512x5120.Idx => InprojRows.zrow H A W (512 * T + (y 0).val) (y 1).val) ?_ (ix2 r n)
  rw [harg1.read_unread, harg2.read_unread, harg3.read_unread]
  exact zs_agree _ _ H A W (fun r => 512 * T + r) o.prod_apply

/-- The second output at an index. -/
theorem out9 (r n : Fin 512) :
    out0_A_9 c i arg1 harg1 arg2 harg2 arg3 harg3 arg4 harg4 arg5 harg5 arg6 harg6 arg7 harg7 arg8 harg8 arg9 harg9
      arg10 harg10 arg11 harg11 arg12 harg12 arg13 harg13 arg14 harg14 x0 x1 x2 x3 x4 x5 x6 x7 (ix2 r n)
      = InprojRows.decay H A L G B (512 * T + r.val) n.val := by
  unfold out0_A_9
  rw [View.read_writes_eq_canon _ _ _ (cover0_A_9 (F := Ideal) c i arg1 harg1 arg2 harg2 arg3 harg3 arg4 harg4 arg5 harg5 arg6 harg6 arg7 harg7 arg8 harg8 arg9 harg9
      arg10 harg10 arg11 harg11 arg12 harg12 arg13 harg13 arg14 harg14 x0 x1 x2 x3 x4 x5 x6 x7),
    pieces9, View.canon_unit_zero (S := S512x512) (funext fun a => by fin_cases a <;> rfl), harg1.read_unread, harg2.read_unread,
    harg4.read_unread, harg5.read_unread, harg6.read_unread]
  exact o.decay_apply r n

/-- The third output at an index. -/
theorem out10 (u : Fin 1) (r : Fin 512) (n : Fin 1536) :
    out0_A_10 c i arg1 harg1 arg2 harg2 arg3 harg3 arg4 harg4 arg5 harg5 arg6 harg6 arg7 harg7 arg8 harg8 arg9 harg9
      arg10 harg10 arg11 harg11 arg12 harg12 arg13 harg13 arg14 harg14 x0 x1 x2 x3 x4 x5 x6 x7 (ix3 u r n)
      = InprojRows.qkv H A W C S 0 (512 * T + r.val) n.val := by
  unfold out0_A_10
  refine read_of_pieces _ _ _ _ (pieces10 (F := Ideal) c i arg1 harg1 arg2 harg2 arg3 harg3 arg4 harg4 arg5 harg5 arg6 harg6 arg7 harg7 arg8 harg8 arg9 harg9
      arg10 harg10 arg11 harg11 arg12 harg12 arg13 harg13 arg14 harg14 x0 x1 x2 x3 x4 x5 x6 x7)
    (cover0_A_10 (F := Ideal) c i arg1 harg1 arg2 harg2 arg3 harg3 arg4 harg4 arg5 harg5 arg6 harg6 arg7 harg7 arg8 harg8 arg9 harg9
      arg10 harg10 arg11 harg11 arg12 harg12 arg13 harg13 arg14 harg14 x0 x1 x2 x3 x4 x5 x6 x7)
    (fun y : S1x512x1536.Idx => InprojRows.qkv H A W C S 0 (512 * T + (y 1).val) (y 2).val) ?_ (ix3 u r n)
  rw [harg1.read_unread, harg2.read_unread, harg3.read_unread, harg7.read_unread, harg8.read_unread]
  exact agree10 _ (fun r n => InprojRows.qkv H A W C S 0 (512 * T + r) n) fun P r n => o.qkv_apply P 0 r n

/-- The fourth output at an index. -/
theorem out11 (s : Fin 4) (r : Fin 128) (n : Fin 1536) :
    out0_A_11 c i arg1 harg1 arg2 harg2 arg3 harg3 arg4 harg4 arg5 harg5 arg6 harg6 arg7 harg7 arg8 harg8 arg9 harg9
      arg10 harg10 arg11 harg11 arg12 harg12 arg13 harg13 arg14 harg14 x0 x1 x2 x3 x4 x5 x6 x7 (ix3 s r n)
      = InprojRows.qkv H A W C S 1 (512 * T + (4 * r.val + s.val)) n.val := by
  unfold out0_A_11
  refine read_of_pieces _ _ _ _ (pieces11 (F := Ideal) c i arg1 harg1 arg2 harg2 arg3 harg3 arg4 harg4 arg5 harg5 arg6 harg6 arg7 harg7 arg8 harg8 arg9 harg9
      arg10 harg10 arg11 harg11 arg12 harg12 arg13 harg13 arg14 harg14 x0 x1 x2 x3 x4 x5 x6 x7)
    (cover0_A_11 (F := Ideal) c i arg1 harg1 arg2 harg2 arg3 harg3 arg4 harg4 arg5 harg5 arg6 harg6 arg7 harg7 arg8 harg8 arg9 harg9
      arg10 harg10 arg11 harg11 arg12 harg12 arg13 harg13 arg14 harg14 x0 x1 x2 x3 x4 x5 x6 x7)
    (fun y : S4x128x1536.Idx => InprojRows.qkv H A W C S 1 (512 * T + (4 * (y 1).val + (y 0).val)) (y 2).val) ?_ (ix3 s r n)
  rw [harg1.read_unread, harg2.read_unread, harg3.read_unread, harg7.read_unread, harg8.read_unread]
  exact agree11 arg14 _ (fun r n => InprojRows.qkv H A W C S 1 (512 * T + r) n) fun P r n => o.qkv_apply P 1 r n

/-- The fifth output at an index. -/
theorem out12 (s : Fin 16) (r : Fin 32) (n : Fin 1536) :
    out0_A_12 c i arg1 harg1 arg2 harg2 arg3 harg3 arg4 harg4 arg5 harg5 arg6 harg6 arg7 harg7 arg8 harg8 arg9 harg9
      arg10 harg10 arg11 harg11 arg12 harg12 arg13 harg13 arg14 harg14 x0 x1 x2 x3 x4 x5 x6 x7 (ix3 s r n)
      = InprojRows.qkv H A W C S 2 (512 * T + (16 * r.val + s.val)) n.val := by
  unfold out0_A_12
  refine read_of_pieces _ _ _ _ (pieces12 (F := Ideal) c i arg1 harg1 arg2 harg2 arg3 harg3 arg4 harg4 arg5 harg5 arg6 harg6 arg7 harg7 arg8 harg8 arg9 harg9
      arg10 harg10 arg11 harg11 arg12 harg12 arg13 harg13 arg14 harg14 x0 x1 x2 x3 x4 x5 x6 x7)
    (cover0_A_12 (F := Ideal) c i arg1 harg1 arg2 harg2 arg3 harg3 arg4 harg4 arg5 harg5 arg6 harg6 arg7 harg7 arg8 harg8 arg9 harg9
      arg10 harg10 arg11 harg11 arg12 harg12 arg13 harg13 arg14 harg14 x0 x1 x2 x3 x4 x5 x6 x7)
    (fun y : S16x32x1536.Idx => InprojRows.qkv H A W C S 2 (512 * T + (16 * (y 1).val + (y 0).val)) (y 2).val) ?_ (ix3 s r n)
  rw [harg1.read_unread, harg2.read_unread, harg3.read_unread, harg7.read_unread, harg8.read_unread]
  exact agree12 arg14 _ (fun r n => InprojRows.qkv H A W C S 2 (512 * T + r) n) fun P r n => o.qkv_apply P 2 r n

end Outs

end Cert.InprojPoint

end
-- ==== Proof.InprojWhole.lean ====
/- The input projection's whole arrays: every point's blocks in the layer's own terms, then the five arrays. -/
module

public import proofs.«01_k».proof.Proof.InprojPoint
public import Idealize.ShloMosaic.Lib.Pipeline.ValueKit

@[expose] public section

set_option maxRecDepth 16384

noncomputable section

namespace Cert.InprojWhole

open Cert.InprojIdeal Cert.InprojIdeal.Gen Cert.InprojTile Cert.InprojPoint Idealize.ShloMosaic Idealize.SL.Sem

variable (m : (ℓ : Loc nD τ sig) → Buf (Elt Ideal) ℓ) (c : Dev nD)

/-- The states, by row and feature. -/
def H : ℕ → ℕ → EReal := FfnRows.tab (a := 16384) (b := 1024) (m ((c.tc : Thread nD τ).loc main_arg0))
/-- The normalisation's weight. -/
def A : ℕ → EReal := FfnRows.tab (a := 1) (b := 1024) (m ((c.tc : Thread nD τ).loc main_arg1)) 0
/-- The joined weight. -/
def W : ℕ → ℕ → EReal := FfnRows.tab (a := 1024) (b := 9728) (m ((c.tc : Thread nD τ).loc main_arg2))
/-- The gate's first weight. -/
def L : ℕ → ℕ → EReal := FfnRows.tab (a := 1024) (b := 128) (m ((c.tc : Thread nD τ).loc main_arg3))
/-- The gate's second weight. -/
def G : ℕ → ℕ → EReal := FfnRows.tab (a := 128) (b := 512) (m ((c.tc : Thread nD τ).loc main_arg4))
/-- The gate's offset. -/
def B : ℕ → EReal := FfnRows.tab (a := 1) (b := 512) (m ((c.tc : Thread nD τ).loc main_arg5)) 0
/-- The cosines. -/
def C : ℕ → ℕ → EReal := FfnRows.tab (a := 16384) (b := 16) (m ((c.tc : Thread nD τ).loc main_arg6))
/-- The sines. -/
def S : ℕ → ℕ → EReal := FfnRows.tab (a := 16384) (b := 16) (m ((c.tc : Thread nD τ).loc main_arg7))

/-- The states' window moves along the rows. -/
theorem ix_0 : ∀ t : Fin cfg0.N, win0_0.index t = ![t.val, 0] := (by decide +kernel : ∀ t : Fin grid0.N, _)
/-- The normalisation's weight is one block. -/
theorem ix_1 : ∀ t : Fin cfg0.N, win0_1.index t = ![0, 0] := (by decide +kernel : ∀ t : Fin grid0.N, _)
/-- The joined weight is one block. -/
theorem ix_2 : ∀ t : Fin cfg0.N, win0_2.index t = ![0, 0] := (by decide +kernel : ∀ t : Fin grid0.N, _)
/-- The gate's first weight is one block. -/
theorem ix_3 : ∀ t : Fin cfg0.N, win0_3.index t = ![0, 0] := (by decide +kernel : ∀ t : Fin grid0.N, _)
/-- The gate's second weight is one block. -/
theorem ix_4 : ∀ t : Fin cfg0.N, win0_4.index t = ![0, 0] := (by decide +kernel : ∀ t : Fin grid0.N, _)
/-- The gate's offset is one block. -/
theorem ix_5 : ∀ t : Fin cfg0.N, win0_5.index t = ![0, 0] := (by decide +kernel : ∀ t : Fin grid0.N, _)
/-- The first factors' window moves along the rows. -/
theorem ix_6 : ∀ t : Fin cfg0.N, win0_6.index t = ![t.val, 0] := (by decide +kernel : ∀ t : Fin grid0.N, _)
/-- The second factors' window moves along the rows. -/
theorem ix_7 : ∀ t : Fin cfg0.N, win0_7.index t = ![t.val, 0] := (by decide +kernel : ∀ t : Fin grid0.N, _)
/-- The first output's window moves along the rows. -/
theorem ix_8 : ∀ t : Fin cfg0.N, win0_8.index t = ![t.val, 0] := (by decide +kernel : ∀ t : Fin grid0.N, _)
/-- The second output's window moves along the rows. -/
theorem ix_9 : ∀ t : Fin cfg0.N, win0_9.index t = ![t.val, 0] := (by decide +kernel : ∀ t : Fin grid0.N, _)
/-- The third output's window moves along the rows. -/
theorem ix_10 : ∀ t : Fin cfg0.N, win0_10.index t = ![0, t.val, 0] := (by decide +kernel : ∀ t : Fin grid0.N, _)
/-- The fourth output's window moves along the streams. -/
theorem ix_11 : ∀ t : Fin cfg0.N, win0_11.index t = ![0, t.val, 0] := (by decide +kernel : ∀ t : Fin grid0.N, _)
/-- The fifth output's window moves along the streams. -/
theorem ix_12 : ∀ t : Fin cfg0.N, win0_12.index t = ![0, t.val, 0] := (by decide +kernel : ∀ t : Fin grid0.N, _)

/-- A point's number is below 32. -/
theorem lt32 (t : Fin cfg0.N) : t.val < 32 := t.isLt.trans_eq N_0

/-! ## The factors the lines before the kernel write -/

/-- The cosines twice, then ones. -/
def cosT (x : FVec Ideal S16384x16 .f32) : FVec Ideal S16384x128 .f32 :=
  concatenate S16384x128 1 [⟨S16384x16, x⟩, ⟨S16384x16, x⟩,
    ⟨S16384x96, broadcastInDim S16384x96 ![] bcast_S_S16384x96 (constant S_ .f32 0x3F800000#32)⟩]
    concatenates_S16384x16_S16384x16_S16384x96_S16384x128_d1

/-- The sines negated, the sines, then zeros. -/
def sinT (x : FVec Ideal S16384x16 .f32) : FVec Ideal S16384x128 .f32 :=
  concatenate S16384x128 1 [⟨S16384x16, Host.negf x⟩, ⟨S16384x16, x⟩,
    ⟨S16384x96, mulf (broadcastInDim S16384x96 ![] bcast_S_S16384x96 (constant S_ .f32 0x00000000#32))
      (broadcastInDim S16384x96 ![] bcast_S_S16384x96 (constant S_ .f32 0x3F800000#32))⟩]
    concatenates_S16384x16_S16384x16_S16384x96_S16384x128_d1

/-- The first factors as the kernel finds them. -/
theorem V_cos : V m c main_v1 = cosT (m ((c.tc : Thread nD τ).loc main_arg6)) := by sl_kernel_rfl

/-- The second factors as the kernel finds them. -/
theorem V_sin : V m c main_v5 = sinT (m ((c.tc : Thread nD τ).loc main_arg7)) := by sl_kernel_rfl

/-- The first factors at an index. -/
theorem cosT_apply (x : FVec Ideal S16384x16 .f32) (C : ℕ → EReal) (t : Fin 16384) (hC : ∀ l : Fin 16, x (ValueIdx.ix2 t l) = C l.val)
    (l : Fin 128) : cosT x (ValueIdx.ix2 t l) = InprojRows.wideC C l.val := by
  have hl := l.isLt
  unfold cosT InprojRows.wideC
  by_cases h1 : l.val < 16
  · rw [if_pos h1]
    exact (InprojRows.joined _ _ 0 (by show 0 < 3; decide) _ rfl 0 rfl t l (⟨l.val, h1⟩ : Fin 16) (by show 0 + l.val = l.val; omega)).trans (hC _)
  rw [if_neg h1]
  by_cases h2 : l.val < 32
  · rw [if_pos h2]
    exact (InprojRows.joined _ _ 1 (by show 1 < 3; decide) _ rfl 16 rfl t l (⟨l.val - 16, by omega⟩ : Fin 16)
      (by show 16 + (l.val - 16) = l.val; omega)).trans (hC _)
  · rw [if_neg h2]
    exact (InprojRows.joined _ _ 2 (by show 2 < 3; decide) _ rfl 32 rfl t l (⟨l.val - 32, by omega⟩ : Fin 96)
      (by show 32 + (l.val - 32) = l.val; omega)).trans rfl

/-- The second factors at an index. -/
theorem sinT_apply (x : FVec Ideal S16384x16 .f32) (S : ℕ → EReal) (t : Fin 16384) (hS : ∀ l : Fin 16, x (ValueIdx.ix2 t l) = S l.val)
    (l : Fin 128) : sinT x (ValueIdx.ix2 t l) = InprojRows.wideS S l.val := by
  have hl := l.isLt
  unfold sinT InprojRows.wideS
  by_cases h1 : l.val < 16
  · rw [if_pos h1]
    exact (InprojRows.joined _ _ 0 (by show 0 < 3; decide) _ rfl 0 rfl t l (⟨l.val, h1⟩ : Fin 16) (by show 0 + l.val = l.val; omega)).trans
      (congrArg (fun z : EReal => -z) (hS _))
  rw [if_neg h1]
  by_cases h2 : l.val < 32
  · rw [if_pos h2]
    exact (InprojRows.joined _ _ 1 (by show 1 < 3; decide) _ rfl 16 rfl t l (⟨l.val - 16, by omega⟩ : Fin 16)
      (by show 16 + (l.val - 16) = l.val; omega)).trans (hS _)
  · rw [if_neg h2]
    refine (InprojRows.joined _ _ 2 (by show 2 < 3; decide) _ rfl 32 rfl t l (⟨l.val - 32, by omega⟩ : Fin 96)
      (by show 32 + (l.val - 32) = l.val; omega)).trans ?_
    show Ideal.ofBits .f32 0x00000000#32 * FfnRows.one = _
    rw [Ideal.ofBits_zero_f32]

/-! ## The blocks -/

/-- The states' block at an index. -/
theorem blk_0 (t : Fin cfg0.N) (r : Fin 512) (k : Fin 1024) :
    iblk m c 0 t (ValueIdx.ix2 r k) = H m c (512 * t.val + r.val) k.val := by
  have ht := lt32 t
  refine Eq.trans ?_ (FfnRows.tab_in _ (⟨512 * t.val + r.val, by omega⟩ : Fin 16384) k _ _ rfl rfl)
  have e := ix_0 t
  blk_simp [iblk]
  refine Eq.trans (congrArg (V m c main_arg0) ?_) (congrFun (V_main_arg0 m c) _)
  blk_ext [e]
  exact congrArg (· + r.val) (Nat.mul_comm _ _)

/-- The normalisation's weight at an index. -/
theorem blk_1 (t : Fin cfg0.N) (k : Fin 1024) :
    iblk m c 1 t (ValueIdx.ix2 (0 : Fin 1) k) = A m c k.val := by
  refine Eq.trans ?_ (FfnRows.tab_in _ (0 : Fin 1) k _ _ rfl rfl)
  have e := ix_1 t
  blk_simp [iblk]
  refine Eq.trans (congrArg (V m c main_arg1) ?_) (congrFun (V_main_arg1 m c) _)
  blk_ext [e]

/-- The joined weight at an index. -/
theorem blk_2 (t : Fin cfg0.N) (k : Fin 1024) (n : Fin 9728) :
    iblk m c 2 t (ValueIdx.ix2 k n) = W m c k.val n.val := by
  refine Eq.trans ?_ (FfnRows.tab_in _ k n _ _ rfl rfl)
  have e := ix_2 t
  blk_simp [iblk]
  refine Eq.trans (congrArg (V m c main_arg2) ?_) (congrFun (V_main_arg2 m c) _)
  blk_ext [e]

/-- The gate's first weight at an index. -/
theorem blk_3 (t : Fin cfg0.N) (k : Fin 1024) (n : Fin 128) :
    iblk m c 3 t (ValueIdx.ix2 k n) = L m c k.val n.val := by
  refine Eq.trans ?_ (FfnRows.tab_in _ k n _ _ rfl rfl)
  have e := ix_3 t
  blk_simp [iblk]
  refine Eq.trans (congrArg (V m c main_arg3) ?_) (congrFun (V_main_arg3 m c) _)
  blk_ext [e]

/-- The gate's second weight at an index. -/
theorem blk_4 (t : Fin cfg0.N) (k : Fin 128) (n : Fin 512) :
    iblk m c 4 t (ValueIdx.ix2 k n) = G m c k.val n.val := by
  refine Eq.trans ?_ (FfnRows.tab_in _ k n _ _ rfl rfl)
  have e := ix_4 t
  blk_simp [iblk]
  refine Eq.trans (congrArg (V m c main_arg4) ?_) (congrFun (V_main_arg4 m c) _)
  blk_ext [e]

/-- The gate's offset at an index. -/
theorem blk_5 (t : Fin cfg0.N) (n : Fin 512) :
    iblk m c 5 t (ValueIdx.ix2 (0 : Fin 1) n) = B m c n.val := by
  refine Eq.trans ?_ (FfnRows.tab_in _ (0 : Fin 1) n _ _ rfl rfl)
  have e := ix_5 t
  blk_simp [iblk]
  refine Eq.trans (congrArg (V m c main_arg5) ?_) (congrFun (V_main_arg5 m c) _)
  blk_ext [e]

/-- The first factors' block at an index. -/
theorem blk_6 (t : Fin cfg0.N) (r : Fin 512) (l : Fin 128) :
    iblk m c 6 t (ValueIdx.ix2 r l) = InprojRows.wideC (C m c (512 * t.val + r.val)) l.val := by
  have ht := lt32 t
  refine Eq.trans ?_ (cosT_apply (m ((c.tc : Thread nD τ).loc main_arg6)) (C m c (512 * t.val + r.val))
    (⟨512 * t.val + r.val, by omega⟩ : Fin 16384) (fun l => FfnRows.tab_in _ _ l _ _ rfl rfl) l)
  have e := ix_6 t
  blk_simp [iblk]
  refine Eq.trans (congrArg (V m c main_v1) ?_) (congrFun (V_cos m c) _)
  blk_ext [e]
  exact congrArg (· + r.val) (Nat.mul_comm _ _)

/-- The second factors' block at an index. -/
theorem blk_7 (t : Fin cfg0.N) (r : Fin 512) (l : Fin 128) :
    iblk m c 7 t (ValueIdx.ix2 r l) = InprojRows.wideS (S m c (512 * t.val + r.val)) l.val := by
  have ht := lt32 t
  refine Eq.trans ?_ (sinT_apply (m ((c.tc : Thread nD τ).loc main_arg7)) (S m c (512 * t.val + r.val))
    (⟨512 * t.val + r.val, by omega⟩ : Fin 16384) (fun l => FfnRows.tab_in _ _ l _ _ rfl rfl) l)
  have e := ix_7 t
  blk_simp [iblk]
  refine Eq.trans (congrArg (V m c main_v5) ?_) (congrFun (V_sin m c) _)
  blk_ext [e]
  exact congrArg (· + r.val) (Nat.mul_comm _ _)

/-- A point's operands. -/
theorem operands (t : Fin cfg0.N) : Operands t.val (H m c) (A m c) (W m c) (L m c) (G m c) (B m c) (C m c) (S m c)
    (iblk m c 0 t) (iblk m c 1 t) (iblk m c 2 t) (iblk m c 3 t) (iblk m c 4 t) (iblk m c 5 t) (iblk m c 6 t) (iblk m c 7 t) :=
  ⟨blk_0 m c t, blk_1 m c t, blk_2 m c t, blk_3 m c t, blk_4 m c t, blk_5 m c t, blk_6 m c t, blk_7 m c t⟩

/-! ## The five arrays -/

/-- A three-axis index from its coordinates. -/
theorem eta3 {a b d : ℕ} (i : (⟨3, ![a, b, d]⟩ : Shape).Idx) : i = ValueIdx.ix3 (i 0) (i 1) (i 2) := by
  funext z
  match z with
  | ⟨0, _⟩ => rfl
  | ⟨1, _⟩ => rfl
  | ⟨2, _⟩ => rfl

/-- A matrix index from its coordinates. -/
theorem eta2 {a b : ℕ} (i : (⟨2, ![a, b]⟩ : Shape).Idx) : i = ValueIdx.ix2 (i 0) (i 1) := by
  funext z
  match z with
  | ⟨0, _⟩ => rfl
  | ⟨1, _⟩ => rfl

/-- The first array. -/
def zG : FVec Ideal S16384x5120 .bf16 := fun i => InprojRows.zrow (H m c) (A m c) (W m c) (i 0).val (i 1).val
/-- The second array. -/
def laG : FVec Ideal S16384x512 .f32 := fun i => InprojRows.decay (H m c) (A m c) (L m c) (G m c) (B m c) (i 0).val (i 1).val
/-- Queries, keys and values by group, row and column. -/
def Q (g t n : ℕ) : EReal := InprojRows.qkv (H m c) (A m c) (W m c) (C m c) (S m c) g t n
/-- The third array. -/
def g0G : FVec Ideal S1x16384x1536 .bf16 := fun i => Q m c 0 (i 1).val (i 2).val
/-- The fourth array: rows dealt out to four streams. -/
def g1G : FVec Ideal S4x4096x1536 .bf16 := fun i => Q m c 1 (4 * (i 1).val + (i 0).val) (i 2).val
/-- The fifth array: rows dealt out to sixteen streams. -/
def g2G : FVec Ideal S16x1024x1536 .bf16 := fun i => Q m c 2 (16 * (i 1).val + (i 0).val) (i 2).val

/-! ## A point's outputs -/

/-- The first output's block of a point. -/
theorem at_8 (t : Fin cfg0.N) (r : Fin 512) (n : Fin 5120) :
    (outsAt0 m c t).1 (ValueIdx.ix2 r n) = InprojRows.zrow (H m c) (A m c) (W m c) (512 * t.val + r.val) n.val := by
  unfold outsAt0
  dsimp only
  exact out8 c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) scM0_0
    (Memref.isWhole_whole _) (iblk m c 0 t) (iblk m c 1 t) (iblk m c 2 t) (iblk m c 3 t) (iblk m c 4 t) (iblk m c 5 t) (iblk m c 6 t) (iblk m c 7 t)
    (operands m c t) r n

/-- The second output's block of a point. -/
theorem at_9 (t : Fin cfg0.N) (r n : Fin 512) :
    (outsAt0 m c t).2.1 (ValueIdx.ix2 r n) = InprojRows.decay (H m c) (A m c) (L m c) (G m c) (B m c) (512 * t.val + r.val) n.val := by
  unfold outsAt0
  dsimp only
  exact out9 c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) scM0_0
    (Memref.isWhole_whole _) (iblk m c 0 t) (iblk m c 1 t) (iblk m c 2 t) (iblk m c 3 t) (iblk m c 4 t) (iblk m c 5 t) (iblk m c 6 t) (iblk m c 7 t)
    (operands m c t) r n

/-- The third output's block of a point. -/
theorem at_10 (t : Fin cfg0.N) (u : Fin 1) (r : Fin 512) (n : Fin 1536) :
    (outsAt0 m c t).2.2.1 (ValueIdx.ix3 u r n) = Q m c 0 (512 * t.val + r.val) n.val := by
  unfold outsAt0
  dsimp only
  exact out10 c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) scM0_0
    (Memref.isWhole_whole _) (iblk m c 0 t) (iblk m c 1 t) (iblk m c 2 t) (iblk m c 3 t) (iblk m c 4 t) (iblk m c 5 t) (iblk m c 6 t) (iblk m c 7 t)
    (operands m c t) u r n

/-- The fourth output's block of a point. -/
theorem at_11 (t : Fin cfg0.N) (s : Fin 4) (r : Fin 128) (n : Fin 1536) :
    (outsAt0 m c t).2.2.2.1 (ValueIdx.ix3 s r n) = Q m c 1 (512 * t.val + (4 * r.val + s.val)) n.val := by
  unfold outsAt0
  dsimp only
  exact out11 c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) scM0_0
    (Memref.isWhole_whole _) (iblk m c 0 t) (iblk m c 1 t) (iblk m c 2 t) (iblk m c 3 t) (iblk m c 4 t) (iblk m c 5 t) (iblk m c 6 t) (iblk m c 7 t)
    (operands m c t) s r n

/-- The fifth output's block of a point. -/
theorem at_12 (t : Fin cfg0.N) (s : Fin 16) (r : Fin 32) (n : Fin 1536) :
    (outsAt0 m c t).2.2.2.2 (ValueIdx.ix3 s r n) = Q m c 2 (512 * t.val + (16 * r.val + s.val)) n.val := by
  unfold outsAt0
  dsimp only
  exact out12 c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) scM0_0
    (Memref.isWhole_whole _) (iblk m c 0 t) (iblk m c 1 t) (iblk m c 2 t) (iblk m c 3 t) (iblk m c 4 t) (iblk m c 5 t) (iblk m c 6 t) (iblk m c 7 t)
    (operands m c t) s r n

/-- What the kernel leaves in its first output. -/
theorem final_8 : (dats m 0 c).arrAt 8 cfg0.N = zG m c := by
  refine (dats m 0 c).arrAt_eq_of_covers 8 _ (by decide +kernel) fun t hf y => ?_
  have e := ix_8 t
  blk_simp
  rw [after0_8]
  refine ((congrArg _ (eta2 (a := 512) (b := 5120) y)).trans (at_8 m c t (y 0) (y 1))).trans ?_
  unfold zG
  congr 1
  · blk_simp [e]
    omega
  · blk_simp [e]

/-- What the kernel leaves in its second output. -/
theorem final_9 : (dats m 0 c).arrAt 9 cfg0.N = laG m c := by
  refine (dats m 0 c).arrAt_eq_of_covers 9 _ (by decide +kernel) fun t hf y => ?_
  have e := ix_9 t
  blk_simp
  rw [after0_9]
  refine ((congrArg _ (eta2 (a := 512) (b := 512) y)).trans (at_9 m c t (y 0) (y 1))).trans ?_
  unfold laG
  congr 1
  · blk_simp [e]
    omega
  · blk_simp [e]

/-- What the kernel leaves in its third output. -/
theorem final_10 : (dats m 0 c).arrAt 10 cfg0.N = g0G m c := by
  refine (dats m 0 c).arrAt_eq_of_covers 10 _ (by decide +kernel) fun t hf y => ?_
  have e := ix_10 t
  blk_simp
  rw [after0_10]
  refine ((congrArg _ (eta3 (a := 1) (b := 512) (d := 1536) y)).trans (at_10 m c t (y 0) (y 1) (y 2))).trans ?_
  unfold g0G Q
  congr 1
  · blk_simp [e]
    omega
  · blk_simp [e]

/-- What the kernel leaves in its fourth output. -/
theorem final_11 : (dats m 0 c).arrAt 11 cfg0.N = g1G m c := by
  refine (dats m 0 c).arrAt_eq_of_covers 11 _ (by decide +kernel) fun t hf y => ?_
  have e := ix_11 t
  blk_simp
  rw [after0_11]
  refine ((congrArg _ (eta3 (a := 4) (b := 128) (d := 1536) y)).trans (at_11 m c t (y 0) (y 1) (y 2))).trans ?_
  unfold g1G Q
  congr 1
  · blk_simp [e]
    omega
  · blk_simp [e]

/-- What the kernel leaves in its fifth output. -/
theorem final_12 : (dats m 0 c).arrAt 12 cfg0.N = g2G m c := by
  refine (dats m 0 c).arrAt_eq_of_covers 12 _ (by decide +kernel) fun t hf y => ?_
  have e := ix_12 t
  blk_simp
  rw [after0_12]
  refine ((congrArg _ (eta3 (a := 16) (b := 32) (d := 1536) y)).trans (at_12 m c t (y 0) (y 1) (y 2))).trans ?_
  unfold g2G Q
  congr 1
  · blk_simp [e]
    omega
  · blk_simp [e]

end Cert.InprojWhole

end
-- ==== Proof.InprojRef.lean ====
/- The input projection's reference read index by index: its steps named one by one, then each at an index over the extended
   reals, ending in the rows of InprojRows.lean. -/
module

public import proofs.«01_k».proof.Proof.Gen.InprojRefIdeal.Run
public import proofs.«01_k».proof.Proof.InprojRows
public import proofs.«01_k».proof.Proof.FfnRef
public import Idealize.ShloMosaic.Lib.ValueLayout
public import Idealize.ShloMosaic.Lib.ValueLayoutCasts
public import Idealize.ShloMosaic.Lib.StackMember

@[expose] public section

noncomputable section

namespace Cert.InprojRef

open Cert.InprojRefIdeal Cert.InprojRefIdeal.Gen Idealize.ShloMosaic Idealize.ShloMosaic.ValueIdx Idealize.ShloMosaic.StackMember Idealize.SL.Sem

section Def
variable {F : FTy → Type} [FloatOps F]

/-- The normalised rows times the joined weight. -/
def uR (h : FVec F S16384x1024 .f32) (a : FVec F S1x1024 .f32) (w : FVec F S1024x9728 .bf16) : FVec F S16384x9728 .f32 :=
  Host.dotGeneral dot_S16384x1024_S1024x9728_S16384x9728_1_0_0_1_n_n none (FfnRef.normR h a) (extf .f32 w bitsLt_bf16_f32)

/-- A number everywhere. -/
def all512 (b : BitVec 32) : FVec F S16384x512 .f32 := broadcastInDim S16384x512 ![] bcast_S_S16384x512 (constant S_ .f32 b)

/-- One everywhere. -/
def ones : FVec F S16384x2048 .f32 := broadcastInDim S16384x2048 ![] bcast_S_S16384x2048 (constant S_ .f32 0x3F800000#32)

/-- The logistic function written out. -/
def sigR (x : FVec F S16384x2048 .f32) : FVec F S16384x2048 .f32 := Host.divf ones (addf ones (Host.exp (Host.negf x)))

/-- The first result. -/
def zR (u : FVec F S16384x9728 .f32) : FVec F S16384x5120 .bf16 :=
  truncf .bf16 (concatenate S16384x5120 1
    [⟨S16384x512, mulf (extractStridedSlice S16384x512 ![0, 0] u slices_S16384x9728_S16384x512_0_0) (all512 0x3DB504F3#32)⟩,
     ⟨S16384x2560, extractStridedSlice S16384x2560 ![0, 512] u slices_S16384x9728_S16384x2560_0_512⟩,
     ⟨S16384x2048, sigR (extractStridedSlice S16384x2048 ![0, 3072] u slices_S16384x9728_S16384x2048_0_3072)⟩]
    concatenates_S16384x512_S16384x2560_S16384x2048_S16384x5120_d1) bitsLt_bf16_f32

/-- The gate before its logarithm. -/
def gateR (h : FVec F S16384x1024 .f32) (a : FVec F S1x1024 .f32) (l : FVec F S1024x128 .bf16) (g : FVec F S128x512 .bf16)
    (b : FVec F S1x512 .f32) : FVec F S16384x512 .f32 :=
  addf (Host.dotGeneral dot_S16384x128_S128x512_S16384x512_1_0_0_1_n_n none
      (Host.dotGeneral dot_S16384x1024_S1024x128_S16384x128_1_0_0_1_n_n none (FfnRef.normR h a) (extf .f32 l bitsLt_bf16_f32))
      (extf .f32 g bitsLt_bf16_f32))
    (broadcastInDim S16384x512 ![0, 1] bcast_S1x512_S16384x512_0_1 b)

/-- The softplus of every entry. -/
def softR (x : FVec F S16384x512 .f32) : FVec F S16384x512 .f32 :=
  select (cmpf .une (subf x (all512 0x00000000#32)) (subf x (all512 0x00000000#32))) (addf x (all512 0x00000000#32))
    (addf (maximumf x (all512 0x00000000#32)) (Host.log1p (Host.exp (Host.negf (Host.absf (subf x (all512 0x00000000#32)))))))

/-- The second result. -/
def decayR (x : FVec F S16384x512 .f32) : FVec F S16384x512 .f32 :=
  Host.divf (Host.negf (softR (Host.negf x))) (all512 0x41800000#32)

/-- Columns of the product by heads. -/
def headsR (o : ℕ) (h : S16384x9728.Slices ![0, o] S16384x512) (u : FVec F S16384x9728 .f32) : FVec F S16384x4x128 .f32 :=
  shapeCast S16384x4x128 (extractStridedSlice S16384x512 ![0, o] u h) shapeCasts_S16384x512_S16384x4x128

/-- A factor of every row, repeated over heads. -/
def over (x : FVec F S16384x16 .f32) : FVec F S16384x4x16 .f32 :=
  broadcastInDim S16384x4x16 ![0, 1, 2] bcast_S16384x1x16_S16384x4x16_0_1_2
    (broadcastInDim S16384x1x16 ![0, 2] bcast_S16384x16_S16384x1x16_0_2 x)

/-- The first sixteen lanes. -/
def lo (a : FVec F S16384x4x128 .f32) : FVec F S16384x4x16 .f32 :=
  extractStridedSlice S16384x4x16 ![0, 0, 0] a slices_S16384x4x128_S16384x4x16_0_0_0

/-- The next sixteen lanes. -/
def hi (a : FVec F S16384x4x128 .f32) : FVec F S16384x4x16 .f32 :=
  extractStridedSlice S16384x4x16 ![0, 0, 16] a slices_S16384x4x128_S16384x4x16_0_0_16

/-- Every head rotated. -/
def ropeR (co si : FVec F S16384x16 .f32) (a : FVec F S16384x4x128 .f32) : FVec F S16384x4x128 .f32 :=
  concatenate S16384x4x128 2
    [⟨S16384x4x16, subf (mulf (lo a) (over co)) (mulf (hi a) (over si))⟩,
     ⟨S16384x4x16, addf (mulf (hi a) (over co)) (mulf (lo a) (over si))⟩,
     ⟨S16384x4x96, extractStridedSlice S16384x4x96 ![0, 0, 32] a slices_S16384x4x128_S16384x4x96_0_0_32⟩]
    concatenates_S16384x4x16_S16384x4x16_S16384x4x96_S16384x4x128_d2

/-- Heads beside each other again. -/
def flatR (a : FVec F S16384x4x128 .f32) : FVec F S16384x512 .f32 := shapeCast S16384x512 a shapeCasts_S16384x4x128_S16384x512

/-- Queries, keys and values of one group. -/
def qkvR (co si : FVec F S16384x16 .f32) (q k v : FVec F S16384x4x128 .f32) : FVec F S16384x1536 .f32 :=
  concatenate S16384x1536 1
    [⟨S16384x512, flatR (mulf (ropeR co si q) (broadcastInDim S16384x4x128 ![] bcast_S_S16384x4x128 (constant S_ .f32 0x3DB504F3#32)))⟩,
     ⟨S16384x512, flatR (ropeR co si k)⟩, ⟨S16384x512, flatR v⟩] concatenates_S16384x512_S16384x512_S16384x512_S16384x1536_d1

/-- The first group's queries, keys and values. -/
def qkv0 (co si : FVec F S16384x16 .f32) (u : FVec F S16384x9728 .f32) : FVec F S16384x1536 .f32 :=
  qkvR co si (headsR 5120 slices_S16384x9728_S16384x512_0_5120 u) (headsR 6656 slices_S16384x9728_S16384x512_0_6656 u)
    (headsR 8192 slices_S16384x9728_S16384x512_0_8192 u)

/-- The second group's. -/
def qkv1 (co si : FVec F S16384x16 .f32) (u : FVec F S16384x9728 .f32) : FVec F S16384x1536 .f32 :=
  qkvR co si (headsR 5632 slices_S16384x9728_S16384x512_0_5632 u) (headsR 7168 slices_S16384x9728_S16384x512_0_7168 u)
    (headsR 8704 slices_S16384x9728_S16384x512_0_8704 u)

/-- The third group's. -/
def qkv2 (co si : FVec F S16384x16 .f32) (u : FVec F S16384x9728 .f32) : FVec F S16384x1536 .f32 :=
  qkvR co si (headsR 6144 slices_S16384x9728_S16384x512_0_6144 u) (headsR 7680 slices_S16384x9728_S16384x512_0_7680 u)
    (headsR 9216 slices_S16384x9728_S16384x512_0_9216 u)

/-- The third result: one stream. -/
def str0 (x : FVec F S16384x1536 .f32) : FVec F S1x16384x1536 .bf16 :=
  truncf .bf16 (transpose S1x16384x1536 [1, 0, 2] (shapeCast S16384x1x1536 x shapeCasts_S16384x1536_S16384x1x1536)
    transposes_S16384x1x1536_S1x16384x1536_1_0_2) bitsLt_bf16_f32

/-- The fourth result: four streams. -/
def str1 (x : FVec F S16384x1536 .f32) : FVec F S4x4096x1536 .bf16 :=
  truncf .bf16 (transpose S4x4096x1536 [1, 0, 2] (shapeCast S4096x4x1536 x shapeCasts_S16384x1536_S4096x4x1536)
    transposes_S4096x4x1536_S4x4096x1536_1_0_2) bitsLt_bf16_f32

/-- The fifth result: sixteen streams. -/
def str2 (x : FVec F S16384x1536 .f32) : FVec F S16x1024x1536 .bf16 :=
  truncf .bf16 (transpose S16x1024x1536 [1, 0, 2] (shapeCast S1024x16x1536 x shapeCasts_S16384x1536_S1024x16x1536)
    transposes_S1024x16x1536_S16x1024x1536_1_0_2) bitsLt_bf16_f32

end Def

section Steps
variable {F : FTy → Type} [FloatOps F] (m : (ℓ : Loc nD τ sig) → Buf (Elt F) ℓ) (c : Dev nD)

/-- The product of the reference's arguments. -/
def uM : FVec F S16384x9728 .f32 := uR (m ((c.tc : Thread nD τ).loc main_arg0)) (m ((c.tc : Thread nD τ).loc main_arg1))
  (m ((c.tc : Thread nD τ).loc main_arg2))

/-- The queries, keys and values of the reference's arguments, one group after another. -/
def qkvM (g : ℕ) : FVec F S16384x1536 .f32 :=
  match g with
  | 0 => qkv0 (m ((c.tc : Thread nD τ).loc main_arg6)) (m ((c.tc : Thread nD τ).loc main_arg7)) (uM m c)
  | 1 => qkv1 (m ((c.tc : Thread nD τ).loc main_arg6)) (m ((c.tc : Thread nD τ).loc main_arg7)) (uM m c)
  | _ => qkv2 (m ((c.tc : Thread nD τ).loc main_arg6)) (m ((c.tc : Thread nD τ).loc main_arg7)) (uM m c)

/-- The gate of the reference's arguments. -/
def gateM : FVec F S16384x512 .f32 := gateR (m ((c.tc : Thread nD τ).loc main_arg0)) (m ((c.tc : Thread nD τ).loc main_arg1))
  (m ((c.tc : Thread nD τ).loc main_arg3)) (m ((c.tc : Thread nD τ).loc main_arg4)) (m ((c.tc : Thread nD τ).loc main_arg5))

/-- The reference's run, its five results as named here, its arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v176) = zR (uM m c)
      ∧ r.2.mem ((c.tc : Thread nD τ).loc main_v34) = decayR (gateM m c)
      ∧ r.2.mem ((c.tc : Thread nD τ).loc main_v81) = str0 (qkvM m c 0)
      ∧ r.2.mem ((c.tc : Thread nD τ).loc main_v128) = str1 (qkvM m c 1)
      ∧ r.2.mem ((c.tc : Thread nD τ).loc main_v175) = str2 (qkvM m c 2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1, (h c).2.1, (h c).2.2.1, (h c).2.2.2.1, (h c).2.2.2.2.1, (h c).2.2.2.2.2⟩)
    (Value.run m ρ)

end Steps

/-! ## At an index, over the extended reals -/

/-- A number everywhere, at an index. -/
theorem all512_apply (b : BitVec 32) (i : S16384x512.Idx) : all512 (F := Ideal) b i = Ideal.ofBits .f32 b := rfl

/-- The product at an index. -/
theorem uR_apply (h : FVec Ideal S16384x1024 .f32) (a : FVec Ideal S1x1024 .f32) (w : FVec Ideal S1024x9728 .bf16)
    (H : ℕ → ℕ → EReal) (A : ℕ → EReal) (W : ℕ → ℕ → EReal) (hh : ∀ t k, h (ix2 t k) = H t.val k.val)
    (ha : ∀ k, a (ix2 (0 : Fin 1) k) = A k.val) (hw : ∀ k n, w (ix2 k n) = W k.val n.val) (t : Fin 16384) (n : Fin 9728) :
    uR h a w (ix2 t n) = FfnRows.up H A W t.val n.val := by
  unfold uR
  refine (dotGeneral_plain_apply none (FfnRef.normR h a) (extf .f32 w bitsLt_bf16_f32) t n).trans ?_
  refine Finset.sum_congr rfl fun k _ => ?_
  rw [FfnRef.normR_apply h a t (H t.val) A (hh t) ha]
  exact congrArg _ (hw k n)

/-- The logistic function written out, at an index. -/
theorem sigR_apply (x : FVec Ideal S16384x2048 .f32) (i : S16384x2048.Idx) : sigR x i = Ideal.logistic (x i) :=
  InprojRows.logistic_eq (x i)

/-- The first result at an index. -/
theorem zR_apply (u : FVec Ideal S16384x9728 .f32) (U : ℕ → ℕ → EReal) (hu : ∀ t n, u (ix2 t n) = U t.val n.val)
    (t : Fin 16384) (n : Fin 5120) : zR u (ix2 t n)
      = if n.val < 512 then U t.val n.val * InprojRows.scale else if n.val < 3072 then U t.val n.val
        else Ideal.logistic (U t.val n.val) := by
  have hn := n.isLt
  have cut : ∀ {b : ℕ} (o : ℕ) (hs : S16384x9728.Slices ![0, o] ⟨2, ![16384, b]⟩) (l : Fin b) (q : Fin 9728), q.val = o + l.val →
      extractStridedSlice ⟨2, ![16384, b]⟩ ![0, o] u hs (ix2 t l) = U t.val q.val := fun o hs l q hq =>
    (extractStridedSlice_apply _ _ _ _ (ix2 t q) fun z => by
      match z with
      | ⟨0, _⟩ => show t.val = 0 + t.val; omega
      | ⟨1, _⟩ => exact hq).trans (hu t q)
  unfold zR
  rw [truncf_apply]
  by_cases h1 : n.val < 512
  · rw [if_pos h1]
    refine (InprojRows.joined _ _ 0 (by show 0 < 3; decide) _ rfl 0 rfl t n (⟨n.val, h1⟩ : Fin 512) (by show 0 + n.val = n.val; omega)).trans ?_
    rw [mulf_apply, all512_apply, cut 0 _ _ ⟨n.val, by omega⟩ (by show n.val = 0 + n.val; omega)]
    rfl
  · rw [if_neg h1]
    by_cases h2 : n.val < 3072
    · rw [if_pos h2]
      refine (InprojRows.joined _ _ 1 (by show 1 < 3; decide) _ rfl 512 rfl t n (⟨n.val - 512, by omega⟩ : Fin 2560)
        (by show 512 + (n.val - 512) = n.val; omega)).trans ?_
      exact cut 512 _ _ ⟨n.val, by omega⟩ (by show n.val = 512 + (n.val - 512); omega)
    · rw [if_neg h2]
      refine (InprojRows.joined _ _ 2 (by show 2 < 3; decide) _ rfl 3072 rfl t n (⟨n.val - 3072, by omega⟩ : Fin 2048)
        (by show 3072 + (n.val - 3072) = n.val; omega)).trans ?_
      rw [sigR_apply]
      exact congrArg _ (cut 3072 _ _ ⟨n.val, by omega⟩ (by show n.val = 3072 + (n.val - 3072); omega))

/-- The gate at an index. -/
theorem gateR_apply (h : FVec Ideal S16384x1024 .f32) (a : FVec Ideal S1x1024 .f32) (l : FVec Ideal S1024x128 .bf16)
    (g : FVec Ideal S128x512 .bf16) (b : FVec Ideal S1x512 .f32) (H : ℕ → ℕ → EReal) (A : ℕ → EReal) (L G : ℕ → ℕ → EReal)
    (B : ℕ → EReal) (hh : ∀ t k, h (ix2 t k) = H t.val k.val) (ha : ∀ k, a (ix2 (0 : Fin 1) k) = A k.val)
    (hl : ∀ k n, l (ix2 k n) = L k.val n.val) (hg : ∀ k n, g (ix2 k n) = G k.val n.val)
    (hb : ∀ n, b (ix2 (0 : Fin 1) n) = B n.val) (t : Fin 16384) (n : Fin 512) :
    gateR h a l g b (ix2 t n) = InprojRows.gate H A L G B t.val n.val := by
  unfold gateR InprojRows.gate
  rw [addf_apply]
  have eb : broadcastInDim S16384x512 ![0, 1] bcast_S1x512_S16384x512_0_1 b (ix2 t n) = b (ix2 (0 : Fin 1) n) :=
    broadcastInDim_apply _ _ _ _ (ix2 (0 : Fin 1) n) fun z => by
      match z with
      | ⟨0, _⟩ => rfl
      | ⟨1, _⟩ => rfl
  refine congrArg₂ (· + ·) ?_ (eb.trans (hb n))
  refine (dotGeneral_plain_apply none _ (extf .f32 g bitsLt_bf16_f32) t n).trans ?_
  refine Finset.sum_congr rfl fun j _ => ?_
  refine congrArg₂ (· * ·) ?_ (hg j n)
  refine (dotGeneral_plain_apply none (FfnRef.normR h a) (extf .f32 l bitsLt_bf16_f32) t j).trans ?_
  refine Finset.sum_congr rfl fun k _ => ?_
  rw [FfnRef.normR_apply h a t (H t.val) A (hh t) ha]
  exact congrArg _ (hl k j)

/-- The softplus at an index. -/
theorem softR_apply (x : FVec Ideal S16384x512 .f32) (i : S16384x512.Idx) :
    softR x i = max (x i) 0 + Ideal.log1p (Ideal.exp (-(max (x i - 0) (-(x i - 0))))) := by
  show Scalar.select (Ideal.cmp .une (x i - Ideal.ofBits .f32 0x00000000#32) (x i - Ideal.ofBits .f32 0x00000000#32))
    (x i + Ideal.ofBits .f32 0x00000000#32) (max (x i) (Ideal.ofBits .f32 0x00000000#32)
      + Ideal.log1p (Ideal.exp (-(max (x i - Ideal.ofBits .f32 0x00000000#32) (-(x i - Ideal.ofBits .f32 0x00000000#32)))))) = _
  rw [Ideal.ofBits_zero_f32]
  have e : Ideal.cmp .une (x i - 0) (x i - 0) = 0#1 := by
    unfold Ideal.cmp
    simp
  rw [e]
  rfl

/-- The second result at an index. -/
theorem decayR_apply (x : FVec Ideal S16384x512 .f32) (i : S16384x512.Idx) :
    decayR x i = InprojRows.lsK (x i) * InprojRows.sixteenth := by
  rw [← InprojRows.ls_eq, ← InprojRows.div_sixteen]
  show Ideal.div (-(softR (Host.negf x) i)) InprojRows.sixteen = _
  rw [softR_apply]
  rfl

/-- Heads at an index. -/
theorem headsR_apply (o : ℕ) (h : S16384x9728.Slices ![0, o] S16384x512) (u : FVec Ideal S16384x9728 .f32) (t : Fin 16384)
    (j : Fin 4) (l : Fin 128) (n : Fin 9728) (hn : n.val = o + (128 * j.val + l.val)) :
    headsR o h u (ix3 t j l) = u (ix2 t n) := by
  unfold headsR
  refine (shapeCast_apply _ _ (ix3 t j l) (ix2 t (⟨128 * j.val + l.val, by omega⟩ : Fin 512)) ?_).trans ?_
  · rw [Shape.rowMajor_val_two, Shape.rowMajor_val_three]
    show t.val * 512 + (128 * j.val + l.val) = (t.val * 4 + j.val) * 128 + l.val
    omega
  · refine extractStridedSlice_apply _ _ _ _ (ix2 t n) fun z => ?_
    match z with
    | ⟨0, _⟩ => show t.val = 0 + t.val; omega
    | ⟨1, _⟩ => exact hn

/-- A factor repeated over heads, at an index. -/
theorem over_apply (x : FVec Ideal S16384x16 .f32) (t : Fin 16384) (j : Fin 4) (l : Fin 16) : over x (ix3 t j l) = x (ix2 t l) := by
  unfold over
  refine (broadcastInDim_apply _ _ _ _ (ix3 t (0 : Fin 1) l) fun z => ?_).trans (broadcastInDim_apply _ _ _ _ (ix2 t l) fun z => ?_)
  · match z with
    | ⟨0, _⟩ => rfl
    | ⟨1, _⟩ => rfl
    | ⟨2, _⟩ => rfl
  · match z with
    | ⟨0, _⟩ => rfl
    | ⟨1, _⟩ => rfl

/-- Lanes from `o` on, at an index. -/
theorem lanes_apply {b : ℕ} (o : ℕ) (h : S16384x4x128.Slices ![0, 0, o] ⟨3, ![16384, 4, b]⟩) (a : FVec Ideal S16384x4x128 .f32)
    (t : Fin 16384) (j : Fin 4) (l : Fin b) (q : Fin 128) (hq : q.val = o + l.val) :
    extractStridedSlice ⟨3, ![16384, 4, b]⟩ ![0, 0, o] a h (ix3 t j l) = a (ix3 t j q) := by
  refine extractStridedSlice_apply _ _ _ _ (ix3 t j q) fun z => ?_
  match z with
  | ⟨0, _⟩ => show t.val = 0 + t.val; omega
  | ⟨1, _⟩ => show j.val = 0 + j.val; omega
  | ⟨2, _⟩ => exact hq

/-- Joined lanes, read in piece `k`. -/
theorem lanes_joined {b : ℕ} (xs : List ((s : Shape) × (s.Idx → EReal)))
    (h : Shape.Concatenates (xs.map (·.1)) S16384x4x128 (2 : Fin 3)) (k : ℕ) (hk : k < xs.length)
    (x₁ : (⟨3, ![16384, 4, b]⟩ : Shape).Idx → EReal) (hx : xs[k] = ⟨⟨3, ![16384, 4, b]⟩, x₁⟩) (pre : ℕ)
    (hpre : (((xs.take k).map (·.1)).map fun s => if h : s.rank = S16384x4x128.rank then
      s.size ((2 : Fin S16384x4x128.rank).cast h.symm) else 0).sum = pre) (t : Fin 16384) (j : Fin 4) (n : Fin 128) (l : Fin b)
    (hl : pre + l.val = n.val) : concatenate S16384x4x128 (2 : Fin 3) xs h (ix3 t j n) = x₁ (ix3 t j l) := by
  refine concatenate_apply_piece (t := S16384x4x128) (2 : Fin 3) xs h (ix3 t j n) k hk ⟨3, ![16384, 4, b]⟩ x₁ hx rfl pre hpre
    (ix3 t j l) (fun z hz => ?_) hl
  match z with
  | ⟨0, _⟩ => rfl
  | ⟨1, _⟩ => rfl
  | ⟨2, _⟩ => exact absurd rfl hz

/-- A rotated head at an index. -/
theorem ropeR_apply (co si : FVec Ideal S16384x16 .f32) (a : FVec Ideal S16384x4x128 .f32) (Y C S : ℕ → EReal) (t : Fin 16384)
    (j : Fin 4) (ha : ∀ l : Fin 128, a (ix3 t j l) = Y l.val) (hc : ∀ l : Fin 16, co (ix2 t l) = C l.val)
    (hs : ∀ l : Fin 16, si (ix2 t l) = S l.val) (l : Fin 128) : ropeR co si a (ix3 t j l) = InprojRows.rope Y C S l.val := by
  have hl := l.isLt
  have elo : ∀ i : Fin 16, lo a (ix3 t j i) = Y i.val := fun i =>
    (lanes_apply 0 _ a t j i ⟨i.val, by omega⟩ (by show i.val = 0 + i.val; omega)).trans (ha _)
  have ehi : ∀ i : Fin 16, hi a (ix3 t j i) = Y (16 + i.val) := fun i =>
    (lanes_apply 16 _ a t j i ⟨16 + i.val, by omega⟩ rfl).trans (ha _)
  unfold ropeR InprojRows.rope
  by_cases h1 : l.val < 16
  · rw [if_pos h1]
    refine (lanes_joined _ _ 0 (by show 0 < 3; decide) _ rfl 0 rfl t j l (⟨l.val, h1⟩ : Fin 16) (by show 0 + l.val = l.val; omega)).trans ?_
    rw [subf_apply, mulf_apply, mulf_apply, over_apply, over_apply, elo, ehi, hc, hs, Nat.add_comm 16]
  · rw [if_neg h1]
    by_cases h2 : l.val < 32
    · rw [if_pos h2]
      refine (lanes_joined _ _ 1 (by show 1 < 3; decide) _ rfl 16 rfl t j l (⟨l.val - 16, by omega⟩ : Fin 16)
        (by show 16 + (l.val - 16) = l.val; omega)).trans ?_
      rw [addf_apply, mulf_apply, mulf_apply, over_apply, over_apply, elo, ehi, hc, hs]
      show Y (16 + (l.val - 16)) * C (l.val - 16) + _ = _
      rw [show 16 + (l.val - 16) = l.val by omega]
    · rw [if_neg h2]
      refine (lanes_joined _ _ 2 (by show 2 < 3; decide) _ rfl 32 rfl t j l (⟨l.val - 32, by omega⟩ : Fin 96)
        (by show 32 + (l.val - 32) = l.val; omega)).trans ?_
      exact (lanes_apply 32 _ a t j _ l (by show l.val = 32 + (l.val - 32); omega)).trans (ha l)

/-- Heads beside each other, at an index. -/
theorem flatR_apply (a : FVec Ideal S16384x4x128 .f32) (t : Fin 16384) (n : Fin 512) :
    flatR a (ix2 t n) = a (ix3 t ⟨n.val / 128, by omega⟩ ⟨n.val % 128, Nat.mod_lt _ (by decide)⟩) := by
  unfold flatR
  refine shapeCast_apply _ _ _ _ ?_
  rw [Shape.rowMajor_val_two, Shape.rowMajor_val_three]
  show (t.val * 4 + n.val / 128) * 128 + n.val % 128 = t.val * 512 + n.val
  omega

/-- Queries, keys and values of a group, at an index. -/
theorem qkvR_apply (co si : FVec Ideal S16384x16 .f32) (u : FVec Ideal S16384x9728 .f32) (H : ℕ → ℕ → EReal) (A : ℕ → EReal)
    (W C S : ℕ → ℕ → EReal) (hu : ∀ t n, u (ix2 t n) = FfnRows.up H A W t.val n.val) (hc : ∀ t l, co (ix2 t l) = C t.val l.val)
    (hs : ∀ t l, si (ix2 t l) = S t.val l.val) (g : ℕ) (hg : g < 3) (o0 o1 o2 : ℕ) (h0 : S16384x9728.Slices ![0, o0] S16384x512)
    (h1 : S16384x9728.Slices ![0, o1] S16384x512) (h2 : S16384x9728.Slices ![0, o2] S16384x512)
    (e0 : o0 = 5120 + 512 * (3 * 0 + g)) (e1 : o1 = 5120 + 512 * (3 * 1 + g)) (e2 : o2 = 5120 + 512 * (3 * 2 + g))
    (t : Fin 16384) (n : Fin 1536) :
    qkvR co si (headsR o0 h0 u) (headsR o1 h1 u) (headsR o2 h2 u) (ix2 t n) = InprojRows.qkv H A W C S g t.val n.val := by
  subst e0 e1 e2
  have hn := n.isLt
  have head : ∀ (p : ℕ) (hp : p < 3) (h : S16384x9728.Slices ![0, 5120 + 512 * (3 * p + g)] S16384x512) (j : Fin 4) (l : Fin 128),
      headsR (5120 + 512 * (3 * p + g)) h u (ix3 t j l)
        = FfnRows.up H A W t.val (5120 + 512 * (3 * p + g) + (128 * j.val + l.val)) := fun p hp h j l =>
    (headsR_apply _ h u t j l ⟨5120 + 512 * (3 * p + g) + (128 * j.val + l.val), by omega⟩ rfl).trans (hu _ _)
  unfold qkvR InprojRows.qkv
  rcases (by omega : n.val / 512 = 0 ∨ n.val / 512 = 1 ∨ n.val / 512 = 2) with e | e | e
  · rw [e]
    refine (InprojRows.joined _ _ 0 (by show 0 < 3; decide) _ rfl 0 rfl t n (⟨n.val % 512, by omega⟩ : Fin 512)
      (by show 0 + n.val % 512 = n.val; omega)).trans ?_
    rw [flatR_apply, mulf_apply, ropeR_apply co si _ (fun l => FfnRows.up H A W t.val (5120 + 512 * (3 * 0 + g) + (128 * (n.val % 512 / 128) + l))) (C t.val)
      (S t.val) t _ (fun l => head 0 (by decide) _ _ l) (hc t) (hs t)]
    rfl
  · rw [e]
    refine (InprojRows.joined _ _ 1 (by show 1 < 3; decide) _ rfl 512 rfl t n (⟨n.val % 512, by omega⟩ : Fin 512)
      (by show 512 + n.val % 512 = n.val; omega)).trans ?_
    rw [flatR_apply, ropeR_apply co si _ (fun l => FfnRows.up H A W t.val (5120 + 512 * (3 * 1 + g) + (128 * (n.val % 512 / 128) + l))) (C t.val)
      (S t.val) t _ (fun l => head 1 (by decide) _ _ l) (hc t) (hs t)]
    rfl
  · rw [e]
    refine (InprojRows.joined _ _ 2 (by show 2 < 3; decide) _ rfl 1024 rfl t n (⟨n.val % 512, by omega⟩ : Fin 512)
      (by show 1024 + n.val % 512 = n.val; omega)).trans ?_
    rw [flatR_apply, head 2 (by decide)]
    rfl

/-- Rows dealt out to `d` streams, at an index. -/
theorem dealt {b d : ℕ} (x : FVec Ideal S16384x1536 .f32) (h : S16384x1536.ShapeCasts ⟨3, ![b, d, 1536]⟩)
    (h' : (⟨3, ![b, d, 1536]⟩ : Shape).Transposes [1, 0, 2] ⟨3, ![d, b, 1536]⟩) (r : Fin d) (s : Fin b) (n : Fin 1536) (t : Fin 16384)
    (ht : t.val = s.val * d + r.val) :
    truncf .bf16 (transpose ⟨3, ![d, b, 1536]⟩ [1, 0, 2] (shapeCast ⟨3, ![b, d, 1536]⟩ x h) h') bitsLt_bf16_f32 (ix3 r s n)
      = x (ix2 t n) := by
  rw [truncf_apply]
  refine (transpose_apply _ _ h' _ (ix3 s r n) fun z => ?_).trans (shapeCast_apply _ _ _ _ ?_)
  · match z with
    | ⟨0, _⟩ => rfl
    | ⟨1, _⟩ => rfl
    | ⟨2, _⟩ => rfl
  · rw [Shape.rowMajor_val_two, Shape.rowMajor_val_three]
    show t.val * 1536 + n.val = (s.val * d + r.val) * 1536 + n.val
    rw [ht]

end Cert.InprojRef

end
-- ==== Proof.InprojSame.lean ====
/- The input projection's five results: why the reference leaves what the kernel leaves, whatever the arguments. -/
module

public import proofs.«01_k».proof.Proof.InprojWhole
public import proofs.«01_k».proof.Proof.InprojRef
public import proofs.«01_k».proof.Defs
public import Idealize.ShloMosaic.Lib.Quiescent

@[expose] public section

noncomputable section

namespace Cert.InprojSame

open Cert.InprojIdeal Cert.InprojIdeal.Gen Cert.InprojWhole Idealize.ShloMosaic Idealize.SL.Sem

/-- The reference's arguments are the kernel's. -/
def Agree (m : (ℓ : Loc nD τ sig) → Buf (Elt Ideal) ℓ)
    (m' : (ℓ : Loc Cert.InprojRefIdeal.nD Cert.InprojRefIdeal.τ Cert.InprojRefIdeal.sig) → Buf (Elt Ideal) ℓ) (c : Dev nD) : Prop :=
  m' ((c.tc : Thread Cert.InprojRefIdeal.nD Cert.InprojRefIdeal.τ).loc Cert.InprojRefIdeal.main_arg0) = m ((c.tc : Thread nD τ).loc main_arg0)
  ∧ m' ((c.tc : Thread Cert.InprojRefIdeal.nD Cert.InprojRefIdeal.τ).loc Cert.InprojRefIdeal.main_arg1) = m ((c.tc : Thread nD τ).loc main_arg1)
  ∧ m' ((c.tc : Thread Cert.InprojRefIdeal.nD Cert.InprojRefIdeal.τ).loc Cert.InprojRefIdeal.main_arg2) = m ((c.tc : Thread nD τ).loc main_arg2)
  ∧ m' ((c.tc : Thread Cert.InprojRefIdeal.nD Cert.InprojRefIdeal.τ).loc Cert.InprojRefIdeal.main_arg3) = m ((c.tc : Thread nD τ).loc main_arg3)
  ∧ m' ((c.tc : Thread Cert.InprojRefIdeal.nD Cert.InprojRefIdeal.τ).loc Cert.InprojRefIdeal.main_arg4) = m ((c.tc : Thread nD τ).loc main_arg4)
  ∧ m' ((c.tc : Thread Cert.InprojRefIdeal.nD Cert.InprojRefIdeal.τ).loc Cert.InprojRefIdeal.main_arg5) = m ((c.tc : Thread nD τ).loc main_arg5)
  ∧ m' ((c.tc : Thread Cert.InprojRefIdeal.nD Cert.InprojRefIdeal.τ).loc Cert.InprojRefIdeal.main_arg6) = m ((c.tc : Thread nD τ).loc main_arg6)
  ∧ m' ((c.tc : Thread Cert.InprojRefIdeal.nD Cert.InprojRefIdeal.τ).loc Cert.InprojRefIdeal.main_arg7) = m ((c.tc : Thread nD τ).loc main_arg7)

section Results
variable (m : (ℓ : Loc nD τ sig) → Buf (Elt Ideal) ℓ)
  (m' : (ℓ : Loc Cert.InprojRefIdeal.nD Cert.InprojRefIdeal.τ Cert.InprojRefIdeal.sig) → Buf (Elt Ideal) ℓ) (c : Dev nD)
  (hm : Agree m m' c)
include hm

/-- The reference's product at an index. -/
theorem u_at (t : Fin 16384) (n : Fin 9728) :
    InprojRef.uM m' c (ValueIdx.ix2 t n) = FfnRows.up (H m c) (A m c) (W m c) t.val n.val := by
  obtain ⟨h0, h1, h2, -⟩ := hm
  unfold InprojRef.uM
  rw [h0, h1, h2]
  exact InprojRef.uR_apply _ _ _ (H m c) (A m c) (W m c) (fun t k => FfnRows.tab_in _ t k _ _ rfl rfl)
    (fun k => FfnRows.tab_in _ 0 k _ _ rfl rfl) (fun k n => FfnRows.tab_in _ k n _ _ rfl rfl) t n

/-- The reference's gate at an index. -/
theorem gate_at (t : Fin 16384) (n : Fin 512) :
    InprojRef.gateM m' c (ValueIdx.ix2 t n) = InprojRows.gate (H m c) (A m c) (L m c) (G m c) (B m c) t.val n.val := by
  obtain ⟨h0, h1, -, h3, h4, h5, -⟩ := hm
  unfold InprojRef.gateM
  rw [h0, h1, h3, h4, h5]
  exact InprojRef.gateR_apply _ _ _ _ _ (H m c) (A m c) (L m c) (G m c) (B m c) (fun t k => FfnRows.tab_in _ t k _ _ rfl rfl)
    (fun k => FfnRows.tab_in _ 0 k _ _ rfl rfl) (fun k n => FfnRows.tab_in _ k n _ _ rfl rfl)
    (fun k n => FfnRows.tab_in _ k n _ _ rfl rfl) (fun n => FfnRows.tab_in _ 0 n _ _ rfl rfl) t n

/-- The reference's cosines at an index. -/
theorem cos_at (t : Fin 16384) (l : Fin 16) :
    (m' ((c.tc : Thread Cert.InprojRefIdeal.nD Cert.InprojRefIdeal.τ).loc Cert.InprojRefIdeal.main_arg6)
      : FVec Ideal Cert.InprojRefIdeal.S16384x16 .f32) (ValueIdx.ix2 t l) = C m c t.val l.val := by
  obtain ⟨-, -, -, -, -, -, h6, -⟩ := hm
  rw [h6]
  exact FfnRows.tab_in _ t l _ _ rfl rfl

/-- The reference's sines at an index. -/
theorem sin_at (t : Fin 16384) (l : Fin 16) :
    (m' ((c.tc : Thread Cert.InprojRefIdeal.nD Cert.InprojRefIdeal.τ).loc Cert.InprojRefIdeal.main_arg7)
      : FVec Ideal Cert.InprojRefIdeal.S16384x16 .f32) (ValueIdx.ix2 t l) = S m c t.val l.val := by
  obtain ⟨-, -, -, -, -, -, -, h7⟩ := hm
  rw [h7]
  exact FfnRows.tab_in _ t l _ _ rfl rfl

/-- The reference's first group at an index. -/
theorem qkv0_at (t : Fin 16384) (n : Fin 1536) : InprojRef.qkvM m' c 0 (ValueIdx.ix2 t n) = Q m c 0 t.val n.val :=
  InprojRef.qkvR_apply _ _ _ (H m c) (A m c) (W m c) (C m c) (S m c) (u_at m m' c hm) (cos_at m m' c hm) (sin_at m m' c hm) 0 (by decide)
    5120 6656 8192 _ _ _ rfl rfl rfl t n

/-- The reference's second group at an index. -/
theorem qkv1_at (t : Fin 16384) (n : Fin 1536) : InprojRef.qkvM m' c 1 (ValueIdx.ix2 t n) = Q m c 1 t.val n.val :=
  InprojRef.qkvR_apply _ _ _ (H m c) (A m c) (W m c) (C m c) (S m c) (u_at m m' c hm) (cos_at m m' c hm) (sin_at m m' c hm) 1 (by decide)
    5632 7168 8704 _ _ _ rfl rfl rfl t n

/-- The reference's third group at an index. -/
theorem qkv2_at (t : Fin 16384) (n : Fin 1536) : InprojRef.qkvM m' c 2 (ValueIdx.ix2 t n) = Q m c 2 t.val n.val :=
  InprojRef.qkvR_apply _ _ _ (H m c) (A m c) (W m c) (C m c) (S m c) (u_at m m' c hm) (cos_at m m' c hm) (sin_at m m' c hm) 2 (by decide)
    6144 7680 9216 _ _ _ rfl rfl rfl t n

/-- The reference's first result is the kernel's. -/
theorem z_eq : InprojRef.zR (InprojRef.uM m' c) = zG m c := by
  funext i
  exact (congrArg _ (eta2 (a := 16384) (b := 5120) i)).trans (InprojRef.zR_apply _ _ (u_at m m' c hm) (i 0) (i 1))

/-- The reference's second result is the kernel's. -/
theorem la_eq : InprojRef.decayR (InprojRef.gateM m' c) = laG m c := by
  funext i
  refine (InprojRef.decayR_apply _ i).trans ?_
  have e : InprojRef.gateM m' c i = InprojRows.gate (H m c) (A m c) (L m c) (G m c) (B m c) (i 0).val (i 1).val :=
    (congrArg _ (eta2 (a := 16384) (b := 512) i)).trans (gate_at m m' c hm (i 0) (i 1))
  rw [e]
  rfl

/-- The reference's third result is the kernel's. -/
theorem g0_eq : InprojRef.str0 (InprojRef.qkvM m' c 0) = g0G m c := by
  funext i
  have h0 : (i 0).val < 1 := (i 0).isLt
  have h1 : (i 1).val < 16384 := (i 1).isLt
  exact (congrArg _ (eta3 (a := 1) (b := 16384) (d := 1536) i)).trans
    ((InprojRef.dealt (b := 16384) (d := 1) _ _ _ (i 0) (i 1) (i 2) ⟨(i 1).val, h1⟩ (by show (i 1).val = (i 1).val * 1 + (i 0).val; omega)).trans
      (qkv0_at m m' c hm ⟨(i 1).val, h1⟩ (i 2)))

/-- The reference's fourth result is the kernel's. -/
theorem g1_eq : InprojRef.str1 (InprojRef.qkvM m' c 1) = g1G m c := by
  funext i
  have h0 : (i 0).val < 4 := (i 0).isLt
  have h1 : (i 1).val < 4096 := (i 1).isLt
  exact (congrArg _ (eta3 (a := 4) (b := 4096) (d := 1536) i)).trans
    ((InprojRef.dealt (b := 4096) (d := 4) _ _ _ (i 0) (i 1) (i 2) ⟨4 * (i 1).val + (i 0).val, by omega⟩
      (by show 4 * (i 1).val + (i 0).val = (i 1).val * 4 + (i 0).val; omega)).trans
      (qkv1_at m m' c hm ⟨4 * (i 1).val + (i 0).val, by omega⟩ (i 2)))

/-- The reference's fifth result is the kernel's. -/
theorem g2_eq : InprojRef.str2 (InprojRef.qkvM m' c 2) = g2G m c := by
  funext i
  have h0 : (i 0).val < 16 := (i 0).isLt
  have h1 : (i 1).val < 1024 := (i 1).isLt
  exact (congrArg _ (eta3 (a := 16) (b := 1024) (d := 1536) i)).trans
    ((InprojRef.dealt (b := 1024) (d := 16) _ _ _ (i 0) (i 1) (i 2) ⟨16 * (i 1).val + (i 0).val, by omega⟩
      (by show 16 * (i 1).val + (i 0).val = (i 1).val * 16 + (i 0).val; omega)).trans
      (qkv2_at m m' c hm ⟨16 * (i 1).val + (i 0).val, by omega⟩ (i 2)))

end Results

/-- Over the extended reals the input projection's kernel and its reference leave the same five arrays. -/
theorem same : Cert.algebraic_InprojIdeal_InprojRefIdeal (hInprojIdeal := Cert.InprojIdeal.Gen.facts)
    (hInprojRefIdeal := Cert.InprojRefIdeal.Gen.facts) := fun m g m' g' _ hm =>
  ⟨fun c => zG m c, fun c => laG m c, fun c => g0G m c, fun c => g1G m c, fun c => g2G m c,
    (θ_run Cert.InprojIdeal.defs _ _).mono
      (fun _ h c => ⟨((h.1 c).1 8).trans (final_8 m c), ((h.1 c).1 9).trans (final_9 m c), ((h.1 c).1 10).trans (final_10 m c),
        ((h.1 c).1 11).trans (final_11 m c), ((h.1 c).1 12).trans (final_12 m c), h.2 c⟩)
      (θ_run_and (run_main m g) (unchanged m g)),
    (θ_run Cert.InprojRefIdeal.defs _ _).mono
      (fun _ h c => ⟨(h c).1.trans (z_eq m m' c (hm c)), (h c).2.1.trans (la_eq m m' c (hm c)), (h c).2.2.1.trans (g0_eq m m' c (hm c)),
        (h c).2.2.2.1.trans (g1_eq m m' c (hm c)), (h c).2.2.2.2.1.trans (g2_eq m m' c (hm c)), (h c).2.2.2.2.2⟩)
      (InprojRef.run m' g')⟩

/-- The reference runs, leaves its arguments unchanged and has no semaphores. -/
theorem ref_frame : Cert.quiescent_InprojRefIdeal (hInprojRefIdeal := Cert.InprojRefIdeal.Gen.facts) := fun m g _ =>
  (θ_run Cert.InprojRefIdeal.defs _ _).mono (fun r h => ⟨fun c => (h c).2.2.2.2.2, sem_eq_zero_of_no_sems (by decide) r.2⟩)
    (InprojRef.run m g)

end Cert.InprojSame

end
-- ==== Proof.lean ====
/- The claims of `Cert.Claim`, for the dilated attention, the feed-forward and the input projection: the programs run and leave their
   arguments unchanged with every semaphore at zero, the first two kernels over the extended reals replace one constant each and the
   third nothing, and each leaves what its reference leaves, the first two with finite inputs. -/
module

public import proofs.«01_k».proof.Defs
public import proofs.«01_k».proof.Proof.Gen.Dil16
public import proofs.«01_k».proof.Proof.Gen.Dil16.Skeleton
public import proofs.«01_k».proof.Proof.Gen.Dil16.Launch
public import proofs.«01_k».proof.Proof.Gen.Dil16.Points
public import proofs.«01_k».proof.Proof.Gen.Dil16.Frame
public import proofs.«01_k».proof.Proof.Gen.Dil16Ideal
public import proofs.«01_k».proof.Proof.Gen.Dil16Ideal.Skeleton
public import proofs.«01_k».proof.Proof.Gen.Dil16Ideal.Launch
public import proofs.«01_k».proof.Proof.Gen.Dil16Ideal.Points
public import proofs.«01_k».proof.Proof.Gen.Dil16Ideal.Frame
public import proofs.«01_k».proof.Proof.Gen.Dil16RefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Pre_finite_qk
public import proofs.«01_k».proof.Proof.Gen.Pre_finite_in
public import proofs.«01_k».proof.Proof.Gen.Dil16Ideal.Value
public import proofs.«01_k».proof.Proof.Gen.Dil16RefIdeal.Run
public import proofs.«01_k».proof.Proof.Gen.FfnRefIdeal.Run
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.InprojRefIdeal.Run
public import proofs.«01_k».proof.Proof.Whole
public import proofs.«01_k».proof.Proof.FfnSame
public import proofs.«01_k».proof.Proof.InprojSame
public import Idealize.ShloMosaic.Lib.Quiescent
public import Idealize.ShloMosaic.Adequacy
public import Idealize.ShloMosaic.Init

@[expose] public section

noncomputable section

namespace Cert.Proof

open Idealize.ShloMosaic Idealize.SL.Sem Cert.Dil16

/-- Over the extended reals the kernel and the reference leave the same two arrays. -/
theorem same : Cert.algebraic_Dil16Ideal_Dil16RefIdeal_pre_finite_qk := fun m g m' g' hpre hm =>
  ⟨fun c => Whole.outG (Whole.arg m c), fun c => Whole.lseG (Whole.arg m c),
    (θ_run Cert.Dil16Ideal.defs _ _).mono
      (fun _ h c => ⟨(h c).1.trans (Whole.final_out m c), (h c).2.1.trans (Whole.final_lse m c), (h c).2.2⟩)
      (Cert.Dil16Ideal.Value.run_blocks m g),
    (θ_run Cert.Dil16RefIdeal.defs _ _).mono
      (fun _ h c => ⟨(h c).1.trans ((RefRow.res0_eq m' c).trans ((congrArg RefRow.outs (hm c)).trans (Whole.outs_eq _ (hpre c)))),
        (h c).2.1.trans ((RefRow.res1_eq m' c).trans ((congrArg RefRow.lses (hm c)).trans (Whole.lses_eq _ (hpre c)))), (h c).2.2⟩)
      (Cert.Dil16RefIdeal.Value.run m' g')⟩

/-- The reference runs, leaves its argument unchanged and has no semaphores. -/
theorem ref_frame (m : (ℓ : Loc Cert.Dil16RefIdeal.nD Cert.Dil16RefIdeal.τ Cert.Dil16RefIdeal.sig) → Buf (Elt Ideal) ℓ)
    (g : Dev Cert.Dil16RefIdeal.nD → PrngReg) :
    θ_run (Cert.Dil16RefIdeal.defs (F := Ideal)) (onTc (τ := Cert.Dil16RefIdeal.τ) (Cert.Dil16RefIdeal.main (F := Ideal)))
      ⟨m, fun _ => 0, g⟩ (fun r => (∀ c : Dev Cert.Dil16RefIdeal.nD,
        r.2.mem ((c.tc : Thread Cert.Dil16RefIdeal.nD Cert.Dil16RefIdeal.τ).loc Cert.Dil16RefIdeal.main_arg0)
          = m ((c.tc : Thread Cert.Dil16RefIdeal.nD Cert.Dil16RefIdeal.τ).loc Cert.Dil16RefIdeal.main_arg0))
      ∧ r.2.sem = fun _ => 0) :=
  (θ_run Cert.Dil16RefIdeal.defs _ _).mono (fun r h => ⟨fun c => (h c).2.2, sem_eq_zero_of_no_sems (by decide) r.2⟩)
    (Cert.Dil16RefIdeal.Value.run m g)

/-- Everything claimed. -/
theorem claim : Cert.Claim :=
  ⟨Cert.Dil16.Gen.facts, Cert.Dil16Ideal.Gen.facts, Cert.Dil16RefIdeal.Gen.facts, Cert.Ffn.Gen.facts, Cert.FfnIdeal.Gen.facts,
    Cert.FfnRefIdeal.Gen.facts, Cert.Inproj.Gen.facts, Cert.InprojIdeal.Gen.facts, Cert.InprojRefIdeal.Gen.facts,
    Cert.Pre_finite_qk.Gen.facts, Cert.Pre_finite_in.Gen.facts,
    fun m g _ => Cert.Dil16.Gen.frame m g,
    fun m g _ => Cert.Dil16Ideal.Gen.frame m g,
    fun m g _ => Cert.Dil16Ideal.Gen.frame m g,
    fun m g _ => ref_frame m g,
    fun m g _ => ref_frame m g,
    fun m g _ => Cert.Ffn.Gen.frame m g,
    fun m g _ => Cert.FfnIdeal.Gen.frame m g,
    fun m g _ => Cert.FfnIdeal.Gen.frame m g,
    FfnSame.ref_frame,
    fun m g _ => FfnSame.ref_frame m g trivial,
    fun m g _ => Cert.Inproj.Gen.frame m g,
    fun m g _ => Cert.InprojIdeal.Gen.frame m g,
    InprojSame.ref_frame,
    IdealRules.named_const.statement Cert.Dil16Ideal.κ "mask" .f32 0xF149F2CA#32 ⊥ rfl,
    same,
    IdealRules.named_const.statement Cert.FfnIdeal.κ "cubic" .f32 0x3D122279#32
      ((80338380498831 / 2251799813685248 : ℝ) : EReal) rfl,
    FfnSame.same,
    trivial,
    InprojSame.same⟩

end Cert.Proof

end
